-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruIdeal_decays [hPre_decays : Cert.Pre_decays.Facts] (m : (ℓ : Loc Cert.LruIdeal.nD Cert.LruIdeal.τ Cert.LruIdeal.sig) → Buf (Elt Ideal) ℓ) : Prop :=
  ∀ c : Dev Cert.LruIdeal.nD,
    (Cert.Pre_decays.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3))).1 = (fun _ => 1#1)
    ∧ (Cert.Pre_decays.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3))).2 = (fun _ => 1#1)

def Pre_LruRefIdeal (m : (ℓ : Loc Cert.LruRefIdeal.nD Cert.LruRefIdeal.τ Cert.LruRefIdeal.sig) → Buf (Elt Ideal) ℓ) : Prop :=
  True

def Pre_LruRefIdeal_decays [hPre_decays : Cert.Pre_decays.Facts] (m : (ℓ : Loc Cert.LruRefIdeal.nD Cert.LruRefIdeal.τ Cert.LruRefIdeal.sig) → Buf (Elt Ideal) ℓ) : Prop :=
  ∀ c : Dev Cert.LruRefIdeal.nD,
    (Cert.Pre_decays.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3))).1 = (fun _ => 1#1)
    ∧ (Cert.Pre_decays.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ProjEven (m : (ℓ : Loc Cert.ProjEven.nD Cert.ProjEven.τ Cert.ProjEven.sig) → Buf (Elt Bits) ℓ) : Prop :=
  True

def Pre_ProjEvenIdeal (m : (ℓ : Loc Cert.ProjEvenIdeal.nD Cert.ProjEvenIdeal.τ Cert.ProjEvenIdeal.sig) → Buf (Elt Ideal) ℓ) : Prop :=
  True

def Pre_ProjEvenRefIdeal (m : (ℓ : Loc Cert.ProjEvenRefIdeal.nD Cert.ProjEvenRefIdeal.τ Cert.ProjEvenRefIdeal.sig) → Buf (Elt Ideal) ℓ) : Prop :=
  True

def Pre_ProjOdd (m : (ℓ : Loc Cert.ProjOdd.nD Cert.ProjOdd.τ Cert.ProjOdd.sig) → Buf (Elt Bits) ℓ) : Prop :=
  True

def Pre_ProjOddIdeal (m : (ℓ : Loc Cert.ProjOddIdeal.nD Cert.ProjOddIdeal.τ Cert.ProjOddIdeal.sig) → Buf (Elt Ideal) ℓ) : Prop :=
  True

def Pre_ProjOddRefIdeal (m : (ℓ : Loc Cert.ProjOddRefIdeal.nD Cert.ProjOddRefIdeal.τ Cert.ProjOddRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_SFive (m : (ℓ : Loc Cert.SFive.nD Cert.SFive.τ Cert.SFive.sig) → Buf (Elt Bits) ℓ) : Prop :=
  True

def Pre_SFiveIdeal (m : (ℓ : Loc Cert.SFiveIdeal.nD Cert.SFiveIdeal.τ Cert.SFiveIdeal.sig) → Buf (Elt Ideal) ℓ) : Prop :=
  True

def Pre_SFiveRefIdeal (m : (ℓ : Loc Cert.SFiveRefIdeal.nD Cert.SFiveRefIdeal.τ Cert.SFiveRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_HyConv (m : (ℓ : Loc Cert.HyConv.nD Cert.HyConv.τ Cert.HyConv.sig) → Buf (Elt Bits) ℓ) : Prop :=
  True

def Pre_HyConvIdeal (m : (ℓ : Loc Cert.HyConvIdeal.nD Cert.HyConvIdeal.τ Cert.HyConvIdeal.sig) → Buf (Elt Ideal) ℓ) : Prop :=
  True

def Pre_HyConvRefIdeal (m : (ℓ : Loc Cert.HyConvRefIdeal.nD Cert.HyConvRefIdeal.τ Cert.HyConvRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3))
      ∧ r.2.sem = fun _ => 0)

def quiescent_LruIdeal_pre_decays [hLruIdeal : Cert.LruIdeal.Facts] [hPre_decays : Cert.Pre_decays.Facts] : Prop :=
  ∀ (m : (ℓ : Loc Cert.LruIdeal.nD Cert.LruIdeal.τ Cert.LruIdeal.sig) → Buf (Elt Ideal) ℓ) (g : Dev Cert.LruIdeal.nD → PrngReg), Pre_LruIdeal_decays m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3))
      ∧ r.2.sem = fun _ => 0)

def quiescent_LruRefIdeal_pre_decays [hLruRefIdeal : Cert.LruRefIdeal.Facts] [hPre_decays : Cert.Pre_decays.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal_decays m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_ProjEven [hProjEven : Cert.ProjEven.Facts] : Prop :=
  ∀ (m : (ℓ : Loc Cert.ProjEven.nD Cert.ProjEven.τ Cert.ProjEven.sig) → Buf (Elt Bits) ℓ) (g : Dev Cert.ProjEven.nD → PrngReg), Pre_ProjEven m →
    θ_run (Cert.ProjEven.defs (F := Bits)) (onTc (τ := Cert.ProjEven.τ) (Cert.ProjEven.main (F := Bits))) ⟨m, fun _ => 0, g⟩ (fun r => (∀ c : Dev Cert.ProjEven.nD,
      r.2.mem ((c.tc : Thread Cert.ProjEven.nD Cert.ProjEven.τ).loc Cert.ProjEven.main_arg0) = m ((c.tc : Thread Cert.ProjEven.nD Cert.ProjEven.τ).loc Cert.ProjEven.main_arg0)
      ∧ r.2.mem ((c.tc : Thread Cert.ProjEven.nD Cert.ProjEven.τ).loc Cert.ProjEven.main_arg1) = m ((c.tc : Thread Cert.ProjEven.nD Cert.ProjEven.τ).loc Cert.ProjEven.main_arg1)
      ∧ r.2.mem ((c.tc : Thread Cert.ProjEven.nD Cert.ProjEven.τ).loc Cert.ProjEven.main_arg2) = m ((c.tc : Thread Cert.ProjEven.nD Cert.ProjEven.τ).loc Cert.ProjEven.main_arg2))
      ∧ r.2.sem = fun _ => 0)

def quiescent_ProjEvenIdeal [hProjEvenIdeal : Cert.ProjEvenIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg), Pre_ProjEvenIdeal m →
    θ_run (Cert.ProjEvenIdeal.defs (F := Ideal)) (onTc (τ := Cert.ProjEvenIdeal.τ) (Cert.ProjEvenIdeal.main (F := Ideal))) ⟨m, fun _ => 0, g⟩ (fun r => (∀ c : Dev Cert.ProjEvenIdeal.nD,
      r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
      ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
      ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2))
      ∧ r.2.sem = fun _ => 0)

def quiescent_ProjEvenRefIdeal [hProjEvenRefIdeal : Cert.ProjEvenRefIdeal.Facts] : Prop :=
  ∀ (m : (ℓ : Loc Cert.ProjEvenRefIdeal.nD Cert.ProjEvenRefIdeal.τ Cert.ProjEvenRefIdeal.sig) → Buf (Elt Ideal) ℓ) (g : Dev Cert.ProjEvenRefIdeal.nD → PrngReg), Pre_ProjEvenRefIdeal m →
    θ_run (Cert.ProjEvenRefIdeal.defs (F := Ideal)) (onTc (τ := Cert.ProjEvenRefIdeal.τ) (Cert.ProjEvenRefIdeal.main (F := Ideal))) ⟨m, fun _ => 0, g⟩ (fun r => (∀ c : Dev Cert.ProjEvenRefIdeal.nD,
      r.2.mem ((c.tc : Thread Cert.ProjEvenRefIdeal.nD Cert.ProjEvenRefIdeal.τ).loc Cert.ProjEvenRefIdeal.main_arg0) = m ((c.tc : Thread Cert.ProjEvenRefIdeal.nD Cert.ProjEvenRefIdeal.τ).loc Cert.ProjEvenRefIdeal.main_arg0)
      ∧ r.2.mem ((c.tc : Thread Cert.ProjEvenRefIdeal.nD Cert.ProjEvenRefIdeal.τ).loc Cert.ProjEvenRefIdeal.main_arg1) = m ((c.tc : Thread Cert.ProjEvenRefIdeal.nD Cert.ProjEvenRefIdeal.τ).loc Cert.ProjEvenRefIdeal.main_arg1)
      ∧ r.2.mem ((c.tc : Thread Cert.ProjEvenRefIdeal.nD Cert.ProjEvenRefIdeal.τ).loc Cert.ProjEvenRefIdeal.main_arg2) = m ((c.tc : Thread Cert.ProjEvenRefIdeal.nD Cert.ProjEvenRefIdeal.τ).loc Cert.ProjEvenRefIdeal.main_arg2))
      ∧ r.2.sem = fun _ => 0)

def quiescent_ProjOdd [hProjOdd : Cert.ProjOdd.Facts] : Prop :=
  ∀ (m : (ℓ : Loc Cert.ProjOdd.nD Cert.ProjOdd.τ Cert.ProjOdd.sig) → Buf (Elt Bits) ℓ) (g : Dev Cert.ProjOdd.nD → PrngReg), Pre_ProjOdd m →
    θ_run (Cert.ProjOdd.defs (F := Bits)) (onTc (τ := Cert.ProjOdd.τ) (Cert.ProjOdd.main (F := Bits))) ⟨m, fun _ => 0, g⟩ (fun r => (∀ c : Dev Cert.ProjOdd.nD,
      r.2.mem ((c.tc : Thread Cert.ProjOdd.nD Cert.ProjOdd.τ).loc Cert.ProjOdd.main_arg0) = m ((c.tc : Thread Cert.ProjOdd.nD Cert.ProjOdd.τ).loc Cert.ProjOdd.main_arg0)
      ∧ r.2.mem ((c.tc : Thread Cert.ProjOdd.nD Cert.ProjOdd.τ).loc Cert.ProjOdd.main_arg1) = m ((c.tc : Thread Cert.ProjOdd.nD Cert.ProjOdd.τ).loc Cert.ProjOdd.main_arg1)
      ∧ r.2.mem ((c.tc : Thread Cert.ProjOdd.nD Cert.ProjOdd.τ).loc Cert.ProjOdd.main_arg2) = m ((c.tc : Thread Cert.ProjOdd.nD Cert.ProjOdd.τ).loc Cert.ProjOdd.main_arg2))
      ∧ r.2.sem = fun _ => 0)

def quiescent_ProjOddIdeal [hProjOddIdeal : Cert.ProjOddIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg), Pre_ProjOddIdeal m →
    θ_run (Cert.ProjOddIdeal.defs (F := Ideal)) (onTc (τ := Cert.ProjOddIdeal.τ) (Cert.ProjOddIdeal.main (F := Ideal))) ⟨m, fun _ => 0, g⟩ (fun r => (∀ c : Dev Cert.ProjOddIdeal.nD,
      r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
      ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1)
      ∧ r.2.mem ((c.tc : Thread Cert.ProjOddIdeal.nD Cert.ProjOddIdeal.τ).loc Cert.ProjOddIdeal.main_arg2) = m ((c.tc : Thread Cert.ProjOddIdeal.nD Cert.ProjOddIdeal.τ).loc Cert.ProjOddIdeal.main_arg2))
      ∧ r.2.sem = fun _ => 0)

def quiescent_ProjOddRefIdeal [hProjOddRefIdeal : Cert.ProjOddRefIdeal.Facts] : Prop :=
  ∀ (m : (ℓ : Loc Cert.ProjOddRefIdeal.nD Cert.ProjOddRefIdeal.τ Cert.ProjOddRefIdeal.sig) → Buf (Elt Ideal) ℓ) (g : Dev Cert.ProjOddRefIdeal.nD → PrngReg), Pre_ProjOddRefIdeal m →
    θ_run (Cert.ProjOddRefIdeal.defs (F := Ideal)) (onTc (τ := Cert.ProjOddRefIdeal.τ) (Cert.ProjOddRefIdeal.main (F := Ideal))) ⟨m, fun _ => 0, g⟩ (fun r => (∀ c : Dev Cert.ProjOddRefIdeal.nD,
      r.2.mem ((c.tc : Thread Cert.ProjOddRefIdeal.nD Cert.ProjOddRefIdeal.τ).loc Cert.ProjOddRefIdeal.main_arg0) = m ((c.tc : Thread Cert.ProjOddRefIdeal.nD Cert.ProjOddRefIdeal.τ).loc Cert.ProjOddRefIdeal.main_arg0)
      ∧ r.2.mem ((c.tc : Thread Cert.ProjOddRefIdeal.nD Cert.ProjOddRefIdeal.τ).loc Cert.ProjOddRefIdeal.main_arg1) = m ((c.tc : Thread Cert.ProjOddRefIdeal.nD Cert.ProjOddRefIdeal.τ).loc Cert.ProjOddRefIdeal.main_arg1)
      ∧ r.2.mem ((c.tc : Thread Cert.ProjOddRefIdeal.nD Cert.ProjOddRefIdeal.τ).loc Cert.ProjOddRefIdeal.main_arg2) = m ((c.tc : Thread Cert.ProjOddRefIdeal.nD Cert.ProjOddRefIdeal.τ).loc Cert.ProjOddRefIdeal.main_arg2))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4)
      ∧ r.2.mem ((c.tc : Thread Cert.OutOdd.nD Cert.OutOdd.τ).loc Cert.OutOdd.main_arg5) = m ((c.tc : Thread Cert.OutOdd.nD Cert.OutOdd.τ).loc Cert.OutOdd.main_arg5))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
      ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3)
      ∧ r.2.mem ((c.tc : Thread Cert.OutOddRefIdeal.nD Cert.OutOddRefIdeal.τ).loc Cert.OutOddRefIdeal.main_arg4) = m ((c.tc : Thread Cert.OutOddRefIdeal.nD Cert.OutOddRefIdeal.τ).loc Cert.OutOddRefIdeal.main_arg4)
      ∧ r.2.mem ((c.tc : Thread Cert.OutOddRefIdeal.nD Cert.OutOddRefIdeal.τ).loc Cert.OutOddRefIdeal.main_arg5) = m ((c.tc : Thread Cert.OutOddRefIdeal.nD Cert.OutOddRefIdeal.τ).loc Cert.OutOddRefIdeal.main_arg5))
      ∧ r.2.sem = fun _ => 0)

def quiescent_SFive [hSFive : Cert.SFive.Facts] : Prop :=
  ∀ (m : (ℓ : Loc Cert.SFive.nD Cert.SFive.τ Cert.SFive.sig) → Buf (Elt Bits) ℓ) (g : Dev Cert.SFive.nD → PrngReg), Pre_SFive m →
    θ_run (Cert.SFive.defs (F := Bits)) (onTc (τ := Cert.SFive.τ) (Cert.SFive.main (F := Bits))) ⟨m, fun _ => 0, g⟩ (fun r => (∀ c : Dev Cert.SFive.nD,
      r.2.mem ((c.tc : Thread Cert.SFive.nD Cert.SFive.τ).loc Cert.SFive.main_arg0) = m ((c.tc : Thread Cert.SFive.nD Cert.SFive.τ).loc Cert.SFive.main_arg0)
      ∧ r.2.mem ((c.tc : Thread Cert.SFive.nD Cert.SFive.τ).loc Cert.SFive.main_arg1) = m ((c.tc : Thread Cert.SFive.nD Cert.SFive.τ).loc Cert.SFive.main_arg1)
      ∧ r.2.mem ((c.tc : Thread Cert.SFive.nD Cert.SFive.τ).loc Cert.SFive.main_arg2) = m ((c.tc : Thread Cert.SFive.nD Cert.SFive.τ).loc Cert.SFive.main_arg2)
      ∧ r.2.mem ((c.tc : Thread Cert.SFive.nD Cert.SFive.τ).loc Cert.SFive.main_arg3) = m ((c.tc : Thread Cert.SFive.nD Cert.SFive.τ).loc Cert.SFive.main_arg3)
      ∧ r.2.mem ((c.tc : Thread Cert.SFive.nD Cert.SFive.τ).loc Cert.SFive.main_arg4) = m ((c.tc : Thread Cert.SFive.nD Cert.SFive.τ).loc Cert.SFive.main_arg4)
      ∧ r.2.mem ((c.tc : Thread Cert.SFive.nD Cert.SFive.τ).loc Cert.SFive.main_arg5) = m ((c.tc : Thread Cert.SFive.nD Cert.SFive.τ).loc Cert.SFive.main_arg5))
      ∧ r.2.sem = fun _ => 0)

def quiescent_SFiveIdeal [hSFiveIdeal : Cert.SFiveIdeal.Facts] : Prop :=
  ∀ (m : (ℓ : Loc Cert.SFiveIdeal.nD Cert.SFiveIdeal.τ Cert.SFiveIdeal.sig) → Buf (Elt Ideal) ℓ) (g : Dev Cert.SFiveIdeal.nD → PrngReg), Pre_SFiveIdeal m →
    θ_run (Cert.SFiveIdeal.defs (F := Ideal)) (onTc (τ := Cert.SFiveIdeal.τ) (Cert.SFiveIdeal.main (F := Ideal))) ⟨m, fun _ => 0, g⟩ (fun r => (∀ c : Dev Cert.SFiveIdeal.nD,
      r.2.mem ((c.tc : Thread Cert.SFiveIdeal.nD Cert.SFiveIdeal.τ).loc Cert.SFiveIdeal.main_arg0) = m ((c.tc : Thread Cert.SFiveIdeal.nD Cert.SFiveIdeal.τ).loc Cert.SFiveIdeal.main_arg0)
      ∧ r.2.mem ((c.tc : Thread Cert.SFiveIdeal.nD Cert.SFiveIdeal.τ).loc Cert.SFiveIdeal.main_arg1) = m ((c.tc : Thread Cert.SFiveIdeal.nD Cert.SFiveIdeal.τ).loc Cert.SFiveIdeal.main_arg1)
      ∧ r.2.mem ((c.tc : Thread Cert.SFiveIdeal.nD Cert.SFiveIdeal.τ).loc Cert.SFiveIdeal.main_arg2) = m ((c.tc : Thread Cert.SFiveIdeal.nD Cert.SFiveIdeal.τ).loc Cert.SFiveIdeal.main_arg2)
      ∧ r.2.mem ((c.tc : Thread Cert.SFiveIdeal.nD Cert.SFiveIdeal.τ).loc Cert.SFiveIdeal.main_arg3) = m ((c.tc : Thread Cert.SFiveIdeal.nD Cert.SFiveIdeal.τ).loc Cert.SFiveIdeal.main_arg3)
      ∧ r.2.mem ((c.tc : Thread Cert.SFiveIdeal.nD Cert.SFiveIdeal.τ).loc Cert.SFiveIdeal.main_arg4) = m ((c.tc : Thread Cert.SFiveIdeal.nD Cert.SFiveIdeal.τ).loc Cert.SFiveIdeal.main_arg4)
      ∧ r.2.mem ((c.tc : Thread Cert.SFiveIdeal.nD Cert.SFiveIdeal.τ).loc Cert.SFiveIdeal.main_arg5) = m ((c.tc : Thread Cert.SFiveIdeal.nD Cert.SFiveIdeal.τ).loc Cert.SFiveIdeal.main_arg5))
      ∧ r.2.sem = fun _ => 0)

def quiescent_SFiveRefIdeal [hSFiveRefIdeal : Cert.SFiveRefIdeal.Facts] : Prop :=
  ∀ (m : (ℓ : Loc Cert.SFiveRefIdeal.nD Cert.SFiveRefIdeal.τ Cert.SFiveRefIdeal.sig) → Buf (Elt Ideal) ℓ) (g : Dev Cert.SFiveRefIdeal.nD → PrngReg), Pre_SFiveRefIdeal m →
    θ_run (Cert.SFiveRefIdeal.defs (F := Ideal)) (onTc (τ := Cert.SFiveRefIdeal.τ) (Cert.SFiveRefIdeal.main (F := Ideal))) ⟨m, fun _ => 0, g⟩ (fun r => (∀ c : Dev Cert.SFiveRefIdeal.nD,
      r.2.mem ((c.tc : Thread Cert.SFiveRefIdeal.nD Cert.SFiveRefIdeal.τ).loc Cert.SFiveRefIdeal.main_arg0) = m ((c.tc : Thread Cert.SFiveRefIdeal.nD Cert.SFiveRefIdeal.τ).loc Cert.SFiveRefIdeal.main_arg0)
      ∧ r.2.mem ((c.tc : Thread Cert.SFiveRefIdeal.nD Cert.SFiveRefIdeal.τ).loc Cert.SFiveRefIdeal.main_arg1) = m ((c.tc : Thread Cert.SFiveRefIdeal.nD Cert.SFiveRefIdeal.τ).loc Cert.SFiveRefIdeal.main_arg1)
      ∧ r.2.mem ((c.tc : Thread Cert.SFiveRefIdeal.nD Cert.SFiveRefIdeal.τ).loc Cert.SFiveRefIdeal.main_arg2) = m ((c.tc : Thread Cert.SFiveRefIdeal.nD Cert.SFiveRefIdeal.τ).loc Cert.SFiveRefIdeal.main_arg2)
      ∧ r.2.mem ((c.tc : Thread Cert.SFiveRefIdeal.nD Cert.SFiveRefIdeal.τ).loc Cert.SFiveRefIdeal.main_arg3) = m ((c.tc : Thread Cert.SFiveRefIdeal.nD Cert.SFiveRefIdeal.τ).loc Cert.SFiveRefIdeal.main_arg3)
      ∧ r.2.mem ((c.tc : Thread Cert.SFiveRefIdeal.nD Cert.SFiveRefIdeal.τ).loc Cert.SFiveRefIdeal.main_arg4) = m ((c.tc : Thread Cert.SFiveRefIdeal.nD Cert.SFiveRefIdeal.τ).loc Cert.SFiveRefIdeal.main_arg4)
      ∧ r.2.mem ((c.tc : Thread Cert.SFiveRefIdeal.nD Cert.SFiveRefIdeal.τ).loc Cert.SFiveRefIdeal.main_arg5) = m ((c.tc : Thread Cert.SFiveRefIdeal.nD Cert.SFiveRefIdeal.τ).loc Cert.SFiveRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_HyConv [hHyConv : Cert.HyConv.Facts] : Prop :=
  ∀ (m : (ℓ : Loc Cert.HyConv.nD Cert.HyConv.τ Cert.HyConv.sig) → Buf (Elt Bits) ℓ) (g : Dev Cert.HyConv.nD → PrngReg), Pre_HyConv m →
    θ_run (Cert.HyConv.defs (F := Bits)) (onTc (τ := Cert.HyConv.τ) (Cert.HyConv.main (F := Bits))) ⟨m, fun _ => 0, g⟩ (fun r => (∀ c : Dev Cert.HyConv.nD,
      r.2.mem ((c.tc : Thread Cert.HyConv.nD Cert.HyConv.τ).loc Cert.HyConv.main_arg0) = m ((c.tc : Thread Cert.HyConv.nD Cert.HyConv.τ).loc Cert.HyConv.main_arg0)
      ∧ r.2.mem ((c.tc : Thread Cert.HyConv.nD Cert.HyConv.τ).loc Cert.HyConv.main_arg1) = m ((c.tc : Thread Cert.HyConv.nD Cert.HyConv.τ).loc Cert.HyConv.main_arg1)
      ∧ r.2.mem ((c.tc : Thread Cert.HyConv.nD Cert.HyConv.τ).loc Cert.HyConv.main_arg2) = m ((c.tc : Thread Cert.HyConv.nD Cert.HyConv.τ).loc Cert.HyConv.main_arg2))
      ∧ r.2.sem = fun _ => 0)

def quiescent_HyConvIdeal [hHyConvIdeal : Cert.HyConvIdeal.Facts] : Prop :=
  ∀ (m : (ℓ : Loc Cert.HyConvIdeal.nD Cert.HyConvIdeal.τ Cert.HyConvIdeal.sig) → Buf (Elt Ideal) ℓ) (g : Dev Cert.HyConvIdeal.nD → PrngReg), Pre_HyConvIdeal m →
    θ_run (Cert.HyConvIdeal.defs (F := Ideal)) (onTc (τ := Cert.HyConvIdeal.τ) (Cert.HyConvIdeal.main (F := Ideal))) ⟨m, fun _ => 0, g⟩ (fun r => (∀ c : Dev Cert.HyConvIdeal.nD,
      r.2.mem ((c.tc : Thread Cert.HyConvIdeal.nD Cert.HyConvIdeal.τ).loc Cert.HyConvIdeal.main_arg0) = m ((c.tc : Thread Cert.HyConvIdeal.nD Cert.HyConvIdeal.τ).loc Cert.HyConvIdeal.main_arg0)
      ∧ r.2.mem ((c.tc : Thread Cert.HyConvIdeal.nD Cert.HyConvIdeal.τ).loc Cert.HyConvIdeal.main_arg1) = m ((c.tc : Thread Cert.HyConvIdeal.nD Cert.HyConvIdeal.τ).loc Cert.HyConvIdeal.main_arg1)
      ∧ r.2.mem ((c.tc : Thread Cert.HyConvIdeal.nD Cert.HyConvIdeal.τ).loc Cert.HyConvIdeal.main_arg2) = m ((c.tc : Thread Cert.HyConvIdeal.nD Cert.HyConvIdeal.τ).loc Cert.HyConvIdeal.main_arg2))
      ∧ r.2.sem = fun _ => 0)

def quiescent_HyConvRefIdeal [hHyConvRefIdeal : Cert.HyConvRefIdeal.Facts] : Prop :=
  ∀ (m : (ℓ : Loc Cert.HyConvRefIdeal.nD Cert.HyConvRefIdeal.τ Cert.HyConvRefIdeal.sig) → Buf (Elt Ideal) ℓ) (g : Dev Cert.HyConvRefIdeal.nD → PrngReg), Pre_HyConvRefIdeal m →
    θ_run (Cert.HyConvRefIdeal.defs (F := Ideal)) (onTc (τ := Cert.HyConvRefIdeal.τ) (Cert.HyConvRefIdeal.main (F := Ideal))) ⟨m, fun _ => 0, g⟩ (fun r => (∀ c : Dev Cert.HyConvRefIdeal.nD,
      r.2.mem ((c.tc : Thread Cert.HyConvRefIdeal.nD Cert.HyConvRefIdeal.τ).loc Cert.HyConvRefIdeal.main_arg0) = m ((c.tc : Thread Cert.HyConvRefIdeal.nD Cert.HyConvRefIdeal.τ).loc Cert.HyConvRefIdeal.main_arg0)
      ∧ r.2.mem ((c.tc : Thread Cert.HyConvRefIdeal.nD Cert.HyConvRefIdeal.τ).loc Cert.HyConvRefIdeal.main_arg1) = m ((c.tc : Thread Cert.HyConvRefIdeal.nD Cert.HyConvRefIdeal.τ).loc Cert.HyConvRefIdeal.main_arg1)
      ∧ r.2.mem ((c.tc : Thread Cert.HyConvRefIdeal.nD Cert.HyConvRefIdeal.τ).loc Cert.HyConvRefIdeal.main_arg2) = m ((c.tc : Thread Cert.HyConvRefIdeal.nD Cert.HyConvRefIdeal.τ).loc Cert.HyConvRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6)
      ∧ r.2.mem ((c.tc : Thread Cert.Gates.nD Cert.Gates.τ).loc Cert.Gates.main_arg7) = m ((c.tc : Thread Cert.Gates.nD Cert.Gates.τ).loc Cert.Gates.main_arg7))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
      ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5)
      ∧ r.2.mem ((c.tc : Thread Cert.GatesRefIdeal.nD Cert.GatesRefIdeal.τ).loc Cert.GatesRefIdeal.main_arg6) = m ((c.tc : Thread Cert.GatesRefIdeal.nD Cert.GatesRefIdeal.τ).loc Cert.GatesRefIdeal.main_arg6)
      ∧ r.2.mem ((c.tc : Thread Cert.GatesRefIdeal.nD Cert.GatesRefIdeal.τ).loc Cert.GatesRefIdeal.main_arg7) = m ((c.tc : Thread Cert.GatesRefIdeal.nD Cert.GatesRefIdeal.τ).loc Cert.GatesRefIdeal.main_arg7))
      ∧ r.2.sem = fun _ => 0)

def preserves_Lru_LruIdeal : Prop :=
  True

def algebraic_LruIdeal_LruRefIdeal_pre_decays [hLruIdeal : Cert.LruIdeal.Facts] [hLruRefIdeal : Cert.LruRefIdeal.Facts] [hPre_decays : Cert.Pre_decays.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal_decays m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)) →
    ∃ (v0 : (c : Dev Cert.LruIdeal.nD) → Buf (Elt Ideal) ((c.tc : Thread Cert.LruIdeal.nD Cert.LruIdeal.τ).loc Cert.LruIdeal.main_v0_0)) (v1 : (c : Dev Cert.LruIdeal.nD) → Buf (Elt Ideal) ((c.tc : Thread Cert.LruIdeal.nD Cert.LruIdeal.τ).loc Cert.LruIdeal.main_v0_1)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v0_0) = v0 c
          ∧ r.2.mem ((c.tc : Thread Cert.LruIdeal.nD Cert.LruIdeal.τ).loc Cert.LruIdeal.main_v0_1) = v1 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v23_9) = v0 c
          ∧ r.2.mem ((c.tc : Thread Cert.LruRefIdeal.nD Cert.LruRefIdeal.τ).loc Cert.LruRefIdeal.main_v24) = v1 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_ProjEven_ProjEvenIdeal : Prop :=
  True

def algebraic_ProjEvenIdeal_ProjEvenRefIdeal [hProjEvenIdeal : Cert.ProjEvenIdeal.Facts] [hProjEvenRefIdeal : Cert.ProjEvenRefIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg)
    (m' : (ℓ : Loc Cert.ProjEvenRefIdeal.nD Cert.ProjEvenRefIdeal.τ Cert.ProjEvenRefIdeal.sig) → Buf (Elt Ideal) ℓ) (g' : Dev Cert.ProjEvenRefIdeal.nD → PrngReg), Pre_ProjEvenIdeal m →
    (∀ c : Dev Cert.ProjEvenIdeal.nD,
      m' ((c.tc : Thread Cert.ProjEvenRefIdeal.nD Cert.ProjEvenRefIdeal.τ).loc Cert.ProjEvenRefIdeal.main_arg0) = m ((c.tc : Thread Cert.ProjEvenIdeal.nD Cert.ProjEvenIdeal.τ).loc Cert.ProjEvenIdeal.main_arg0)
      ∧ m' ((c.tc : Thread Cert.ProjEvenRefIdeal.nD Cert.ProjEvenRefIdeal.τ).loc Cert.ProjEvenRefIdeal.main_arg1) = m ((c.tc : Thread Cert.ProjEvenIdeal.nD Cert.ProjEvenIdeal.τ).loc Cert.ProjEvenIdeal.main_arg1)
      ∧ m' ((c.tc : Thread Cert.ProjEvenRefIdeal.nD Cert.ProjEvenRefIdeal.τ).loc Cert.ProjEvenRefIdeal.main_arg2) = m ((c.tc : Thread Cert.ProjEvenIdeal.nD Cert.ProjEvenIdeal.τ).loc Cert.ProjEvenIdeal.main_arg2)) →
    ∃ (v0 : (c : Dev Cert.ProjEvenIdeal.nD) → Buf (Elt Ideal) ((c.tc : Thread Cert.ProjEvenIdeal.nD Cert.ProjEvenIdeal.τ).loc Cert.ProjEvenIdeal.main_v3)),
      θ_run (Cert.ProjEvenIdeal.defs (F := Ideal)) (onTc (τ := Cert.ProjEvenIdeal.τ) (Cert.ProjEvenIdeal.main (F := Ideal))) ⟨m, fun _ => 0, g⟩ (fun r => ∀ c : Dev Cert.ProjEvenIdeal.nD,
          r.2.mem ((c.tc : Thread Cert.ProjEvenIdeal.nD Cert.ProjEvenIdeal.τ).loc Cert.ProjEvenIdeal.main_v3) = v0 c
          ∧ r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
          ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
          ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2))
      ∧ θ_run (Cert.ProjEvenRefIdeal.defs (F := Ideal)) (onTc (τ := Cert.ProjEvenRefIdeal.τ) (Cert.ProjEvenRefIdeal.main (F := Ideal))) ⟨m', fun _ => 0, g'⟩ (fun r => ∀ c : Dev Cert.ProjEvenRefIdeal.nD,
          r.2.mem ((c.tc : Thread Cert.ProjEvenRefIdeal.nD Cert.ProjEvenRefIdeal.τ).loc Cert.ProjEvenRefIdeal.main_v18) = v0 c
          ∧ r.2.mem ((c.tc : Thread Cert.ProjEvenRefIdeal.nD Cert.ProjEvenRefIdeal.τ).loc Cert.ProjEvenRefIdeal.main_arg0) = m' ((c.tc : Thread Cert.ProjEvenRefIdeal.nD Cert.ProjEvenRefIdeal.τ).loc Cert.ProjEvenRefIdeal.main_arg0)
          ∧ r.2.mem ((c.tc : Thread Cert.ProjEvenRefIdeal.nD Cert.ProjEvenRefIdeal.τ).loc Cert.ProjEvenRefIdeal.main_arg1) = m' ((c.tc : Thread Cert.ProjEvenRefIdeal.nD Cert.ProjEvenRefIdeal.τ).loc Cert.ProjEvenRefIdeal.main_arg1)
          ∧ r.2.mem ((c.tc : Thread Cert.ProjEvenRefIdeal.nD Cert.ProjEvenRefIdeal.τ).loc Cert.ProjEvenRefIdeal.main_arg2) = m' ((c.tc : Thread Cert.ProjEvenRefIdeal.nD Cert.ProjEvenRefIdeal.τ).loc Cert.ProjEvenRefIdeal.main_arg2))

def preserves_ProjOdd_ProjOddIdeal : Prop :=
  True

def algebraic_ProjOddIdeal_ProjOddRefIdeal [hProjOddIdeal : Cert.ProjOddIdeal.Facts] [hProjOddRefIdeal : Cert.ProjOddRefIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg)
    (m' : (ℓ : Loc Cert.ProjOddRefIdeal.nD Cert.ProjOddRefIdeal.τ Cert.ProjOddRefIdeal.sig) → Buf (Elt Ideal) ℓ) (g' : Dev Cert.ProjOddRefIdeal.nD → PrngReg), Pre_ProjOddIdeal m →
    (∀ c : Dev Cert.ProjOddIdeal.nD,
      m' ((c.tc : Thread Cert.ProjOddRefIdeal.nD Cert.ProjOddRefIdeal.τ).loc Cert.ProjOddRefIdeal.main_arg0) = m ((c.tc : Thread Cert.ProjOddIdeal.nD Cert.ProjOddIdeal.τ).loc Cert.ProjOddIdeal.main_arg0)
      ∧ m' ((c.tc : Thread Cert.ProjOddRefIdeal.nD Cert.ProjOddRefIdeal.τ).loc Cert.ProjOddRefIdeal.main_arg1) = m ((c.tc : Thread Cert.ProjOddIdeal.nD Cert.ProjOddIdeal.τ).loc Cert.ProjOddIdeal.main_arg1)
      ∧ m' ((c.tc : Thread Cert.ProjOddRefIdeal.nD Cert.ProjOddRefIdeal.τ).loc Cert.ProjOddRefIdeal.main_arg2) = m ((c.tc : Thread Cert.ProjOddIdeal.nD Cert.ProjOddIdeal.τ).loc Cert.ProjOddIdeal.main_arg2)) →
    ∃ (v0 : (c : Dev Cert.ProjOddIdeal.nD) → Buf (Elt Ideal) ((c.tc : Thread Cert.ProjOddIdeal.nD Cert.ProjOddIdeal.τ).loc Cert.ProjOddIdeal.main_v5)),
      θ_run (Cert.ProjOddIdeal.defs (F := Ideal)) (onTc (τ := Cert.ProjOddIdeal.τ) (Cert.ProjOddIdeal.main (F := Ideal))) ⟨m, fun _ => 0, g⟩ (fun r => ∀ c : Dev Cert.ProjOddIdeal.nD,
          r.2.mem ((c.tc : Thread Cert.ProjOddIdeal.nD Cert.ProjOddIdeal.τ).loc Cert.ProjOddIdeal.main_v5) = v0 c
          ∧ r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
          ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1)
          ∧ r.2.mem ((c.tc : Thread Cert.ProjOddIdeal.nD Cert.ProjOddIdeal.τ).loc Cert.ProjOddIdeal.main_arg2) = m ((c.tc : Thread Cert.ProjOddIdeal.nD Cert.ProjOddIdeal.τ).loc Cert.ProjOddIdeal.main_arg2))
      ∧ θ_run (Cert.ProjOddRefIdeal.defs (F := Ideal)) (onTc (τ := Cert.ProjOddRefIdeal.τ) (Cert.ProjOddRefIdeal.main (F := Ideal))) ⟨m', fun _ => 0, g'⟩ (fun r => ∀ c : Dev Cert.ProjOddRefIdeal.nD,
          r.2.mem ((c.tc : Thread Cert.ProjOddRefIdeal.nD Cert.ProjOddRefIdeal.τ).loc Cert.ProjOddRefIdeal.main_v20) = v0 c
          ∧ r.2.mem ((c.tc : Thread Cert.ProjOddRefIdeal.nD Cert.ProjOddRefIdeal.τ).loc Cert.ProjOddRefIdeal.main_arg0) = m' ((c.tc : Thread Cert.ProjOddRefIdeal.nD Cert.ProjOddRefIdeal.τ).loc Cert.ProjOddRefIdeal.main_arg0)
          ∧ r.2.mem ((c.tc : Thread Cert.ProjOddRefIdeal.nD Cert.ProjOddRefIdeal.τ).loc Cert.ProjOddRefIdeal.main_arg1) = m' ((c.tc : Thread Cert.ProjOddRefIdeal.nD Cert.ProjOddRefIdeal.τ).loc Cert.ProjOddRefIdeal.main_arg1)
          ∧ r.2.mem ((c.tc : Thread Cert.ProjOddRefIdeal.nD Cert.ProjOddRefIdeal.τ).loc Cert.ProjOddRefIdeal.main_arg2) = m' ((c.tc : Thread Cert.ProjOddRefIdeal.nD Cert.ProjOddRefIdeal.τ).loc Cert.ProjOddRefIdeal.main_arg2))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)) →
    ∃ (v0 : (c : Dev Cert.OutEvenIdeal.nD) → Buf (Elt Ideal) ((c.tc : Thread Cert.OutEvenIdeal.nD Cert.OutEvenIdeal.τ).loc Cert.OutEvenIdeal.main_v1)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v1) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v4) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)
      ∧ m' ((c.tc : Thread Cert.OutOddRefIdeal.nD Cert.OutOddRefIdeal.τ).loc Cert.OutOddRefIdeal.main_arg4) = m ((c.tc : Thread Cert.OutOddIdeal.nD Cert.OutOddIdeal.τ).loc Cert.OutOddIdeal.main_arg4)
      ∧ m' ((c.tc : Thread Cert.OutOddRefIdeal.nD Cert.OutOddRefIdeal.τ).loc Cert.OutOddRefIdeal.main_arg5) = m ((c.tc : Thread Cert.OutOddIdeal.nD Cert.OutOddIdeal.τ).loc Cert.OutOddIdeal.main_arg5)) →
    ∃ (v0 : (c : Dev Cert.OutOddIdeal.nD) → Buf (Elt Ideal) ((c.tc : Thread Cert.OutOddIdeal.nD Cert.OutOddIdeal.τ).loc Cert.OutOddIdeal.main_v1)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v1) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
          ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v20) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3)
          ∧ r.2.mem ((c.tc : Thread Cert.OutOddRefIdeal.nD Cert.OutOddRefIdeal.τ).loc Cert.OutOddRefIdeal.main_arg4) = m' ((c.tc : Thread Cert.OutOddRefIdeal.nD Cert.OutOddRefIdeal.τ).loc Cert.OutOddRefIdeal.main_arg4)
          ∧ r.2.mem ((c.tc : Thread Cert.OutOddRefIdeal.nD Cert.OutOddRefIdeal.τ).loc Cert.OutOddRefIdeal.main_arg5) = m' ((c.tc : Thread Cert.OutOddRefIdeal.nD Cert.OutOddRefIdeal.τ).loc Cert.OutOddRefIdeal.main_arg5))

def preserves_SFive_SFiveIdeal : Prop :=
  True

def algebraic_SFiveIdeal_SFiveRefIdeal [hSFiveIdeal : Cert.SFiveIdeal.Facts] [hSFiveRefIdeal : Cert.SFiveRefIdeal.Facts] : Prop :=
  ∀ (m : (ℓ : Loc Cert.SFiveIdeal.nD Cert.SFiveIdeal.τ Cert.SFiveIdeal.sig) → Buf (Elt Ideal) ℓ) (g : Dev Cert.SFiveIdeal.nD → PrngReg)
    (m' : (ℓ : Loc Cert.SFiveRefIdeal.nD Cert.SFiveRefIdeal.τ Cert.SFiveRefIdeal.sig) → Buf (Elt Ideal) ℓ) (g' : Dev Cert.SFiveRefIdeal.nD → PrngReg), Pre_SFiveIdeal m →
    (∀ c : Dev Cert.SFiveIdeal.nD,
      m' ((c.tc : Thread Cert.SFiveRefIdeal.nD Cert.SFiveRefIdeal.τ).loc Cert.SFiveRefIdeal.main_arg0) = m ((c.tc : Thread Cert.SFiveIdeal.nD Cert.SFiveIdeal.τ).loc Cert.SFiveIdeal.main_arg0)
      ∧ m' ((c.tc : Thread Cert.SFiveRefIdeal.nD Cert.SFiveRefIdeal.τ).loc Cert.SFiveRefIdeal.main_arg1) = m ((c.tc : Thread Cert.SFiveIdeal.nD Cert.SFiveIdeal.τ).loc Cert.SFiveIdeal.main_arg1)
      ∧ m' ((c.tc : Thread Cert.SFiveRefIdeal.nD Cert.SFiveRefIdeal.τ).loc Cert.SFiveRefIdeal.main_arg2) = m ((c.tc : Thread Cert.SFiveIdeal.nD Cert.SFiveIdeal.τ).loc Cert.SFiveIdeal.main_arg2)
      ∧ m' ((c.tc : Thread Cert.SFiveRefIdeal.nD Cert.SFiveRefIdeal.τ).loc Cert.SFiveRefIdeal.main_arg3) = m ((c.tc : Thread Cert.SFiveIdeal.nD Cert.SFiveIdeal.τ).loc Cert.SFiveIdeal.main_arg3)
      ∧ m' ((c.tc : Thread Cert.SFiveRefIdeal.nD Cert.SFiveRefIdeal.τ).loc Cert.SFiveRefIdeal.main_arg4) = m ((c.tc : Thread Cert.SFiveIdeal.nD Cert.SFiveIdeal.τ).loc Cert.SFiveIdeal.main_arg4)
      ∧ m' ((c.tc : Thread Cert.SFiveRefIdeal.nD Cert.SFiveRefIdeal.τ).loc Cert.SFiveRefIdeal.main_arg5) = m ((c.tc : Thread Cert.SFiveIdeal.nD Cert.SFiveIdeal.τ).loc Cert.SFiveIdeal.main_arg5)) →
    ∃ (v0 : (c : Dev Cert.SFiveIdeal.nD) → Buf (Elt Ideal) ((c.tc : Thread Cert.SFiveIdeal.nD Cert.SFiveIdeal.τ).loc Cert.SFiveIdeal.main_v3)),
      θ_run (Cert.SFiveIdeal.defs (F := Ideal)) (onTc (τ := Cert.SFiveIdeal.τ) (Cert.SFiveIdeal.main (F := Ideal))) ⟨m, fun _ => 0, g⟩ (fun r => ∀ c : Dev Cert.SFiveIdeal.nD,
          r.2.mem ((c.tc : Thread Cert.SFiveIdeal.nD Cert.SFiveIdeal.τ).loc Cert.SFiveIdeal.main_v3) = v0 c
          ∧ r.2.mem ((c.tc : Thread Cert.SFiveIdeal.nD Cert.SFiveIdeal.τ).loc Cert.SFiveIdeal.main_arg0) = m ((c.tc : Thread Cert.SFiveIdeal.nD Cert.SFiveIdeal.τ).loc Cert.SFiveIdeal.main_arg0)
          ∧ r.2.mem ((c.tc : Thread Cert.SFiveIdeal.nD Cert.SFiveIdeal.τ).loc Cert.SFiveIdeal.main_arg1) = m ((c.tc : Thread Cert.SFiveIdeal.nD Cert.SFiveIdeal.τ).loc Cert.SFiveIdeal.main_arg1)
          ∧ r.2.mem ((c.tc : Thread Cert.SFiveIdeal.nD Cert.SFiveIdeal.τ).loc Cert.SFiveIdeal.main_arg2) = m ((c.tc : Thread Cert.SFiveIdeal.nD Cert.SFiveIdeal.τ).loc Cert.SFiveIdeal.main_arg2)
          ∧ r.2.mem ((c.tc : Thread Cert.SFiveIdeal.nD Cert.SFiveIdeal.τ).loc Cert.SFiveIdeal.main_arg3) = m ((c.tc : Thread Cert.SFiveIdeal.nD Cert.SFiveIdeal.τ).loc Cert.SFiveIdeal.main_arg3)
          ∧ r.2.mem ((c.tc : Thread Cert.SFiveIdeal.nD Cert.SFiveIdeal.τ).loc Cert.SFiveIdeal.main_arg4) = m ((c.tc : Thread Cert.SFiveIdeal.nD Cert.SFiveIdeal.τ).loc Cert.SFiveIdeal.main_arg4)
          ∧ r.2.mem ((c.tc : Thread Cert.SFiveIdeal.nD Cert.SFiveIdeal.τ).loc Cert.SFiveIdeal.main_arg5) = m ((c.tc : Thread Cert.SFiveIdeal.nD Cert.SFiveIdeal.τ).loc Cert.SFiveIdeal.main_arg5))
      ∧ θ_run (Cert.SFiveRefIdeal.defs (F := Ideal)) (onTc (τ := Cert.SFiveRefIdeal.τ) (Cert.SFiveRefIdeal.main (F := Ideal))) ⟨m', fun _ => 0, g'⟩ (fun r => ∀ c : Dev Cert.SFiveRefIdeal.nD,
          r.2.mem ((c.tc : Thread Cert.SFiveRefIdeal.nD Cert.SFiveRefIdeal.τ).loc Cert.SFiveRefIdeal.main_v35) = v0 c
          ∧ r.2.mem ((c.tc : Thread Cert.SFiveRefIdeal.nD Cert.SFiveRefIdeal.τ).loc Cert.SFiveRefIdeal.main_arg0) = m' ((c.tc : Thread Cert.SFiveRefIdeal.nD Cert.SFiveRefIdeal.τ).loc Cert.SFiveRefIdeal.main_arg0)
          ∧ r.2.mem ((c.tc : Thread Cert.SFiveRefIdeal.nD Cert.SFiveRefIdeal.τ).loc Cert.SFiveRefIdeal.main_arg1) = m' ((c.tc : Thread Cert.SFiveRefIdeal.nD Cert.SFiveRefIdeal.τ).loc Cert.SFiveRefIdeal.main_arg1)
          ∧ r.2.mem ((c.tc : Thread Cert.SFiveRefIdeal.nD Cert.SFiveRefIdeal.τ).loc Cert.SFiveRefIdeal.main_arg2) = m' ((c.tc : Thread Cert.SFiveRefIdeal.nD Cert.SFiveRefIdeal.τ).loc Cert.SFiveRefIdeal.main_arg2)
          ∧ r.2.mem ((c.tc : Thread Cert.SFiveRefIdeal.nD Cert.SFiveRefIdeal.τ).loc Cert.SFiveRefIdeal.main_arg3) = m' ((c.tc : Thread Cert.SFiveRefIdeal.nD Cert.SFiveRefIdeal.τ).loc Cert.SFiveRefIdeal.main_arg3)
          ∧ r.2.mem ((c.tc : Thread Cert.SFiveRefIdeal.nD Cert.SFiveRefIdeal.τ).loc Cert.SFiveRefIdeal.main_arg4) = m' ((c.tc : Thread Cert.SFiveRefIdeal.nD Cert.SFiveRefIdeal.τ).loc Cert.SFiveRefIdeal.main_arg4)
          ∧ r.2.mem ((c.tc : Thread Cert.SFiveRefIdeal.nD Cert.SFiveRefIdeal.τ).loc Cert.SFiveRefIdeal.main_arg5) = m' ((c.tc : Thread Cert.SFiveRefIdeal.nD Cert.SFiveRefIdeal.τ).loc Cert.SFiveRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v6)) (v1 : (c : Dev Cert.NormIdeal.nD) → Buf (Elt Ideal) ((c.tc : Thread Cert.NormIdeal.nD Cert.NormIdeal.τ).loc Cert.NormIdeal.main_v8)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v6) = v0 c
          ∧ r.2.mem ((c.tc : Thread Cert.NormIdeal.nD Cert.NormIdeal.τ).loc Cert.NormIdeal.main_v8) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_v25) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_HyConv_HyConvIdeal : Prop :=
  True

def algebraic_HyConvIdeal_HyConvRefIdeal [hHyConvIdeal : Cert.HyConvIdeal.Facts] [hHyConvRefIdeal : Cert.HyConvRefIdeal.Facts] : Prop :=
  ∀ (m : (ℓ : Loc Cert.HyConvIdeal.nD Cert.HyConvIdeal.τ Cert.HyConvIdeal.sig) → Buf (Elt Ideal) ℓ) (g : Dev Cert.HyConvIdeal.nD → PrngReg)
    (m' : (ℓ : Loc Cert.HyConvRefIdeal.nD Cert.HyConvRefIdeal.τ Cert.HyConvRefIdeal.sig) → Buf (Elt Ideal) ℓ) (g' : Dev Cert.HyConvRefIdeal.nD → PrngReg), Pre_HyConvIdeal m →
    (∀ c : Dev Cert.HyConvIdeal.nD,
      m' ((c.tc : Thread Cert.HyConvRefIdeal.nD Cert.HyConvRefIdeal.τ).loc Cert.HyConvRefIdeal.main_arg0) = m ((c.tc : Thread Cert.HyConvIdeal.nD Cert.HyConvIdeal.τ).loc Cert.HyConvIdeal.main_arg0)
      ∧ m' ((c.tc : Thread Cert.HyConvRefIdeal.nD Cert.HyConvRefIdeal.τ).loc Cert.HyConvRefIdeal.main_arg1) = m ((c.tc : Thread Cert.HyConvIdeal.nD Cert.HyConvIdeal.τ).loc Cert.HyConvIdeal.main_arg1)
      ∧ m' ((c.tc : Thread Cert.HyConvRefIdeal.nD Cert.HyConvRefIdeal.τ).loc Cert.HyConvRefIdeal.main_arg2) = m ((c.tc : Thread Cert.HyConvIdeal.nD Cert.HyConvIdeal.τ).loc Cert.HyConvIdeal.main_arg2)) →
    ∃ (v0 : (c : Dev Cert.HyConvIdeal.nD) → Buf (Elt Ideal) ((c.tc : Thread Cert.HyConvIdeal.nD Cert.HyConvIdeal.τ).loc Cert.HyConvIdeal.main_v1)),
      θ_run (Cert.HyConvIdeal.defs (F := Ideal)) (onTc (τ := Cert.HyConvIdeal.τ) (Cert.HyConvIdeal.main (F := Ideal))) ⟨m, fun _ => 0, g⟩ (fun r => ∀ c : Dev Cert.HyConvIdeal.nD,
          r.2.mem ((c.tc : Thread Cert.HyConvIdeal.nD Cert.HyConvIdeal.τ).loc Cert.HyConvIdeal.main_v1) = v0 c
          ∧ r.2.mem ((c.tc : Thread Cert.HyConvIdeal.nD Cert.HyConvIdeal.τ).loc Cert.HyConvIdeal.main_arg0) = m ((c.tc : Thread Cert.HyConvIdeal.nD Cert.HyConvIdeal.τ).loc Cert.HyConvIdeal.main_arg0)
          ∧ r.2.mem ((c.tc : Thread Cert.HyConvIdeal.nD Cert.HyConvIdeal.τ).loc Cert.HyConvIdeal.main_arg1) = m ((c.tc : Thread Cert.HyConvIdeal.nD Cert.HyConvIdeal.τ).loc Cert.HyConvIdeal.main_arg1)
          ∧ r.2.mem ((c.tc : Thread Cert.HyConvIdeal.nD Cert.HyConvIdeal.τ).loc Cert.HyConvIdeal.main_arg2) = m ((c.tc : Thread Cert.HyConvIdeal.nD Cert.HyConvIdeal.τ).loc Cert.HyConvIdeal.main_arg2))
      ∧ θ_run (Cert.HyConvRefIdeal.defs (F := Ideal)) (onTc (τ := Cert.HyConvRefIdeal.τ) (Cert.HyConvRefIdeal.main (F := Ideal))) ⟨m', fun _ => 0, g'⟩ (fun r => ∀ c : Dev Cert.HyConvRefIdeal.nD,
          r.2.mem ((c.tc : Thread Cert.HyConvRefIdeal.nD Cert.HyConvRefIdeal.τ).loc Cert.HyConvRefIdeal.main_v55) = v0 c
          ∧ r.2.mem ((c.tc : Thread Cert.HyConvRefIdeal.nD Cert.HyConvRefIdeal.τ).loc Cert.HyConvRefIdeal.main_arg0) = m' ((c.tc : Thread Cert.HyConvRefIdeal.nD Cert.HyConvRefIdeal.τ).loc Cert.HyConvRefIdeal.main_arg0)
          ∧ r.2.mem ((c.tc : Thread Cert.HyConvRefIdeal.nD Cert.HyConvRefIdeal.τ).loc Cert.HyConvRefIdeal.main_arg1) = m' ((c.tc : Thread Cert.HyConvRefIdeal.nD Cert.HyConvRefIdeal.τ).loc Cert.HyConvRefIdeal.main_arg1)
          ∧ r.2.mem ((c.tc : Thread Cert.HyConvRefIdeal.nD Cert.HyConvRefIdeal.τ).loc Cert.HyConvRefIdeal.main_arg2) = m' ((c.tc : Thread Cert.HyConvRefIdeal.nD Cert.HyConvRefIdeal.τ).loc Cert.HyConvRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)
      ∧ m' ((c.tc : Thread Cert.GatesRefIdeal.nD Cert.GatesRefIdeal.τ).loc Cert.GatesRefIdeal.main_arg5) = m ((c.tc : Thread Cert.GatesIdeal.nD Cert.GatesIdeal.τ).loc Cert.GatesIdeal.main_arg5)
      ∧ m' ((c.tc : Thread Cert.GatesRefIdeal.nD Cert.GatesRefIdeal.τ).loc Cert.GatesRefIdeal.main_arg6) = m ((c.tc : Thread Cert.GatesIdeal.nD Cert.GatesIdeal.τ).loc Cert.GatesIdeal.main_arg6)
      ∧ m' ((c.tc : Thread Cert.GatesRefIdeal.nD Cert.GatesRefIdeal.τ).loc Cert.GatesRefIdeal.main_arg7) = m ((c.tc : Thread Cert.GatesIdeal.nD Cert.GatesIdeal.τ).loc Cert.GatesIdeal.main_arg7)) →
    ∃ (v0 : (c : Dev Cert.GatesIdeal.nD) → Buf (Elt Ideal) ((c.tc : Thread Cert.GatesIdeal.nD Cert.GatesIdeal.τ).loc Cert.GatesIdeal.main_v69_0)) (v1 : (c : Dev Cert.GatesIdeal.nD) → Buf (Elt Ideal) ((c.tc : Thread Cert.GatesIdeal.nD Cert.GatesIdeal.τ).loc Cert.GatesIdeal.main_v69_1)) (v2 : (c : Dev Cert.GatesIdeal.nD) → Buf (Elt Ideal) ((c.tc : Thread Cert.GatesIdeal.nD Cert.GatesIdeal.τ).loc Cert.GatesIdeal.main_v69_2)) (v3 : (c : Dev Cert.GatesIdeal.nD) → Buf (Elt Ideal) ((c.tc : Thread Cert.GatesIdeal.nD Cert.GatesIdeal.τ).loc Cert.GatesIdeal.main_v69_3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v69_0) = v0 c
          ∧ r.2.mem ((c.tc : Thread Cert.GatesIdeal.nD Cert.GatesIdeal.τ).loc Cert.GatesIdeal.main_v69_1) = v1 c
          ∧ r.2.mem ((c.tc : Thread Cert.GatesIdeal.nD Cert.GatesIdeal.τ).loc Cert.GatesIdeal.main_v69_2) = v2 c
          ∧ r.2.mem ((c.tc : Thread Cert.GatesIdeal.nD Cert.GatesIdeal.τ).loc Cert.GatesIdeal.main_v69_3) = v3 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6)
          ∧ r.2.mem ((c.tc : Thread Cert.GatesIdeal.nD Cert.GatesIdeal.τ).loc Cert.GatesIdeal.main_arg7) = m ((c.tc : Thread Cert.GatesIdeal.nD Cert.GatesIdeal.τ).loc Cert.GatesIdeal.main_arg7))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v119) = v0 c
          ∧ r.2.mem ((c.tc : Thread Cert.GatesRefIdeal.nD Cert.GatesRefIdeal.τ).loc Cert.GatesRefIdeal.main_v121) = v1 c
          ∧ r.2.mem ((c.tc : Thread Cert.GatesRefIdeal.nD Cert.GatesRefIdeal.τ).loc Cert.GatesRefIdeal.main_v168) = v2 c
          ∧ r.2.mem ((c.tc : Thread Cert.GatesRefIdeal.nD Cert.GatesRefIdeal.τ).loc Cert.GatesRefIdeal.main_v170) = v3 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4)
          ∧ r.2.mem ((c.tc : Thread Cert.GatesRefIdeal.nD Cert.GatesRefIdeal.τ).loc Cert.GatesRefIdeal.main_arg5) = m' ((c.tc : Thread Cert.GatesRefIdeal.nD Cert.GatesRefIdeal.τ).loc Cert.GatesRefIdeal.main_arg5)
          ∧ r.2.mem ((c.tc : Thread Cert.GatesRefIdeal.nD Cert.GatesRefIdeal.τ).loc Cert.GatesRefIdeal.main_arg6) = m' ((c.tc : Thread Cert.GatesRefIdeal.nD Cert.GatesRefIdeal.τ).loc Cert.GatesRefIdeal.main_arg6)
          ∧ r.2.mem ((c.tc : Thread Cert.GatesRefIdeal.nD Cert.GatesRefIdeal.τ).loc Cert.GatesRefIdeal.main_arg7) = m' ((c.tc : Thread Cert.GatesRefIdeal.nD Cert.GatesRefIdeal.τ).loc Cert.GatesRefIdeal.main_arg7))

def Claim : Prop :=
  ∃ (hLru : Cert.Lru.Facts) (hLruIdeal : Cert.LruIdeal.Facts) (hLruRefIdeal : Cert.LruRefIdeal.Facts) (hFfn : Cert.Ffn.Facts) (hFfnIdeal : Cert.FfnIdeal.Facts) (hFfnRefIdeal : Cert.FfnRefIdeal.Facts) (hProjEven : Cert.ProjEven.Facts) (hProjEvenIdeal : Cert.ProjEvenIdeal.Facts) (hProjEvenRefIdeal : Cert.ProjEvenRefIdeal.Facts) (hProjOdd : Cert.ProjOdd.Facts) (hProjOddIdeal : Cert.ProjOddIdeal.Facts) (hProjOddRefIdeal : Cert.ProjOddRefIdeal.Facts) (hOutEven : Cert.OutEven.Facts) (hOutEvenIdeal : Cert.OutEvenIdeal.Facts) (hOutEvenRefIdeal : Cert.OutEvenRefIdeal.Facts) (hOutOdd : Cert.OutOdd.Facts) (hOutOddIdeal : Cert.OutOddIdeal.Facts) (hOutOddRefIdeal : Cert.OutOddRefIdeal.Facts) (hSFive : Cert.SFive.Facts) (hSFiveIdeal : Cert.SFiveIdeal.Facts) (hSFiveRefIdeal : Cert.SFiveRefIdeal.Facts) (hNorm : Cert.Norm.Facts) (hNormIdeal : Cert.NormIdeal.Facts) (hNormRefIdeal : Cert.NormRefIdeal.Facts) (hHyConv : Cert.HyConv.Facts) (hHyConvIdeal : Cert.HyConvIdeal.Facts) (hHyConvRefIdeal : Cert.HyConvRefIdeal.Facts) (hGates : Cert.Gates.Facts) (hGatesIdeal : Cert.GatesIdeal.Facts) (hGatesRefIdeal : Cert.GatesRefIdeal.Facts) (hPre_decays : Cert.Pre_decays.Facts),
    quiescent_Lru (hLru := hLru)
    ∧ quiescent_LruIdeal (hLruIdeal := hLruIdeal)
    ∧ quiescent_LruIdeal_pre_decays (hLruIdeal := hLruIdeal) (hPre_decays := hPre_decays)
    ∧ quiescent_LruRefIdeal (hLruRefIdeal := hLruRefIdeal)
    ∧ quiescent_LruRefIdeal_pre_decays (hLruRefIdeal := hLruRefIdeal) (hPre_decays := hPre_decays)
    ∧ quiescent_Ffn (hFfn := hFfn)
    ∧ quiescent_FfnIdeal (hFfnIdeal := hFfnIdeal)
    ∧ quiescent_FfnRefIdeal (hFfnRefIdeal := hFfnRefIdeal)
    ∧ quiescent_ProjEven (hProjEven := hProjEven)
    ∧ quiescent_ProjEvenIdeal (hProjEvenIdeal := hProjEvenIdeal)
    ∧ quiescent_ProjEvenRefIdeal (hProjEvenRefIdeal := hProjEvenRefIdeal)
    ∧ quiescent_ProjOdd (hProjOdd := hProjOdd)
    ∧ quiescent_ProjOddIdeal (hProjOddIdeal := hProjOddIdeal)
    ∧ quiescent_ProjOddRefIdeal (hProjOddRefIdeal := hProjOddRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_SFive (hSFive := hSFive)
    ∧ quiescent_SFiveIdeal (hSFiveIdeal := hSFiveIdeal)
    ∧ quiescent_SFiveRefIdeal (hSFiveRefIdeal := hSFiveRefIdeal)
    ∧ quiescent_Norm (hNorm := hNorm)
    ∧ quiescent_NormIdeal (hNormIdeal := hNormIdeal)
    ∧ quiescent_NormRefIdeal (hNormRefIdeal := hNormRefIdeal)
    ∧ quiescent_HyConv (hHyConv := hHyConv)
    ∧ quiescent_HyConvIdeal (hHyConvIdeal := hHyConvIdeal)
    ∧ quiescent_HyConvRefIdeal (hHyConvRefIdeal := hHyConvRefIdeal)
    ∧ quiescent_Gates (hGates := hGates)
    ∧ quiescent_GatesIdeal (hGatesIdeal := hGatesIdeal)
    ∧ quiescent_GatesRefIdeal (hGatesRefIdeal := hGatesRefIdeal)
    ∧ preserves_Lru_LruIdeal
    ∧ algebraic_LruIdeal_LruRefIdeal_pre_decays (hLruIdeal := hLruIdeal) (hLruRefIdeal := hLruRefIdeal) (hPre_decays := hPre_decays)
    ∧ preserves_Ffn_FfnIdeal
    ∧ algebraic_FfnIdeal_FfnRefIdeal (hFfnIdeal := hFfnIdeal) (hFfnRefIdeal := hFfnRefIdeal)
    ∧ preserves_ProjEven_ProjEvenIdeal
    ∧ algebraic_ProjEvenIdeal_ProjEvenRefIdeal (hProjEvenIdeal := hProjEvenIdeal) (hProjEvenRefIdeal := hProjEvenRefIdeal)
    ∧ preserves_ProjOdd_ProjOddIdeal
    ∧ algebraic_ProjOddIdeal_ProjOddRefIdeal (hProjOddIdeal := hProjOddIdeal) (hProjOddRefIdeal := hProjOddRefIdeal)
    ∧ preserves_OutEven_OutEvenIdeal
    ∧ algebraic_OutEvenIdeal_OutEvenRefIdeal (hOutEvenIdeal := hOutEvenIdeal) (hOutEvenRefIdeal := hOutEvenRefIdeal)
    ∧ preserves_OutOdd_OutOddIdeal
    ∧ algebraic_OutOddIdeal_OutOddRefIdeal (hOutOddIdeal := hOutOddIdeal) (hOutOddRefIdeal := hOutOddRefIdeal)
    ∧ preserves_SFive_SFiveIdeal
    ∧ algebraic_SFiveIdeal_SFiveRefIdeal (hSFiveIdeal := hSFiveIdeal) (hSFiveRefIdeal := hSFiveRefIdeal)
    ∧ preserves_Norm_NormIdeal
    ∧ algebraic_NormIdeal_NormRefIdeal (hNormIdeal := hNormIdeal) (hNormRefIdeal := hNormRefIdeal)
    ∧ preserves_HyConv_HyConvIdeal
    ∧ algebraic_HyConvIdeal_HyConvRefIdeal (hHyConvIdeal := hHyConvIdeal) (hHyConvRefIdeal := hHyConvRefIdeal)
    ∧ preserves_Gates_GatesIdeal
    ∧ algebraic_GatesIdeal_GatesRefIdeal (hGatesIdeal := hGatesIdeal) (hGatesRefIdeal := hGatesRefIdeal)
-- ==== Pre_decays.lean ====
abbrev S49152x512 : Shape := ⟨2, ![49152, 512]⟩
abbrev S_ : Shape := ⟨0, ![]⟩

class Facts : Prop where
  bcast_S_S49152x512 : S_.BroadcastsInDim S49152x512 (![] : Fin 0 → Fin S49152x512.rank)

variable [Facts]

def fn {F : FTy → Type} [FloatOps F] (main_arg0 : FVec F S49152x512 .f32) (main_arg1 : FVec F S49152x512 .f32) (main_arg2 : FVec F S49152x512 .f32) (main_arg3 : FVec F S49152x512 .f32) : IVec S49152x512 1 × IVec S49152x512 1 :=
  let main_cst : FVec F S_ .f32 := constant S_ .f32 0x00000000#32
  let main_v0 : FVec F S49152x512 .f32 := broadcastInDim S49152x512 ![] bcast_S_S49152x512 main_cst
  let main_v1 : IVec S49152x512 1 := cmpf .oge main_arg0 main_v0
  let main_cst_0 : FVec F S_ .f32 := constant S_ .f32 0x7F800000#32
  let main_v2 : FVec F S49152x512 .f32 := broadcastInDim S49152x512 ![] bcast_S_S49152x512 main_cst_0
  let main_v3 : IVec S49152x512 1 := cmpf .olt main_arg0 main_v2
  let main_v4 : IVec S49152x512 1 := andi main_v1 main_v3
  let main_cst_1 : FVec F S_ .f32 := constant S_ .f32 0x00000000#32
  let main_v5 : FVec F S49152x512 .f32 := broadcastInDim S49152x512 ![] bcast_S_S49152x512 main_cst_1
  let main_v6 : IVec S49152x512 1 := cmpf .oge main_arg2 main_v5
  let main_cst_2 : FVec F S_ .f32 := constant S_ .f32 0x7F800000#32
  let main_v7 : FVec F S49152x512 .f32 := broadcastInDim S49152x512 ![] bcast_S_S49152x512 main_cst_2
  let main_v8 : IVec S49152x512 1 := cmpf .olt main_arg2 main_v7
  let main_v9 : IVec S49152x512 1 := andi main_v6 main_v8
  (main_v4, main_v9)
-- ==== Lru.lean ====
abbrev S49152x512 : Shape := ⟨2, ![49152, 512]⟩
abbrev S512x512 : Shape := ⟨2, ![512, 512]⟩
abbrev S8x512 : Shape := ⟨2, ![8, 512]⟩
abbrev S1x512 : Shape := ⟨2, ![1, 512]⟩

abbrev nBuf : Space → Nat
  | .hbm => 6
  | .vmem => 14
  | .smem => 0
  | _ => 0

abbrev bufTy : (tb : Table) → Fin (tcTables nBuf tb) → BufTy
  | .hbm, ⟨0, _⟩ => ⟨S49152x512, .f32⟩
  | .hbm, ⟨1, _⟩ => ⟨S49152x512, .f32⟩
  | .hbm, ⟨2, _⟩ => ⟨S49152x512, .f32⟩
  | .hbm, ⟨3, _⟩ => ⟨S49152x512, .f32⟩
  | .hbm, ⟨4, _⟩ => ⟨S49152x512, .f32⟩
  | .hbm, ⟨5, _⟩ => ⟨S49152x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S8x512, .f32⟩
  | .local _ .vmem, ⟨13, _⟩ => ⟨S8x512, .f32⟩
  | _, _ => ⟨S49152x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![96], ![false]⟩

@[reducible] def k0_t1_loop : Scf.Loop 32 :=
  let c0_i32_20 : BitVec 32 := 0#32
  let c64_i32_21 : BitVec 32 := 64#32
  let v41 : BitVec 32 := Scalar.addi c0_i32_20 c64_i32_21
  let c1_i32 : BitVec 32 := 1#32
  ⟨c0_i32_20, v41, c1_i32⟩
def k0_mult1 (k0_t1 : Fin k0_t1_loop.trips) : BitVec 32 :=
  let c0_i32_20 : BitVec 32 := 0#32
  let c1_i32 : BitVec 32 := 1#32
  let arg9 : BitVec 32 := Scf.iv c0_i32_20 c1_i32 k0_t1
  let c8_i32_33 : BitVec 32 := 8#32
  let v52 : BitVec 32 := Scalar.muli arg9 c8_i32_33
  v52
def k0_off1 (k0_t1 : Fin k0_t1_loop.trips) : Fin 2 → Nat :=
  let c0_i32_20 : BitVec 32 := 0#32
  let c1_i32 : BitVec 32 := 1#32
  let arg9 : BitVec 32 := Scf.iv c0_i32_20 c1_i32 k0_t1
  let c8_i32_33 : BitVec 32 := 8#32
  let v52 : BitVec 32 := Scalar.muli arg9 c8_i32_33
  let v53 : BitVec 32 := v52
  let v54 : Index := Scalar.indexCast v53
  let c0_34 : Index := 0#32
  ![v54.toNat, 0]
@[reducible] def k0_t2_loop : Scf.Loop 32 :=
  let c0_i32_27 : BitVec 32 := 0#32
  let c64_i32_28 : BitVec 32 := 64#32
  let v47 : BitVec 32 := Scalar.addi c0_i32_27 c64_i32_28
  let c1_i32_29 : BitVec 32 := 1#32
  ⟨c0_i32_27, v47, c1_i32_29⟩
def k0_mult2 (k0_t2 : Fin k0_t2_loop.trips) : BitVec 32 :=
  let c63_i32 : BitVec 32 := 63#32
  let c0_i32_27 : BitVec 32 := 0#32
  let c1_i32_29 : BitVec 32 := 1#32
  let arg9 : BitVec 32 := Scf.iv c0_i32_27 c1_i32_29 k0_t2
  let v52 : BitVec 32 := Scalar.subi c63_i32 arg9
  let c8_i32_33 : BitVec 32 := 8#32
  let v53 : BitVec 32 := Scalar.muli v52 c8_i32_33
  v53
def k0_off2 (k0_t2 : Fin k0_t2_loop.trips) : Fin 2 → Nat :=
  let c63_i32 : BitVec 32 := 63#32
  let c0_i32_27 : BitVec 32 := 0#32
  let c1_i32_29 : BitVec 32 := 1#32
  let arg9 : BitVec 32 := Scf.iv c0_i32_27 c1_i32_29 k0_t2
  let v52 : BitVec 32 := Scalar.subi c63_i32 arg9
  let c8_i32_33 : BitVec 32 := 8#32
  let v53 : BitVec 32 := Scalar.muli v52 c8_i32_33
  let v54 : BitVec 32 := v53
  let v55 : Index := Scalar.indexCast v54
  let c0_34 : Index := 0#32
  ![v55.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c95_i32 : BitVec 32 := 95#32
  let v0 : BitVec 32 := Scalar.subi c95_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c95_i32 : BitVec 32 := 95#32
  let v0 : BitVec 32 := Scalar.subi c95_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c95_i32 : BitVec 32 := 95#32
  let v0 : BitVec 32 := Scalar.subi c95_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LruRefIdeal.lean ====
abbrev S49152x512 : Shape := ⟨2, ![49152, 512]⟩
abbrev S49152 : Shape := ⟨1, ![49152]⟩
abbrev S_ : Shape := ⟨0, ![]⟩
abbrev S512 : Shape := ⟨1, ![512]⟩
abbrev S1x512 : Shape := ⟨2, ![1, 512]⟩
abbrev S1 : Shape := ⟨1, ![1]⟩

abbrev nBuf : Space → Nat
  | .hbm => 91
  | .vmem => 0
  | .smem => 0
  | _ => 0

abbrev bufTy : (tb : Table) → Fin (tcTables nBuf tb) → BufTy
  | .hbm, ⟨0, _⟩ => ⟨S49152x512, .f32⟩
  | .hbm, ⟨1, _⟩ => ⟨S49152x512, .f32⟩
  | .hbm, ⟨2, _⟩ => ⟨S49152x512, .f32⟩
  | .hbm, ⟨3, _⟩ => ⟨S49152x512, .f32⟩
  | .hbm, ⟨4, _⟩ => ⟨S49152, .i32⟩
  | .hbm, ⟨5, _⟩ => ⟨S_, .i32⟩
  | .hbm, ⟨6, _⟩ => ⟨S49152, .i32⟩
  | .hbm, ⟨7, _⟩ => ⟨S49152, .i1⟩
  | .hbm, ⟨8, _⟩ => ⟨S_, .i32⟩
  | .hbm, ⟨9, _⟩ => ⟨S49152, .i32⟩
  | .hbm, ⟨10, _⟩ => ⟨S49152, .i32⟩
  | .hbm, ⟨11, _⟩ => ⟨S_, .i32⟩
  | .hbm, ⟨12, _⟩ => ⟨S49152, .i32⟩
  | .hbm, ⟨13, _⟩ => ⟨S49152, .i32⟩
  | .hbm, ⟨14, _⟩ => ⟨S_, .i32⟩
  | .hbm, ⟨15, _⟩ => ⟨S49152, .i32⟩
  | .hbm, ⟨16, _⟩ => ⟨S49152, .i32⟩
  | .hbm, ⟨17, _⟩ => ⟨S49152, .i32⟩
  | .hbm, ⟨18, _⟩ => ⟨S_, .i32⟩
  | .hbm, ⟨19, _⟩ => ⟨S49152, .i32⟩
  | .hbm, ⟨20, _⟩ => ⟨S49152, .i1⟩
  | .hbm, ⟨21, _⟩ => ⟨S_, .i32⟩
  | .hbm, ⟨22, _⟩ => ⟨S_, .i32⟩
  | .hbm, ⟨23, _⟩ => ⟨S49152, .i32⟩
  | .hbm, ⟨24, _⟩ => ⟨S49152, .i32⟩
  | .hbm, ⟨25, _⟩ => ⟨S49152, .i32⟩
  | .hbm, ⟨26, _⟩ => ⟨S_, .i32⟩
  | .hbm, ⟨27, _⟩ => ⟨S49152, .i32⟩
  | .hbm, ⟨28, _⟩ => ⟨S49152, .i32⟩
  | .hbm, ⟨29, _⟩ => ⟨S49152, .i32⟩
  | .hbm, ⟨30, _⟩ => ⟨S49152, .i1⟩
  | .hbm, ⟨31, _⟩ => ⟨S_, .f32⟩
  | .hbm, ⟨32, _⟩ => ⟨S512, .f32⟩
  | .hbm, ⟨33, _⟩ => ⟨S49152x512, .f32⟩
  | .hbm, ⟨34, _⟩ => ⟨S49152x512, .f32⟩
  | .hbm, ⟨35, _⟩ => ⟨S49152, .i1⟩
  | .hbm, ⟨36, _⟩ => ⟨S_, .f32⟩
  | .hbm, ⟨37, _⟩ => ⟨S49152x512, .f32⟩
  | .hbm, ⟨38, _⟩ => ⟨S_, .f32⟩
  | .hbm, ⟨39, _⟩ => ⟨S49152x512, .f32⟩
  | .hbm, ⟨40, _⟩ => ⟨S_, .i32⟩
  | .hbm, ⟨41, _⟩ => ⟨S49152x512, .f32⟩
  | .hbm, ⟨42, _⟩ => ⟨S49152x512, .f32⟩
  | .hbm, ⟨43, _⟩ => ⟨S49152, .i1⟩
  | .hbm, ⟨44, _⟩ => ⟨S49152x512, .f32⟩
  | .hbm, ⟨45, _⟩ => ⟨S49152x512, .f32⟩
  | .hbm, ⟨46, _⟩ => ⟨S49152, .i1⟩
  | .hbm, ⟨47, _⟩ => ⟨S_, .i32⟩
  | .hbm, ⟨48, _⟩ => ⟨S512, .f32⟩
  | .hbm, ⟨49, _⟩ => ⟨S512, .f32⟩
  | .hbm, ⟨50, _⟩ => ⟨S49152x512, .f32⟩
  | .hbm, ⟨51, _⟩ => ⟨S49152x512, .f32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S1x512, .f32⟩
  | .hbm, ⟨56, _⟩ => ⟨S512, .f32⟩
  | .hbm, ⟨57, _⟩ => ⟨S_, .i32⟩
  | .hbm, ⟨58, _⟩ => ⟨S1x512, .f32⟩
  | .hbm, ⟨59, _⟩ => ⟨S512, .f32⟩
  | .hbm, ⟨60, _⟩ => ⟨S1, .i1⟩
  | .hbm, ⟨61, _⟩ => ⟨S_, .i1⟩
  | .hbm, ⟨62, _⟩ => ⟨S_, .i32⟩
  | .hbm, ⟨63, _⟩ => ⟨S1x512, .f32⟩
  | .hbm, ⟨64, _⟩ => ⟨S512, .f32⟩
  | .hbm, ⟨65, _⟩ => ⟨S_, .i32⟩
  | .hbm, ⟨66, _⟩ => ⟨S1x512, .f32⟩
  | .hbm, ⟨67, _⟩ => ⟨S512, .f32⟩
  | .hbm, ⟨68, _⟩ => ⟨S1, .i1⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S512, .f32⟩
  | .hbm, ⟨75, _⟩ => ⟨S512, .f32⟩
  | .hbm, ⟨76, _⟩ => ⟨S_, .f32⟩
  | .hbm, ⟨77, _⟩ => ⟨S_, .f32⟩
  | .hbm, ⟨78, _⟩ => ⟨S512, .f32⟩
  | .hbm, ⟨79, _⟩ => ⟨S512, .f32⟩
  | .hbm, ⟨80, _⟩ => ⟨S512, .f32⟩
  | .hbm, ⟨81, _⟩ => ⟨S512, .f32⟩
  | .hbm, ⟨82, _⟩ => ⟨S1x512, .f32⟩
  | .hbm, ⟨83, _⟩ => ⟨S_, .i32⟩
  | .hbm, ⟨84, _⟩ => ⟨S49152x512, .f32⟩
  | .hbm, ⟨85, _⟩ => ⟨S1x512, .f32⟩
  | .hbm, ⟨86, _⟩ => ⟨S_, .i32⟩
  | .hbm, ⟨87, _⟩ => ⟨S49152x512, .f32⟩
  | .hbm, ⟨88, _⟩ => ⟨S_, .i32⟩
  | .hbm, ⟨89, _⟩ => ⟨S_, .i32⟩
  | .hbm, ⟨90, _⟩ => ⟨S49152x512, .f32⟩
  | _, _ => ⟨S49152x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_c_5 : Ref sig .tc := ⟨.hbm, 22, rfl⟩
abbrev main_call1_v0 : Ref sig .tc := ⟨.hbm, 23, rfl⟩
abbrev main_call1_v1 : Ref sig .tc := ⟨.hbm, 24, rfl⟩
abbrev main_v12 : Ref sig .tc := ⟨.hbm, 25, rfl⟩
abbrev main_c_6 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_c_9 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev main_v23_3 : Ref sig .tc := ⟨.hbm, 44, rfl⟩
abbrev main_v23_4 : Ref sig .tc := ⟨.hbm, 45, rfl⟩
abbrev main_v23_5 : Ref sig .tc := ⟨.hbm, 46, rfl⟩
abbrev main_v23_6 : Ref sig .tc := ⟨.hbm, 47, rfl⟩
abbrev main_v23_7 : Ref sig .tc := ⟨.hbm, 48, rfl⟩
abbrev main_v23_8 : Ref sig .tc := ⟨.hbm, 49, rfl⟩
abbrev main_v23_9 : Ref sig .tc := ⟨.hbm, 50, rfl⟩
abbrev main_v23_10 : Ref sig .tc := ⟨.hbm, 51, rfl⟩
abbrev main_while0c_c_20 : Ref sig .tc := ⟨.hbm, 52, rfl⟩
abbrev main_while0c_v25 : Ref sig .tc := ⟨.hbm, 53, rfl⟩
abbrev main_while0b_call5_c : Ref sig .tc := ⟨.hbm, 54, rfl⟩
abbrev main_while0b_call5_v0 : Ref sig .tc := ⟨.hbm, 55, rfl⟩
abbrev main_while0b_v25 : Ref sig .tc := ⟨.hbm, 56, rfl⟩
abbrev main_while0b_call6_c : Ref sig .tc := ⟨.hbm, 57, rfl⟩
abbrev main_while0b_call6_v0 : Ref sig .tc := ⟨.hbm, 58, rfl⟩
abbrev main_while0b_v26 : Ref sig .tc := ⟨.hbm, 59, rfl⟩
abbrev main_while0b_call7_v0 : Ref sig .tc := ⟨.hbm, 60, rfl⟩
abbrev main_while0b_v27 : Ref sig .tc := ⟨.hbm, 61, rfl⟩
abbrev main_while0b_call8_c : Ref sig .tc := ⟨.hbm, 62, rfl⟩
abbrev main_while0b_call8_v0 : Ref sig .tc := ⟨.hbm, 63, rfl⟩
abbrev main_while0b_v28 : Ref sig .tc := ⟨.hbm, 64, rfl⟩
abbrev main_while0b_call9_c : Ref sig .tc := ⟨.hbm, 65, rfl⟩
abbrev main_while0b_call9_v0 : Ref sig .tc := ⟨.hbm, 66, rfl⟩
abbrev main_while0b_v29 : Ref sig .tc := ⟨.hbm, 67, rfl⟩
abbrev main_while0b_call10_v0 : Ref sig .tc := ⟨.hbm, 68, rfl⟩
abbrev main_while0b_v30 : Ref sig .tc := ⟨.hbm, 69, rfl⟩
abbrev main_while0b_cst_20 : Ref sig .tc := ⟨.hbm, 70, rfl⟩
abbrev main_while0b_call11_v0 : Ref sig .tc := ⟨.hbm, 71, rfl⟩
abbrev main_while0b_call11_v1 : Ref sig .tc := ⟨.hbm, 72, rfl⟩
abbrev main_while0b_v31 : Ref sig .tc := ⟨.hbm, 73, rfl⟩
abbrev main_while0b_v32 : Ref sig .tc := ⟨.hbm, 74, rfl⟩
abbrev main_while0b_v33 : Ref sig .tc := ⟨.hbm, 75, rfl⟩
abbrev main_while0b_cst_21 : Ref sig .tc := ⟨.hbm, 76, rfl⟩
abbrev main_while0b_call12_v0 : Ref sig .tc := ⟨.hbm, 77, rfl⟩
abbrev main_while0b_call12_v1 : Ref sig .tc := ⟨.hbm, 78, rfl⟩
abbrev main_while0b_v34 : Ref sig .tc := ⟨.hbm, 79, rfl⟩
abbrev main_while0b_v35 : Ref sig .tc := ⟨.hbm, 80, rfl⟩
abbrev main_while0b_v36 : Ref sig .tc := ⟨.hbm, 81, rfl⟩
abbrev main_while0b_call13_v0 : Ref sig .tc := ⟨.hbm, 82, rfl⟩
abbrev main_while0b_call13_c : Ref sig .tc := ⟨.hbm, 83, rfl⟩
abbrev main_while0b_v37 : Ref sig .tc := ⟨.hbm, 84, rfl⟩
abbrev main_while0b_call14_v0 : Ref sig .tc := ⟨.hbm, 85, rfl⟩
abbrev main_while0b_call14_c : Ref sig .tc := ⟨.hbm, 86, rfl⟩
abbrev main_while0b_v38 : Ref sig .tc := ⟨.hbm, 87, rfl⟩
abbrev main_while0b_c_22 : Ref sig .tc := ⟨.hbm, 88, rfl⟩
abbrev main_while0b_v39 : Ref sig .tc := ⟨.hbm, 89, rfl⟩
abbrev main_v24 : Ref sig .tc := ⟨.hbm, 90, rfl⟩

abbrev nD : Nat := 1
abbrev τ : Topo := Topo.v7x

variable {F : FTy → Type} [FloatOps F]

abbrev main_while0_count : Scf.Loop 32 := ⟨0#32, 49152#32, 1#32⟩
-- ==== Ffn.lean ====
abbrev S49152x1024 : Shape := ⟨2, ![49152, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1x1408x1024 : Shape := ⟨3, ![1, 1408, 1024]⟩
abbrev S1408x1024 : Shape := ⟨2, ![1408, 1024]⟩

abbrev nBuf : Space → Nat
  | .hbm => 10
  | .vmem => 8
  | .smem => 0
  | _ => 0

abbrev bufTy : (tb : Table) → Fin (tcTables nBuf tb) → BufTy
  | .hbm, ⟨0, _⟩ => ⟨S49152x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1x1024, .f32⟩
  | .hbm, ⟨6, _⟩ => ⟨S4x1024x2816, .bf16⟩
  | .hbm, ⟨7, _⟩ => ⟨S4x1024x2816, .bf16⟩
  | .hbm, ⟨8, _⟩ => ⟨S4x2816x1024, .bf16⟩
  | .hbm, ⟨9, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S49152x1024 : Shape := ⟨2, ![49152, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S_ : Shape := ⟨0, ![]⟩
abbrev S49152 : Shape := ⟨1, ![49152]⟩
abbrev S49152x1 : Shape := ⟨2, ![49152, 1]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S49152x2816 : Shape := ⟨2, ![49152, 2816]⟩
abbrev S1x2816x1024 : Shape := ⟨3, ![1, 2816, 1024]⟩
abbrev S2816x1024 : Shape := ⟨2, ![2816, 1024]⟩

abbrev nBuf : Space → Nat
  | .hbm => 46
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S49152x1024, .f32⟩
  | .hbm, ⟨6, _⟩ => ⟨S_, .f32⟩
  | .hbm, ⟨7, _⟩ => ⟨S49152, .f32⟩
  | .hbm, ⟨8, _⟩ => ⟨S49152x1, .f32⟩
  | .hbm, ⟨9, _⟩ => ⟨S_, .f32⟩
  | .hbm, ⟨10, _⟩ => ⟨S49152x1, .f32⟩
  | .hbm, ⟨11, _⟩ => ⟨S49152x1, .f32⟩
  | .hbm, ⟨12, _⟩ => ⟨S_, .f32⟩
  | .hbm, ⟨13, _⟩ => ⟨S49152x1, .f32⟩
  | .hbm, ⟨14, _⟩ => ⟨S49152x1, .f32⟩
  | .hbm, ⟨15, _⟩ => ⟨S49152x1, .f32⟩
  | .hbm, ⟨16, _⟩ => ⟨S49152x1024, .f32⟩
  | .hbm, ⟨17, _⟩ => ⟨S49152x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S49152x1024, .f32⟩
  | .hbm, ⟨22, _⟩ => ⟨S49152x1024, .f32⟩
  | .hbm, ⟨23, _⟩ => ⟨S1x1024x2816, .f32⟩
  | .hbm, ⟨24, _⟩ => ⟨S1024x2816, .f32⟩
  | .hbm, ⟨25, _⟩ => ⟨S49152x2816, .f32⟩
  | .hbm, ⟨26, _⟩ => ⟨S49152x2816, .f32⟩
  | .hbm, ⟨27, _⟩ => ⟨S49152x2816, .f32⟩
  | .hbm, ⟨28, _⟩ => ⟨S_, .f32⟩
  | .hbm, ⟨29, _⟩ => ⟨S49152x2816, .f32⟩
  | .hbm, ⟨30, _⟩ => ⟨S49152x2816, .f32⟩
  | .hbm, ⟨31, _⟩ => ⟨S_, .f32⟩
  | .hbm, ⟨32, _⟩ => ⟨S49152x2816, .f32⟩
  | .hbm, ⟨33, _⟩ => ⟨S49152x2816, .f32⟩
  | .hbm, ⟨34, _⟩ => ⟨S49152x2816, .f32⟩
  | .hbm, ⟨35, _⟩ => ⟨S1x1024x2816, .f32⟩
  | .hbm, ⟨36, _⟩ => ⟨S1024x2816, .f32⟩
  | .hbm, ⟨37, _⟩ => ⟨S49152x2816, .f32⟩
  | .hbm, ⟨38, _⟩ => ⟨S49152x2816, .f32⟩
  | .hbm, ⟨39, _⟩ => ⟨S1x2816x1024, .f32⟩
  | .hbm, ⟨40, _⟩ => ⟨S2816x1024, .f32⟩
  | .hbm, ⟨41, _⟩ => ⟨S49152x1024, .f32⟩
  | .hbm, ⟨42, _⟩ => ⟨S_, .f32⟩
  | .hbm, ⟨43, _⟩ => ⟨S49152x1024, .f32⟩
  | .hbm, ⟨44, _⟩ => ⟨S49152x1024, .f32⟩
  | .hbm, ⟨45, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== ProjEven.lean ====
abbrev S49152x1024 : Shape := ⟨2, ![49152, 1024]⟩
abbrev S4x1024 : Shape := ⟨2, ![4, 1024]⟩
abbrev S2x1024x2208 : Shape := ⟨3, ![2, 1024, 2208]⟩
abbrev S_ : Shape := ⟨0, ![]⟩
abbrev S2x1024x2304 : Shape := ⟨3, ![2, 1024, 2304]⟩
abbrev S4x1x1024 : Shape := ⟨3, ![4, 1, 1024]⟩
abbrev S49152x2304 : Shape := ⟨2, ![49152, 2304]⟩
abbrev S512x1024 : Shape := ⟨2, ![512, 1024]⟩
abbrev S1x1x1024 : Shape := ⟨3, ![1, 1, 1024]⟩
abbrev S1x1024x2304 : Shape := ⟨3, ![1, 1024, 2304]⟩
abbrev S512x2304 : Shape := ⟨2, ![512, 2304]⟩
abbrev S1x1024 : Shape := ⟨2, ![1, 1024]⟩
abbrev S512 : Shape := ⟨1, ![512]⟩
abbrev S512x1 : Shape := ⟨2, ![512, 1]⟩
abbrev S1024x2304 : Shape := ⟨2, ![1024, 2304]⟩

abbrev nBuf : Space → Nat
  | .hbm => 9
  | .vmem => 6
  | .smem => 0
  | _ => 0

abbrev bufTy : (tb : Table) → Fin (tcTables nBuf tb) → BufTy
  | .hbm, ⟨0, _⟩ => ⟨S49152x1024, .f32⟩
  | .hbm, ⟨1, _⟩ => ⟨S4x1024, .f32⟩
  | .hbm, ⟨2, _⟩ => ⟨S2x1024x2208, .f32⟩
  | .hbm, ⟨3, _⟩ => ⟨S_, .i32⟩
  | .hbm, ⟨4, _⟩ => ⟨S_, .f32⟩
  | .hbm, ⟨5, _⟩ => ⟨S2x1024x2304, .f32⟩
  | .hbm, ⟨6, _⟩ => ⟨S2x1024x2304, .bf16⟩
  | .hbm, ⟨7, _⟩ => ⟨S4x1x1024, .f32⟩
  | .hbm, ⟨8, _⟩ => ⟨S49152x2304, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2304, .bf16⟩
  | .local _ .vmem, ⟨4, _⟩ => ⟨S512x2304, .f32⟩
  | .local _ .vmem, ⟨5, _⟩ => ⟨S512x2304, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjEvenRefIdeal.lean ====
abbrev S49152x1024 : Shape := ⟨2, ![49152, 1024]⟩
abbrev S4x1024 : Shape := ⟨2, ![4, 1024]⟩
abbrev S2x1024x2208 : Shape := ⟨3, ![2, 1024, 2208]⟩
abbrev S_ : Shape := ⟨0, ![]⟩
abbrev S49152 : Shape := ⟨1, ![49152]⟩
abbrev S49152x1 : Shape := ⟨2, ![49152, 1]⟩
abbrev S1x1024 : Shape := ⟨2, ![1, 1024]⟩
abbrev S1024 : Shape := ⟨1, ![1024]⟩
abbrev S1x1024x2208 : Shape := ⟨3, ![1, 1024, 2208]⟩
abbrev S1024x2208 : Shape := ⟨2, ![1024, 2208]⟩
abbrev S49152x2208 : Shape := ⟨2, ![49152, 2208]⟩
abbrev S49152x2304 : Shape := ⟨2, ![49152, 2304]⟩

abbrev nBuf : Space → Nat
  | .hbm => 27
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S4x1024, .f32⟩
  | .hbm, ⟨2, _⟩ => ⟨S2x1024x2208, .f32⟩
  | .hbm, ⟨3, _⟩ => ⟨S49152x1024, .f32⟩
  | .hbm, ⟨4, _⟩ => ⟨S_, .f32⟩
  | .hbm, ⟨5, _⟩ => ⟨S49152, .f32⟩
  | .hbm, ⟨6, _⟩ => ⟨S49152x1, .f32⟩
  | .hbm, ⟨7, _⟩ => ⟨S_, .f32⟩
  | .hbm, ⟨8, _⟩ => ⟨S49152x1, .f32⟩
  | .hbm, ⟨9, _⟩ => ⟨S49152x1, .f32⟩
  | .hbm, ⟨10, _⟩ => ⟨S_, .f32⟩
  | .hbm, ⟨11, _⟩ => ⟨S49152x1, .f32⟩
  | .hbm, ⟨12, _⟩ => ⟨S49152x1, .f32⟩
  | .hbm, ⟨13, _⟩ => ⟨S49152x1, .f32⟩
  | .hbm, ⟨14, _⟩ => ⟨S49152x1024, .f32⟩
  | .hbm, ⟨15, _⟩ => ⟨S49152x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S49152x1024, .f32⟩
  | .hbm, ⟨20, _⟩ => ⟨S49152x1024, .f32⟩
  | .hbm, ⟨21, _⟩ => ⟨S1x1024x2208, .f32⟩
  | .hbm, ⟨22, _⟩ => ⟨S1024x2208, .f32⟩
  | .hbm, ⟨23, _⟩ => ⟨S49152x2208, .f32⟩
  | .hbm, ⟨24, _⟩ => ⟨S_, .i32⟩
  | .hbm, ⟨25, _⟩ => ⟨S_, .f32⟩
  | .hbm, ⟨26, _⟩ => ⟨S49152x2304, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== ProjOdd.lean ====
abbrev S49152x1024 : Shape := ⟨2, ![49152, 1024]⟩
abbrev S4x1024 : Shape := ⟨2, ![4, 1024]⟩
abbrev S2x1024x2560 : Shape := ⟨3, ![2, 1024, 2560]⟩
abbrev S2x1024x1536 : Shape := ⟨3, ![2, 1024, 1536]⟩
abbrev S2x1024x1024 : Shape := ⟨3, ![2, 1024, 1024]⟩
abbrev S4x1x1024 : Shape := ⟨3, ![4, 1, 1024]⟩
abbrev S49152x2560 : Shape := ⟨2, ![49152, 2560]⟩
abbrev S512x1024 : Shape := ⟨2, ![512, 1024]⟩
abbrev S1x1x1024 : Shape := ⟨3, ![1, 1, 1024]⟩
abbrev S1x1024x2560 : Shape := ⟨3, ![1, 1024, 2560]⟩
abbrev S512x2560 : Shape := ⟨2, ![512, 2560]⟩
abbrev S1x1024 : Shape := ⟨2, ![1, 1024]⟩
abbrev S512 : Shape := ⟨1, ![512]⟩
abbrev S512x1 : Shape := ⟨2, ![512, 1]⟩
abbrev S1024x2560 : Shape := ⟨2, ![1024, 2560]⟩

abbrev nBuf : Space → Nat
  | .hbm => 9
  | .vmem => 6
  | .smem => 0
  | _ => 0

abbrev bufTy : (tb : Table) → Fin (tcTables nBuf tb) → BufTy
  | .hbm, ⟨0, _⟩ => ⟨S49152x1024, .f32⟩
  | .hbm, ⟨1, _⟩ => ⟨S4x1024, .f32⟩
  | .hbm, ⟨2, _⟩ => ⟨S2x1024x2560, .f32⟩
  | .hbm, ⟨3, _⟩ => ⟨S2x1024x1536, .f32⟩
  | .hbm, ⟨4, _⟩ => ⟨S2x1024x1024, .f32⟩
  | .hbm, ⟨5, _⟩ => ⟨S2x1024x2560, .f32⟩
  | .hbm, ⟨6, _⟩ => ⟨S2x1024x2560, .bf16⟩
  | .hbm, ⟨7, _⟩ => ⟨S4x1x1024, .f32⟩
  | .hbm, ⟨8, _⟩ => ⟨S49152x2560, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2560, .bf16⟩
  | .local _ .vmem, ⟨4, _⟩ => ⟨S512x2560, .f32⟩
  | .local _ .vmem, ⟨5, _⟩ => ⟨S512x2560, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjOddRefIdeal.lean ====
abbrev S49152x1024 : Shape := ⟨2, ![49152, 1024]⟩
abbrev S4x1024 : Shape := ⟨2, ![4, 1024]⟩
abbrev S2x1024x2560 : Shape := ⟨3, ![2, 1024, 2560]⟩
abbrev S_ : Shape := ⟨0, ![]⟩
abbrev S49152 : Shape := ⟨1, ![49152]⟩
abbrev S49152x1 : Shape := ⟨2, ![49152, 1]⟩
abbrev S1x1024 : Shape := ⟨2, ![1, 1024]⟩
abbrev S1024 : Shape := ⟨1, ![1024]⟩
abbrev S1x1024x2560 : Shape := ⟨3, ![1, 1024, 2560]⟩
abbrev S1024x2560 : Shape := ⟨2, ![1024, 2560]⟩
abbrev S49152x2560 : Shape := ⟨2, ![49152, 2560]⟩
abbrev S49152x1536 : Shape := ⟨2, ![49152, 1536]⟩

abbrev nBuf : Space → Nat
  | .hbm => 27
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S4x1024, .f32⟩
  | .hbm, ⟨2, _⟩ => ⟨S2x1024x2560, .f32⟩
  | .hbm, ⟨3, _⟩ => ⟨S49152x1024, .f32⟩
  | .hbm, ⟨4, _⟩ => ⟨S_, .f32⟩
  | .hbm, ⟨5, _⟩ => ⟨S49152, .f32⟩
  | .hbm, ⟨6, _⟩ => ⟨S49152x1, .f32⟩
  | .hbm, ⟨7, _⟩ => ⟨S_, .f32⟩
  | .hbm, ⟨8, _⟩ => ⟨S49152x1, .f32⟩
  | .hbm, ⟨9, _⟩ => ⟨S49152x1, .f32⟩
  | .hbm, ⟨10, _⟩ => ⟨S_, .f32⟩
  | .hbm, ⟨11, _⟩ => ⟨S49152x1, .f32⟩
  | .hbm, ⟨12, _⟩ => ⟨S49152x1, .f32⟩
  | .hbm, ⟨13, _⟩ => ⟨S49152x1, .f32⟩
  | .hbm, ⟨14, _⟩ => ⟨S49152x1024, .f32⟩
  | .hbm, ⟨15, _⟩ => ⟨S49152x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S49152x1024, .f32⟩
  | .hbm, ⟨20, _⟩ => ⟨S49152x1024, .f32⟩
  | .hbm, ⟨21, _⟩ => ⟨S1x1024x2560, .f32⟩
  | .hbm, ⟨22, _⟩ => ⟨S1024x2560, .f32⟩
  | .hbm, ⟨23, _⟩ => ⟨S49152x2560, .f32⟩
  | .hbm, ⟨24, _⟩ => ⟨S49152x1536, .f32⟩
  | .hbm, ⟨25, _⟩ => ⟨S49152x1024, .f32⟩
  | .hbm, ⟨26, _⟩ => ⟨S49152x2560, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== OutEven.lean ====
abbrev S49152x1024 : Shape := ⟨2, ![49152, 1024]⟩
abbrev S49152x512 : Shape := ⟨2, ![49152, 512]⟩
abbrev S2x1024x1024 : Shape := ⟨3, ![2, 1024, 1024]⟩
abbrev S512x1024 : Shape := ⟨2, ![512, 1024]⟩
abbrev S512x512 : Shape := ⟨2, ![512, 512]⟩
abbrev S1x1024x1024 : Shape := ⟨3, ![1, 1024, 1024]⟩
abbrev S1x512x1024 : Shape := ⟨3, ![1, 512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S49152x1024, .f32⟩
  | .hbm, ⟨1, _⟩ => ⟨S49152x512, .f32⟩
  | .hbm, ⟨2, _⟩ => ⟨S49152x512, .f32⟩
  | .hbm, ⟨3, _⟩ => ⟨S2x1024x1024, .f32⟩
  | .hbm, ⟨4, _⟩ => ⟨S2x1024x1024, .bf16⟩
  | .hbm, ⟨5, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024x1024, .bf16⟩
  | .local _ .vmem, ⟨7, _⟩ => ⟨S512x1024, .f32⟩
  | .local _ .vmem, ⟨8, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutEvenRefIdeal.lean ====
abbrev S49152x1024 : Shape := ⟨2, ![49152, 1024]⟩
abbrev S49152x512 : Shape := ⟨2, ![49152, 512]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x512, .f32⟩
  | .hbm, ⟨2, _⟩ => ⟨S49152x512, .f32⟩
  | .hbm, ⟨3, _⟩ => ⟨S2x1024x1024, .f32⟩
  | .hbm, ⟨4, _⟩ => ⟨S49152x1024, .f32⟩
  | .hbm, ⟨5, _⟩ => ⟨S1x1024x1024, .f32⟩
  | .hbm, ⟨6, _⟩ => ⟨S1024x1024, .f32⟩
  | .hbm, ⟨7, _⟩ => ⟨S49152x1024, .f32⟩
  | .hbm, ⟨8, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutOdd.lean ====
abbrev S49152x1024 : Shape := ⟨2, ![49152, 1024]⟩
abbrev S49152x512 : Shape := ⟨2, ![49152, 512]⟩
abbrev S49152x2560 : Shape := ⟨2, ![49152, 2560]⟩
abbrev S2x1024x1024 : Shape := ⟨3, ![2, 1024, 1024]⟩
abbrev S512x1024 : Shape := ⟨2, ![512, 1024]⟩
abbrev S512x512 : Shape := ⟨2, ![512, 512]⟩
abbrev S1x1024x1024 : Shape := ⟨3, ![1, 1024, 1024]⟩
abbrev S1x512x1024 : Shape := ⟨3, ![1, 512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S49152x1024, .f32⟩
  | .hbm, ⟨1, _⟩ => ⟨S49152x512, .f32⟩
  | .hbm, ⟨2, _⟩ => ⟨S49152x512, .f32⟩
  | .hbm, ⟨3, _⟩ => ⟨S49152x2560, .f32⟩
  | .hbm, ⟨4, _⟩ => ⟨S49152x512, .f32⟩
  | .hbm, ⟨5, _⟩ => ⟨S2x1024x1024, .f32⟩
  | .hbm, ⟨6, _⟩ => ⟨S2x1024x1024, .bf16⟩
  | .hbm, ⟨7, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x1024x1024, .bf16⟩
  | .local _ .vmem, ⟨11, _⟩ => ⟨S512x1024, .f32⟩
  | .local _ .vmem, ⟨12, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutOddRefIdeal.lean ====
abbrev S49152x1024 : Shape := ⟨2, ![49152, 1024]⟩
abbrev S49152x512 : Shape := ⟨2, ![49152, 512]⟩
abbrev S49152x2560 : Shape := ⟨2, ![49152, 2560]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 31
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x512, .f32⟩
  | .hbm, ⟨2, _⟩ => ⟨S49152x512, .f32⟩
  | .hbm, ⟨3, _⟩ => ⟨S49152x2560, .f32⟩
  | .hbm, ⟨4, _⟩ => ⟨S49152x512, .f32⟩
  | .hbm, ⟨5, _⟩ => ⟨S2x1024x1024, .f32⟩
  | .hbm, ⟨6, _⟩ => ⟨S49152x512, .f32⟩
  | .hbm, ⟨7, _⟩ => ⟨S49152x512, .f32⟩
  | .hbm, ⟨8, _⟩ => ⟨S49152x512, .f32⟩
  | .hbm, ⟨9, _⟩ => ⟨S49152x512, .f32⟩
  | .hbm, ⟨10, _⟩ => ⟨S_, .f32⟩
  | .hbm, ⟨11, _⟩ => ⟨S49152x512, .f32⟩
  | .hbm, ⟨12, _⟩ => ⟨S49152x512, .f32⟩
  | .hbm, ⟨13, _⟩ => ⟨S49152x512, .f32⟩
  | .hbm, ⟨14, _⟩ => ⟨S_, .f32⟩
  | .hbm, ⟨15, _⟩ => ⟨S49152x512, .f32⟩
  | .hbm, ⟨16, _⟩ => ⟨S49152x512, .f32⟩
  | .hbm, ⟨17, _⟩ => ⟨S49152x512, .f32⟩
  | .hbm, ⟨18, _⟩ => ⟨S_, .f32⟩
  | .hbm, ⟨19, _⟩ => ⟨S49152x512, .f32⟩
  | .hbm, ⟨20, _⟩ => ⟨S49152x512, .f32⟩
  | .hbm, ⟨21, _⟩ => ⟨S_, .f32⟩
  | .hbm, ⟨22, _⟩ => ⟨S49152x512, .f32⟩
  | .hbm, ⟨23, _⟩ => ⟨S49152x512, .f32⟩
  | .hbm, ⟨24, _⟩ => ⟨S49152x512, .f32⟩
  | .hbm, ⟨25, _⟩ => ⟨S49152x512, .f32⟩
  | .hbm, ⟨26, _⟩ => ⟨S49152x1024, .f32⟩
  | .hbm, ⟨27, _⟩ => ⟨S1x1024x1024, .f32⟩
  | .hbm, ⟨28, _⟩ => ⟨S1024x1024, .f32⟩
  | .hbm, ⟨29, _⟩ => ⟨S49152x1024, .f32⟩
  | .hbm, ⟨30, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== SFive.lean ====
abbrev S49152x2304 : Shape := ⟨2, ![49152, 2304]⟩
abbrev S49152x512 : Shape := ⟨2, ![49152, 512]⟩
abbrev S2x512 : Shape := ⟨2, ![2, 512]⟩
abbrev S2x512x512 : Shape := ⟨3, ![2, 512, 512]⟩
abbrev S2x1x512 : Shape := ⟨3, ![2, 1, 512]⟩
abbrev S512x512 : Shape := ⟨2, ![512, 512]⟩
abbrev S1x1x512 : Shape := ⟨3, ![1, 1, 512]⟩
abbrev S1x512x512 : Shape := ⟨3, ![1, 512, 512]⟩
abbrev S1x512 : Shape := ⟨2, ![1, 512]⟩

abbrev nBuf : Space → Nat
  | .hbm => 10
  | .vmem => 11
  | .smem => 0
  | _ => 0

abbrev bufTy : (tb : Table) → Fin (tcTables nBuf tb) → BufTy
  | .hbm, ⟨0, _⟩ => ⟨S49152x2304, .f32⟩
  | .hbm, ⟨1, _⟩ => ⟨S49152x512, .f32⟩
  | .hbm, ⟨2, _⟩ => ⟨S49152x512, .f32⟩
  | .hbm, ⟨3, _⟩ => ⟨S2x512, .f32⟩
  | .hbm, ⟨4, _⟩ => ⟨S2x512x512, .f32⟩
  | .hbm, ⟨5, _⟩ => ⟨S2x512, .f32⟩
  | .hbm, ⟨6, _⟩ => ⟨S2x1x512, .f32⟩
  | .hbm, ⟨7, _⟩ => ⟨S2x512x512, .bf16⟩
  | .hbm, ⟨8, _⟩ => ⟨S2x1x512, .f32⟩
  | .hbm, ⟨9, _⟩ => ⟨S49152x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x512x512, .bf16⟩
  | .local _ .vmem, ⟨8, _⟩ => ⟨S1x1x512, .f32⟩
  | .local _ .vmem, ⟨9, _⟩ => ⟨S512x512, .f32⟩
  | .local _ .vmem, ⟨10, _⟩ => ⟨S512x512, .f32⟩
  | _, _ => ⟨S49152x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SFiveRefIdeal.lean ====
abbrev S49152x2304 : Shape := ⟨2, ![49152, 2304]⟩
abbrev S49152x512 : Shape := ⟨2, ![49152, 512]⟩
abbrev S2x512 : Shape := ⟨2, ![2, 512]⟩
abbrev S2x512x512 : Shape := ⟨3, ![2, 512, 512]⟩
abbrev S1x512 : Shape := ⟨2, ![1, 512]⟩
abbrev S512 : Shape := ⟨1, ![512]⟩
abbrev S_ : Shape := ⟨0, ![]⟩
abbrev S1x512x512 : Shape := ⟨3, ![1, 512, 512]⟩
abbrev S512x512 : Shape := ⟨2, ![512, 512]⟩

abbrev nBuf : Space → Nat
  | .hbm => 48
  | .vmem => 0
  | .smem => 0
  | _ => 0

abbrev bufTy : (tb : Table) → Fin (tcTables nBuf tb) → BufTy
  | .hbm, ⟨0, _⟩ => ⟨S49152x2304, .f32⟩
  | .hbm, ⟨1, _⟩ => ⟨S49152x512, .f32⟩
  | .hbm, ⟨2, _⟩ => ⟨S49152x512, .f32⟩
  | .hbm, ⟨3, _⟩ => ⟨S2x512, .f32⟩
  | .hbm, ⟨4, _⟩ => ⟨S2x512x512, .f32⟩
  | .hbm, ⟨5, _⟩ => ⟨S2x512, .f32⟩
  | .hbm, ⟨6, _⟩ => ⟨S49152x512, .f32⟩
  | .hbm, ⟨7, _⟩ => ⟨S49152x512, .f32⟩
  | .hbm, ⟨8, _⟩ => ⟨S1x512, .f32⟩
  | .hbm, ⟨9, _⟩ => ⟨S512, .f32⟩
  | .hbm, ⟨10, _⟩ => ⟨S1x512, .f32⟩
  | .hbm, ⟨11, _⟩ => ⟨S49152x512, .f32⟩
  | .hbm, ⟨12, _⟩ => ⟨S49152x512, .f32⟩
  | .hbm, ⟨13, _⟩ => ⟨S49152x512, .f32⟩
  | .hbm, ⟨14, _⟩ => ⟨S49152x512, .f32⟩
  | .hbm, ⟨15, _⟩ => ⟨S49152x512, .f32⟩
  | .hbm, ⟨16, _⟩ => ⟨S_, .f32⟩
  | .hbm, ⟨17, _⟩ => ⟨S49152x512, .f32⟩
  | .hbm, ⟨18, _⟩ => ⟨S49152x512, .f32⟩
  | .hbm, ⟨19, _⟩ => ⟨S49152x512, .f32⟩
  | .hbm, ⟨20, _⟩ => ⟨S_, .f32⟩
  | .hbm, ⟨21, _⟩ => ⟨S49152x512, .f32⟩
  | .hbm, ⟨22, _⟩ => ⟨S49152x512, .f32⟩
  | .hbm, ⟨23, _⟩ => ⟨S49152x512, .f32⟩
  | .hbm, ⟨24, _⟩ => ⟨S_, .f32⟩
  | .hbm, ⟨25, _⟩ => ⟨S49152x512, .f32⟩
  | .hbm, ⟨26, _⟩ => ⟨S49152x512, .f32⟩
  | .hbm, ⟨27, _⟩ => ⟨S_, .f32⟩
  | .hbm, ⟨28, _⟩ => ⟨S49152x512, .f32⟩
  | .hbm, ⟨29, _⟩ => ⟨S49152x512, .f32⟩
  | .hbm, ⟨30, _⟩ => ⟨S49152x512, .f32⟩
  | .hbm, ⟨31, _⟩ => ⟨S1x512x512, .f32⟩
  | .hbm, ⟨32, _⟩ => ⟨S512x512, .f32⟩
  | .hbm, ⟨33, _⟩ => ⟨S49152x512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S49152x512, .f32⟩
  | .hbm, ⟨38, _⟩ => ⟨S49152x512, .f32⟩
  | .hbm, ⟨39, _⟩ => ⟨S49152x512, .f32⟩
  | .hbm, ⟨40, _⟩ => ⟨S49152x512, .f32⟩
  | .hbm, ⟨41, _⟩ => ⟨S_, .f32⟩
  | .hbm, ⟨42, _⟩ => ⟨S49152x512, .f32⟩
  | .hbm, ⟨43, _⟩ => ⟨S49152x512, .f32⟩
  | .hbm, ⟨44, _⟩ => ⟨S_, .f32⟩
  | .hbm, ⟨45, _⟩ => ⟨S49152x512, .f32⟩
  | .hbm, ⟨46, _⟩ => ⟨S49152x512, .f32⟩
  | .hbm, ⟨47, _⟩ => ⟨S49152x512, .f32⟩
  | _, _ => ⟨S49152x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Norm.lean ====
abbrev S8x4096x1024 : Shape := ⟨3, ![8, 4096, 1024]⟩
abbrev S2x8192x1024 : Shape := ⟨3, ![2, 8192, 1024]⟩
abbrev S1024 : Shape := ⟨1, ![1024]⟩
abbrev S32768x1024 : Shape := ⟨2, ![32768, 1024]⟩
abbrev S16384x1024 : Shape := ⟨2, ![16384, 1024]⟩
abbrev S49152x1024 : Shape := ⟨2, ![49152, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S2x8192x1024, .f32⟩
  | .hbm, ⟨2, _⟩ => ⟨S1024, .f32⟩
  | .hbm, ⟨3, _⟩ => ⟨S32768x1024, .f32⟩
  | .hbm, ⟨4, _⟩ => ⟨S16384x1024, .f32⟩
  | .hbm, ⟨5, _⟩ => ⟨S49152x1024, .f32⟩
  | .hbm, ⟨6, _⟩ => ⟨S1x1024, .f32⟩
  | .hbm, ⟨7, _⟩ => ⟨S49152x1024, .f32⟩
  | .hbm, ⟨8, _⟩ => ⟨S32768x1024, .f32⟩
  | .hbm, ⟨9, _⟩ => ⟨S8x4096x1024, .f32⟩
  | .hbm, ⟨10, _⟩ => ⟨S16384x1024, .f32⟩
  | .hbm, ⟨11, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8x4096x1024 : Shape := ⟨3, ![8, 4096, 1024]⟩
abbrev S2x8192x1024 : Shape := ⟨3, ![2, 8192, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S2x8192 : Shape := ⟨2, ![2, 8192]⟩
abbrev S2x8192x1 : Shape := ⟨3, ![2, 8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x8192x1024, .f32⟩
  | .hbm, ⟨2, _⟩ => ⟨S1024, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S2x8192x1024, .f32⟩
  | .hbm, ⟨34, _⟩ => ⟨S2x8192x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== HyConv.lean ====
abbrev S49152x2560 : Shape := ⟨2, ![49152, 2560]⟩
abbrev S2x3x1536 : Shape := ⟨3, ![2, 3, 1536]⟩
abbrev S2x1536 : Shape := ⟨2, ![2, 1536]⟩
abbrev S2x1x1536 : Shape := ⟨3, ![2, 1, 1536]⟩
abbrev S49152x1536 : Shape := ⟨2, ![49152, 1536]⟩
abbrev S512x1536 : Shape := ⟨2, ![512, 1536]⟩
abbrev S8x1536 : Shape := ⟨2, ![8, 1536]⟩
abbrev S1x3x1536 : Shape := ⟨3, ![1, 3, 1536]⟩
abbrev S1x1x1536 : Shape := ⟨3, ![1, 1, 1536]⟩
abbrev S1x1536 : Shape := ⟨2, ![1, 1536]⟩

abbrev nBuf : Space → Nat
  | .hbm => 5
  | .vmem => 10
  | .smem => 0
  | _ => 0

abbrev bufTy : (tb : Table) → Fin (tcTables nBuf tb) → BufTy
  | .hbm, ⟨0, _⟩ => ⟨S49152x2560, .f32⟩
  | .hbm, ⟨1, _⟩ => ⟨S2x3x1536, .f32⟩
  | .hbm, ⟨2, _⟩ => ⟨S2x1536, .f32⟩
  | .hbm, ⟨3, _⟩ => ⟨S2x1x1536, .f32⟩
  | .hbm, ⟨4, _⟩ => ⟨S49152x1536, .f32⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S8x1536, .f32⟩
  | .local _ .vmem, ⟨6, _⟩ => ⟨S1x3x1536, .f32⟩
  | .local _ .vmem, ⟨7, _⟩ => ⟨S1x1x1536, .f32⟩
  | .local _ .vmem, ⟨8, _⟩ => ⟨S512x1536, .f32⟩
  | .local _ .vmem, ⟨9, _⟩ => ⟨S512x1536, .f32⟩
  | _, _ => ⟨S49152x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c6143_i32 : BitVec 32 := 6143#32
  let v2 : BitVec 32 := Scalar.minsi v1 c6143_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HyConvRefIdeal.lean ====
abbrev S49152x2560 : Shape := ⟨2, ![49152, 2560]⟩
abbrev S2x3x1536 : Shape := ⟨3, ![2, 3, 1536]⟩
abbrev S2x1536 : Shape := ⟨2, ![2, 1536]⟩
abbrev S49152x1536 : Shape := ⟨2, ![49152, 1536]⟩
abbrev S1x3x1536 : Shape := ⟨3, ![1, 3, 1536]⟩
abbrev S3x1536 : Shape := ⟨2, ![3, 1536]⟩
abbrev S1x1536 : Shape := ⟨2, ![1, 1536]⟩
abbrev S1536 : Shape := ⟨1, ![1536]⟩
abbrev S49152 : Shape := ⟨1, ![49152]⟩
abbrev S_ : Shape := ⟨0, ![]⟩
abbrev S49152x1 : Shape := ⟨2, ![49152, 1]⟩
abbrev S49156x1536 : Shape := ⟨2, ![49156, 1536]⟩

abbrev nBuf : Space → Nat
  | .hbm => 83
  | .vmem => 0
  | .smem => 0
  | _ => 0

abbrev bufTy : (tb : Table) → Fin (tcTables nBuf tb) → BufTy
  | .hbm, ⟨0, _⟩ => ⟨S49152x2560, .f32⟩
  | .hbm, ⟨1, _⟩ => ⟨S2x3x1536, .f32⟩
  | .hbm, ⟨2, _⟩ => ⟨S2x1536, .f32⟩
  | .hbm, ⟨3, _⟩ => ⟨S49152x1536, .f32⟩
  | .hbm, ⟨4, _⟩ => ⟨S1x3x1536, .f32⟩
  | .hbm, ⟨5, _⟩ => ⟨S3x1536, .f32⟩
  | .hbm, ⟨6, _⟩ => ⟨S1x1536, .f32⟩
  | .hbm, ⟨7, _⟩ => ⟨S1536, .f32⟩
  | .hbm, ⟨8, _⟩ => ⟨S49152, .i32⟩
  | .hbm, ⟨9, _⟩ => ⟨S_, .i32⟩
  | .hbm, ⟨10, _⟩ => ⟨S49152, .i32⟩
  | .hbm, ⟨11, _⟩ => ⟨S49152, .i1⟩
  | .hbm, ⟨12, _⟩ => ⟨S_, .i32⟩
  | .hbm, ⟨13, _⟩ => ⟨S49152, .i32⟩
  | .hbm, ⟨14, _⟩ => ⟨S49152, .i32⟩
  | .hbm, ⟨15, _⟩ => ⟨S_, .i32⟩
  | .hbm, ⟨16, _⟩ => ⟨S49152, .i32⟩
  | .hbm, ⟨17, _⟩ => ⟨S49152, .i32⟩
  | .hbm, ⟨18, _⟩ => ⟨S_, .i32⟩
  | .hbm, ⟨19, _⟩ => ⟨S49152, .i32⟩
  | .hbm, ⟨20, _⟩ => ⟨S49152, .i32⟩
  | .hbm, ⟨21, _⟩ => ⟨S49152, .i32⟩
  | .hbm, ⟨22, _⟩ => ⟨S_, .i32⟩
  | .hbm, ⟨23, _⟩ => ⟨S_, .i32⟩
  | .hbm, ⟨24, _⟩ => ⟨S49152, .i32⟩
  | .hbm, ⟨25, _⟩ => ⟨S49152, .i32⟩
  | .hbm, ⟨26, _⟩ => ⟨S49152, .i32⟩
  | .hbm, ⟨27, _⟩ => ⟨S1x1536, .f32⟩
  | .hbm, ⟨28, _⟩ => ⟨S1536, .f32⟩
  | .hbm, ⟨29, _⟩ => ⟨S_, .i32⟩
  | .hbm, ⟨30, _⟩ => ⟨S49152, .i32⟩
  | .hbm, ⟨31, _⟩ => ⟨S49152, .i32⟩
  | .hbm, ⟨32, _⟩ => ⟨S_, .i32⟩
  | .hbm, ⟨33, _⟩ => ⟨S49152, .i32⟩
  | .hbm, ⟨34, _⟩ => ⟨S49152, .i1⟩
  | .hbm, ⟨35, _⟩ => ⟨S49152, .i1⟩
  | .hbm, ⟨36, _⟩ => ⟨S49152, .i1⟩
  | .hbm, ⟨37, _⟩ => ⟨S49152x1, .i1⟩
  | .hbm, ⟨38, _⟩ => ⟨S_, .i32⟩
  | .hbm, ⟨39, _⟩ => ⟨S_, .f32⟩
  | .hbm, ⟨40, _⟩ => ⟨S49156x1536, .f32⟩
  | .hbm, ⟨41, _⟩ => ⟨S49152x1536, .f32⟩
  | .hbm, ⟨42, _⟩ => ⟨S_, .f32⟩
  | .hbm, ⟨43, _⟩ => ⟨S_, .f32⟩
  | .hbm, ⟨44, _⟩ => ⟨S49152x1536, .i1⟩
  | .hbm, ⟨45, _⟩ => ⟨S49152x1536, .f32⟩
  | .hbm, ⟨46, _⟩ => ⟨S49152x1536, .f32⟩
  | .hbm, ⟨47, _⟩ => ⟨S1x1536, .f32⟩
  | .hbm, ⟨48, _⟩ => ⟨S49152x1536, .f32⟩
  | .hbm, ⟨49, _⟩ => ⟨S49152x1536, .f32⟩
  | .hbm, ⟨50, _⟩ => ⟨S1x1536, .f32⟩
  | .hbm, ⟨51, _⟩ => ⟨S1536, .f32⟩
  | .hbm, ⟨52, _⟩ => ⟨S1x1536, .f32⟩
  | .hbm, ⟨53, _⟩ => ⟨S49152x1536, .f32⟩
  | .hbm, ⟨54, _⟩ => ⟨S49152x1536, .f32⟩
  | .hbm, ⟨55, _⟩ => ⟨S49152x1536, .f32⟩
  | .hbm, ⟨56, _⟩ => ⟨S1x1536, .f32⟩
  | .hbm, ⟨57, _⟩ => ⟨S1536, .f32⟩
  | .hbm, ⟨58, _⟩ => ⟨S_, .i32⟩
  | .hbm, ⟨59, _⟩ => ⟨S49152, .i32⟩
  | .hbm, ⟨60, _⟩ => ⟨S49152, .i32⟩
  | .hbm, ⟨61, _⟩ => ⟨S_, .i32⟩
  | .hbm, ⟨62, _⟩ => ⟨S49152, .i32⟩
  | .hbm, ⟨63, _⟩ => ⟨S49152, .i1⟩
  | .hbm, ⟨64, _⟩ => ⟨S49152, .i1⟩
  | .hbm, ⟨65, _⟩ => ⟨S49152, .i1⟩
  | .hbm, ⟨66, _⟩ => ⟨S49152x1, .i1⟩
  | .hbm, ⟨67, _⟩ => ⟨S_, .i32⟩
  | .hbm, ⟨68, _⟩ => ⟨S_, .f32⟩
  | .hbm, ⟨69, _⟩ => ⟨S49156x1536, .f32⟩
  | .hbm, ⟨70, _⟩ => ⟨S49152x1536, .f32⟩
  | .hbm, ⟨71, _⟩ => ⟨S_, .f32⟩
  | .hbm, ⟨72, _⟩ => ⟨S_, .f32⟩
  | .hbm, ⟨73, _⟩ => ⟨S49152x1536, .i1⟩
  | .hbm, ⟨74, _⟩ => ⟨S49152x1536, .f32⟩
  | .hbm, ⟨75, _⟩ => ⟨S49152x1536, .f32⟩
  | .hbm, ⟨76, _⟩ => ⟨S1x1536, .f32⟩
  | .hbm, ⟨77, _⟩ => ⟨S49152x1536, .f32⟩
  | .hbm, ⟨78, _⟩ => ⟨S49152x1536, .f32⟩
  | .hbm, ⟨79, _⟩ => ⟨S49152x1536, .f32⟩
  | .hbm, ⟨80, _⟩ => ⟨S1x1536, .f32⟩
  | .hbm, ⟨81, _⟩ => ⟨S49152x1536, .f32⟩
  | .hbm, ⟨82, _⟩ => ⟨S49152x1536, .f32⟩
  | _, _ => ⟨S49152x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_c_4 : Ref sig .tc := ⟨.hbm, 23, rfl⟩
abbrev main_call1_v0 : Ref sig .tc := ⟨.hbm, 24, rfl⟩
abbrev main_call1_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_call2_v0 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_call4_v0 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== Gates.lean ====
abbrev S49152x2560 : Shape := ⟨2, ![49152, 2560]⟩
abbrev S2x4x512 : Shape := ⟨3, ![2, 4, 512]⟩
abbrev S2x512 : Shape := ⟨2, ![2, 512]⟩
abbrev S2x2x512 : Shape := ⟨3, ![2, 2, 512]⟩
abbrev S2x2x8x64x64 : Shape := ⟨5, ![2, 2, 8, 64, 64]⟩
abbrev S2x1x8x64x64 : Shape := ⟨5, ![2, 1, 8, 64, 64]⟩
abbrev S2x8x64x64 : Shape := ⟨4, ![2, 8, 64, 64]⟩
abbrev S8x8 : Shape := ⟨2, ![8, 8]⟩
abbrev S_ : Shape := ⟨0, ![]⟩
abbrev S2x8x64x1x64 : Shape := ⟨5, ![2, 8, 64, 1, 64]⟩
abbrev S1x8x1x8x1 : Shape := ⟨5, ![1, 8, 1, 8, 1]⟩
abbrev S2x8x64x8x64 : Shape := ⟨5, ![2, 8, 64, 8, 64]⟩
abbrev S2x512x512 : Shape := ⟨3, ![2, 512, 512]⟩
abbrev S2x512x2048 : Shape := ⟨3, ![2, 512, 2048]⟩
abbrev S2x1x512 : Shape := ⟨3, ![2, 1, 512]⟩
abbrev S2x2048 : Shape := ⟨2, ![2, 2048]⟩
abbrev S2x1x2048 : Shape := ⟨3, ![2, 1, 2048]⟩
abbrev S49152x512 : Shape := ⟨2, ![49152, 512]⟩
abbrev S512x512 : Shape := ⟨2, ![512, 512]⟩
abbrev S8x512 : Shape := ⟨2, ![8, 512]⟩
abbrev S1x4x512 : Shape := ⟨3, ![1, 4, 512]⟩
abbrev S1x1x512 : Shape := ⟨3, ![1, 1, 512]⟩
abbrev S1x2x512 : Shape := ⟨3, ![1, 2, 512]⟩
abbrev S1x512x2048 : Shape := ⟨3, ![1, 512, 2048]⟩
abbrev S1x1x2048 : Shape := ⟨3, ![1, 1, 2048]⟩
abbrev S1x512 : Shape := ⟨2, ![1, 512]⟩
abbrev S512x2048 : Shape := ⟨2, ![512, 2048]⟩
abbrev S1x2048 : Shape := ⟨2, ![1, 2048]⟩

abbrev nBuf : Space → Nat
  | .hbm => 85
  | .vmem => 19
  | .smem => 0
  | _ => 0

abbrev bufTy : (tb : Table) → Fin (tcTables nBuf tb) → BufTy
  | .hbm, ⟨0, _⟩ => ⟨S49152x2560, .f32⟩
  | .hbm, ⟨1, _⟩ => ⟨S2x4x512, .f32⟩
  | .hbm, ⟨2, _⟩ => ⟨S2x512, .f32⟩
  | .hbm, ⟨3, _⟩ => ⟨S2x2x512, .f32⟩
  | .hbm, ⟨4, _⟩ => ⟨S2x2x8x64x64, .f32⟩
  | .hbm, ⟨5, _⟩ => ⟨S2x2x512, .f32⟩
  | .hbm, ⟨6, _⟩ => ⟨S2x2x8x64x64, .f32⟩
  | .hbm, ⟨7, _⟩ => ⟨S2x2x512, .f32⟩
  | .hbm, ⟨8, _⟩ => ⟨S2x1x8x64x64, .f32⟩
  | .hbm, ⟨9, _⟩ => ⟨S2x8x64x64, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S2x8x64x1x64, .f32⟩
  | .hbm, ⟨18, _⟩ => ⟨S1x8x1x8x1, .f32⟩
  | .hbm, ⟨19, _⟩ => ⟨S2x8x64x8x64, .f32⟩
  | .hbm, ⟨20, _⟩ => ⟨S2x8x64x8x64, .f32⟩
  | .hbm, ⟨21, _⟩ => ⟨S2x8x64x8x64, .f32⟩
  | .hbm, ⟨22, _⟩ => ⟨S2x512x512, .f32⟩
  | .hbm, ⟨23, _⟩ => ⟨S2x1x8x64x64, .f32⟩
  | .hbm, ⟨24, _⟩ => ⟨S2x8x64x64, .f32⟩
  | .hbm, ⟨25, _⟩ => ⟨S8x8, .i32⟩
  | .hbm, ⟨26, _⟩ => ⟨S8x8, .i32⟩
  | .hbm, ⟨27, _⟩ => ⟨S_, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S8x8, .f32⟩
  | .hbm, ⟨32, _⟩ => ⟨S2x8x64x1x64, .f32⟩
  | .hbm, ⟨33, _⟩ => ⟨S1x8x1x8x1, .f32⟩
  | .hbm, ⟨34, _⟩ => ⟨S2x8x64x8x64, .f32⟩
  | .hbm, ⟨35, _⟩ => ⟨S2x8x64x8x64, .f32⟩
  | .hbm, ⟨36, _⟩ => ⟨S2x8x64x8x64, .f32⟩
  | .hbm, ⟨37, _⟩ => ⟨S2x512x512, .f32⟩
  | .hbm, ⟨38, _⟩ => ⟨S2x1x8x64x64, .f32⟩
  | .hbm, ⟨39, _⟩ => ⟨S2x8x64x64, .f32⟩
  | .hbm, ⟨40, _⟩ => ⟨S8x8, .i32⟩
  | .hbm, ⟨41, _⟩ => ⟨S8x8, .i32⟩
  | .hbm, ⟨42, _⟩ => ⟨S_, .i32⟩
  | .hbm, ⟨43, _⟩ => ⟨S8x8, .i32⟩
  | .hbm, ⟨44, _⟩ => ⟨S8x8, .i32⟩
  | .hbm, ⟨45, _⟩ => ⟨S8x8, .i1⟩
  | .hbm, ⟨46, _⟩ => ⟨S8x8, .f32⟩
  | .hbm, ⟨47, _⟩ => ⟨S2x8x64x1x64, .f32⟩
  | .hbm, ⟨48, _⟩ => ⟨S1x8x1x8x1, .f32⟩
  | .hbm, ⟨49, _⟩ => ⟨S2x8x64x8x64, .f32⟩
  | .hbm, ⟨50, _⟩ => ⟨S2x8x64x8x64, .f32⟩
  | .hbm, ⟨51, _⟩ => ⟨S2x8x64x8x64, .f32⟩
  | .hbm, ⟨52, _⟩ => ⟨S2x512x512, .f32⟩
  | .hbm, ⟨53, _⟩ => ⟨S2x1x8x64x64, .f32⟩
  | .hbm, ⟨54, _⟩ => ⟨S2x8x64x64, .f32⟩
  | .hbm, ⟨55, _⟩ => ⟨S8x8, .i32⟩
  | .hbm, ⟨56, _⟩ => ⟨S8x8, .i32⟩
  | .hbm, ⟨57, _⟩ => ⟨S_, .i32⟩
  | .hbm, ⟨58, _⟩ => ⟨S8x8, .i32⟩
  | .hbm, ⟨59, _⟩ => ⟨S8x8, .i32⟩
  | .hbm, ⟨60, _⟩ => ⟨S8x8, .i1⟩
  | .hbm, ⟨61, _⟩ => ⟨S8x8, .f32⟩
  | .hbm, ⟨62, _⟩ => ⟨S2x8x64x1x64, .f32⟩
  | .hbm, ⟨63, _⟩ => ⟨S1x8x1x8x1, .f32⟩
  | .hbm, ⟨64, _⟩ => ⟨S2x8x64x8x64, .f32⟩
  | .hbm, ⟨65, _⟩ => ⟨S2x8x64x8x64, .f32⟩
  | .hbm, ⟨66, _⟩ => ⟨S2x8x64x8x64, .f32⟩
  | .hbm, ⟨67, _⟩ => ⟨S2x512x512, .f32⟩
  | .hbm, ⟨68, _⟩ => ⟨S2x512x2048, .f32⟩
  | .hbm, ⟨69, _⟩ => ⟨S2x1x512, .f32⟩
  | .hbm, ⟨70, _⟩ => ⟨S2x512, .f32⟩
  | .hbm, ⟨71, _⟩ => ⟨S2x1x512, .f32⟩
  | .hbm, ⟨72, _⟩ => ⟨S2x512, .f32⟩
  | .hbm, ⟨73, _⟩ => ⟨S2x1x512, .f32⟩
  | .hbm, ⟨74, _⟩ => ⟨S2x512, .f32⟩
  | .hbm, ⟨75, _⟩ => ⟨S2x1x512, .f32⟩
  | .hbm, ⟨76, _⟩ => ⟨S2x512, .f32⟩
  | .hbm, ⟨77, _⟩ => ⟨S2x2048, .f32⟩
  | .hbm, ⟨78, _⟩ => ⟨S2x1x512, .f32⟩
  | .hbm, ⟨79, _⟩ => ⟨S2x512x2048, .bf16⟩
  | .hbm, ⟨80, _⟩ => ⟨S2x1x2048, .f32⟩
  | .hbm, ⟨81, _⟩ => ⟨S49152x512, .f32⟩
  | .hbm, ⟨82, _⟩ => ⟨S49152x512, .f32⟩
  | .hbm, ⟨83, _⟩ => ⟨S49152x512, .f32⟩
  | .hbm, ⟨84, _⟩ => ⟨S49152x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S1x4x512, .f32⟩
  | .local _ .vmem, ⟨7, _⟩ => ⟨S1x1x512, .f32⟩
  | .local _ .vmem, ⟨8, _⟩ => ⟨S1x2x512, .f32⟩
  | .local _ .vmem, ⟨9, _⟩ => ⟨S1x512x2048, .bf16⟩
  | .local _ .vmem, ⟨10, _⟩ => ⟨S1x1x2048, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | _, _ => ⟨S49152x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_2 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69_0 : Ref sig .tc := ⟨.hbm, 81, rfl⟩
abbrev main_v69_1 : Ref sig .tc := ⟨.hbm, 82, rfl⟩
abbrev main_v69_2 : Ref sig .tc := ⟨.hbm, 83, rfl⟩
abbrev main_v69_3 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c6143_i32 : BitVec 32 := 6143#32
  let v2 : BitVec 32 := Scalar.minsi v1 c6143_i32
  let c3_i32 : BitVec 32 := 3#32
  let c0_i32 : BitVec 32 := 0#32
  ![v2.toNat, c3_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GatesRefIdeal.lean ====
abbrev S49152x2560 : Shape := ⟨2, ![49152, 2560]⟩
abbrev S2x4x512 : Shape := ⟨3, ![2, 4, 512]⟩
abbrev S2x512 : Shape := ⟨2, ![2, 512]⟩
abbrev S2x2x512 : Shape := ⟨3, ![2, 2, 512]⟩
abbrev S2x2x8x64x64 : Shape := ⟨5, ![2, 2, 8, 64, 64]⟩
abbrev S49152x512 : Shape := ⟨2, ![49152, 512]⟩
abbrev S1x4x512 : Shape := ⟨3, ![1, 4, 512]⟩
abbrev S4x512 : Shape := ⟨2, ![4, 512]⟩
abbrev S1x512 : Shape := ⟨2, ![1, 512]⟩
abbrev S512 : Shape := ⟨1, ![512]⟩
abbrev S49152 : Shape := ⟨1, ![49152]⟩
abbrev S_ : Shape := ⟨0, ![]⟩
abbrev S49152x1 : Shape := ⟨2, ![49152, 1]⟩
abbrev S49156x512 : Shape := ⟨2, ![49156, 512]⟩
abbrev S49152x8x64 : Shape := ⟨3, ![49152, 8, 64]⟩
abbrev S1x1x8x64x64 : Shape := ⟨5, ![1, 1, 8, 64, 64]⟩
abbrev S8x64x64 : Shape := ⟨3, ![8, 64, 64]⟩
abbrev S8x64x49152 : Shape := ⟨3, ![8, 64, 49152]⟩
abbrev S1x1x512 : Shape := ⟨3, ![1, 1, 512]⟩

abbrev nBuf : Space → Nat
  | .hbm => 249
  | .vmem => 0
  | .smem => 0
  | _ => 0

abbrev hbmTy0_0 (i : Nat) : BufTy := match i % 128 with
  | 0 => ⟨S49152x2560, .f32⟩
  | 1 => ⟨S2x4x512, .f32⟩
  | 2 => ⟨S2x512, .f32⟩
  | 3 => ⟨S2x2x512, .f32⟩
  | 4 => ⟨S2x2x8x64x64, .f32⟩
  | 5 => ⟨S2x2x512, .f32⟩
  | 6 => ⟨S2x2x8x64x64, .f32⟩
  | 7 => ⟨S2x2x512, .f32⟩
  | 8 => ⟨S49152x512, .f32⟩
  | 9 => ⟨S1x4x512, .f32⟩
  | 10 => ⟨S4x512, .f32⟩
  | 11 => ⟨S1x512, .f32⟩
  | 12 => ⟨S512, .f32⟩
  | 13 => ⟨S49152, .i32⟩
  | 14 => ⟨S_, .i32⟩
  | 15 => ⟨S49152, .i32⟩
  | 16 => ⟨S49152, .i1⟩
  | 17 => ⟨S_, .i32⟩
  | 18 => ⟨S49152, .i32⟩
  | 19 => ⟨S49152, .i32⟩
  | 20 => ⟨S_, .i32⟩
  | 21 => ⟨S49152, .i32⟩
  | 22 => ⟨S49152, .i32⟩
  | 23 => ⟨S_, .i32⟩
  | 24 => ⟨S49152, .i32⟩
  | 25 => ⟨S49152, .i32⟩
  | 26 => ⟨S49152, .i32⟩
  | 27 => ⟨S_, .i32⟩
  | 28 => ⟨S_, .i32⟩
  | 29 => ⟨S49152, .i32⟩
  | 30 => ⟨S49152, .i32⟩
  | 31 => ⟨S49152, .i32⟩
  | 32 => ⟨S1x512, .f32⟩
  | 33 => ⟨S512, .f32⟩
  | 34 => ⟨S_, .i32⟩
  | 35 => ⟨S49152, .i32⟩
  | 36 => ⟨S49152, .i32⟩
  | 37 => ⟨S_, .i32⟩
  | 38 => ⟨S49152, .i32⟩
  | 39 => ⟨S49152, .i1⟩
  | 40 => ⟨S49152, .i1⟩
  | 41 => ⟨S49152, .i1⟩
  | 42 => ⟨S49152x1, .i1⟩
  | 43 => ⟨S_, .i32⟩
  | 44 => ⟨S_, .f32⟩
  | 45 => ⟨S49156x512, .f32⟩
  | 46 => ⟨S49152x512, .f32⟩
  | 47 => ⟨S_, .f32⟩
  | 48 => ⟨S_, .f32⟩
  | 49 => ⟨S49152x512, .i1⟩
  | 50 => ⟨S49152x512, .f32⟩
  | 51 => ⟨S49152x512, .f32⟩
  | 52 => ⟨S1x512, .f32⟩
  | 53 => ⟨S49152x512, .f32⟩
  | 54 => ⟨S49152x512, .f32⟩
  | 55 => ⟨S1x512, .f32⟩
  | 56 => ⟨S512, .f32⟩
  | 57 => ⟨S_, .i32⟩
  | 58 => ⟨S49152, .i32⟩
  | 59 => ⟨S49152, .i32⟩
  | 60 => ⟨S_, .i32⟩
  | 61 => ⟨S49152, .i32⟩
  | 62 => ⟨S49152, .i1⟩
  | 63 => ⟨S49152, .i1⟩
  | 64 => ⟨S49152, .i1⟩
  | 65 => ⟨S49152x1, .i1⟩
  | 66 => ⟨S_, .i32⟩
  | 67 => ⟨S_, .f32⟩
  | 68 => ⟨S49156x512, .f32⟩
  | 69 => ⟨S49152x512, .f32⟩
  | 70 => ⟨S_, .f32⟩
  | 71 => ⟨S_, .f32⟩
  | 72 => ⟨S49152x512, .i1⟩
  | 73 => ⟨S49152x512, .f32⟩
  | 74 => ⟨S49152x512, .f32⟩
  | 75 => ⟨S1x512, .f32⟩
  | 76 => ⟨S49152x512, .f32⟩
  | 77 => ⟨S49152x512, .f32⟩
  | 78 => ⟨S49152x512, .f32⟩
  | 79 => ⟨S1x512, .f32⟩
  | 80 => ⟨S512, .f32⟩
  | 81 => ⟨S1x512, .f32⟩
  | 82 => ⟨S49152x512, .f32⟩
  | 83 => ⟨S49152x512, .f32⟩
  | 84 => ⟨S49152x512, .f32⟩
  | 85 => ⟨S1x512, .f32⟩
  | 86 => ⟨S512, .f32⟩
  | 87 => ⟨S_, .i32⟩
  | 88 => ⟨S49152, .i32⟩
  | 89 => ⟨S49152, .i32⟩
  | 90 => ⟨S_, .i32⟩
  | 91 => ⟨S49152, .i32⟩
  | 92 => ⟨S49152, .i1⟩
  | 93 => ⟨S49152, .i1⟩
  | 94 => ⟨S49152, .i1⟩
  | 95 => ⟨S49152x1, .i1⟩
  | 96 => ⟨S_, .i32⟩
  | 97 => ⟨S_, .f32⟩
  | 98 => ⟨S49156x512, .f32⟩
  | 99 => ⟨S49152x512, .f32⟩
  | 100 => ⟨S_, .f32⟩
  | 101 => ⟨S_, .f32⟩
  | 102 => ⟨S49152x512, .i1⟩
  | 103 => ⟨S49152x512, .f32⟩
  | 104 => ⟨S49152x512, .f32⟩
  | 105 => ⟨S1x512, .f32⟩
  | 106 => ⟨S49152x512, .f32⟩
  | 107 => ⟨S49152x512, .f32⟩
  | 108 => ⟨S49152x512, .f32⟩
  | 109 => ⟨S1x512, .f32⟩
  | 110 => ⟨S49152x512, .f32⟩
  | 111 => ⟨S49152x512, .f32⟩
  | 112 => ⟨S49152x8x64, .f32⟩
  | 113 => ⟨S1x1x8x64x64, .f32⟩
  | 114 => ⟨S8x64x64, .f32⟩
  | 115 => ⟨S8x64x49152, .f32⟩
  | 116 => ⟨S49152x8x64, .f32⟩
  | 117 => ⟨S49152x512, .f32⟩
  | 118 => ⟨S1x1x512, .f32⟩
  | 119 => ⟨S512, .f32⟩
  | 120 => ⟨S1x512, .f32⟩
  | 121 => ⟨S49152x512, .f32⟩
  | 122 => ⟨S49152x512, .f32⟩
  | 123 => ⟨S49152x512, .f32⟩
  | 124 => ⟨S49152x512, .f32⟩
  | 125 => ⟨S_, .f32⟩
  | 126 => ⟨S49152x512, .f32⟩
  | 127 => ⟨S49152x512, .f32⟩
  | _ => ⟨S49152x2560, .f32⟩

abbrev hbmTy0_1 (i : Nat) : BufTy := match i % 128 with
  | 0 => ⟨S_, .f32⟩
  | 1 => ⟨S49152x512, .f32⟩
  | 2 => ⟨S49152x512, .f32⟩
  | 3 => ⟨S1x1x8x64x64, .f32⟩
  | 4 => ⟨S8x64x64, .f32⟩
  | 5 => ⟨S8x64x49152, .f32⟩
  | 6 => ⟨S49152x8x64, .f32⟩
  | 7 => ⟨S49152x512, .f32⟩
  | 8 => ⟨S1x1x512, .f32⟩
  | 9 => ⟨S512, .f32⟩
  | 10 => ⟨S1x512, .f32⟩
  | 11 => ⟨S49152x512, .f32⟩
  | 12 => ⟨S49152x512, .f32⟩
  | 13 => ⟨S49152x512, .f32⟩
  | 14 => ⟨S49152x512, .f32⟩
  | 15 => ⟨S_, .f32⟩
  | 16 => ⟨S49152x512, .f32⟩
  | 17 => ⟨S49152x512, .f32⟩
  | 18 => ⟨S_, .f32⟩
  | 19 => ⟨S49152x512, .f32⟩
  | 20 => ⟨S49152x512, .f32⟩
  | 21 => ⟨S_, .f32⟩
  | 22 => ⟨S49152x512, .f32⟩
  | 23 => ⟨S49152x512, .f32⟩
  | 24 => ⟨S1x1x512, .f32⟩
  | 25 => ⟨S512, .f32⟩
  | 26 => ⟨S512, .f32⟩
  | 27 => ⟨S_, .f32⟩
  | 28 => ⟨S512, .f32⟩
  | 29 => ⟨S512, .f32⟩
  | 30 => ⟨S512, .f32⟩
  | 31 => ⟨S512, .f32⟩
  | 32 => ⟨S512, .i1⟩
  | 33 => ⟨S512, .f32⟩
  | 34 => ⟨S512, .f32⟩
  | 35 => ⟨S512, .f32⟩
  | 36 => ⟨S512, .f32⟩
  | 37 => ⟨S512, .f32⟩
  | 38 => ⟨S512, .f32⟩
  | 39 => ⟨S512, .f32⟩
  | 40 => ⟨S512, .f32⟩
  | 41 => ⟨S1x512, .f32⟩
  | 42 => ⟨S49152x512, .f32⟩
  | 43 => ⟨S49152x512, .f32⟩
  | 44 => ⟨S_, .f32⟩
  | 45 => ⟨S49152x512, .f32⟩
  | 46 => ⟨S49152x512, .f32⟩
  | 47 => ⟨S49152x512, .f32⟩
  | 48 => ⟨S49152x512, .f32⟩
  | 49 => ⟨S49152x512, .f32⟩
  | 50 => ⟨S49152x512, .f32⟩
  | 51 => ⟨S49152x512, .f32⟩
  | 52 => ⟨S49152x512, .f32⟩
  | 53 => ⟨S1x1x8x64x64, .f32⟩
  | 54 => ⟨S8x64x64, .f32⟩
  | 55 => ⟨S8x64x49152, .f32⟩
  | 56 => ⟨S49152x8x64, .f32⟩
  | 57 => ⟨S49152x512, .f32⟩
  | 58 => ⟨S1x1x512, .f32⟩
  | 59 => ⟨S512, .f32⟩
  | 60 => ⟨S1x512, .f32⟩
  | 61 => ⟨S49152x512, .f32⟩
  | 62 => ⟨S49152x512, .f32⟩
  | 63 => ⟨S49152x512, .f32⟩
  | 64 => ⟨S49152x512, .f32⟩
  | 65 => ⟨S_, .f32⟩
  | 66 => ⟨S49152x512, .f32⟩
  | 67 => ⟨S49152x512, .f32⟩
  | 68 => ⟨S_, .f32⟩
  | 69 => ⟨S49152x512, .f32⟩
  | 70 => ⟨S49152x512, .f32⟩
  | 71 => ⟨S1x1x8x64x64, .f32⟩
  | 72 => ⟨S8x64x64, .f32⟩
  | 73 => ⟨S8x64x49152, .f32⟩
  | 74 => ⟨S49152x8x64, .f32⟩
  | 75 => ⟨S49152x512, .f32⟩
  | 76 => ⟨S1x1x512, .f32⟩
  | 77 => ⟨S512, .f32⟩
  | 78 => ⟨S1x512, .f32⟩
  | 79 => ⟨S49152x512, .f32⟩
  | 80 => ⟨S49152x512, .f32⟩
  | 81 => ⟨S49152x512, .f32⟩
  | 82 => ⟨S49152x512, .f32⟩
  | 83 => ⟨S_, .f32⟩
  | 84 => ⟨S49152x512, .f32⟩
  | 85 => ⟨S49152x512, .f32⟩
  | 86 => ⟨S_, .f32⟩
  | 87 => ⟨S49152x512, .f32⟩
  | 88 => ⟨S49152x512, .f32⟩
  | 89 => ⟨S_, .f32⟩
  | 90 => ⟨S49152x512, .f32⟩
  | 91 => ⟨S49152x512, .f32⟩
  | 92 => ⟨S1x1x512, .f32⟩
  | 93 => ⟨S512, .f32⟩
  | 94 => ⟨S512, .f32⟩
  | 95 => ⟨S_, .f32⟩
  | 96 => ⟨S512, .f32⟩
  | 97 => ⟨S512, .f32⟩
  | 98 => ⟨S512, .f32⟩
  | 99 => ⟨S512, .f32⟩
  | 100 => ⟨S512, .i1⟩
  | 101 => ⟨S512, .f32⟩
  | 102 => ⟨S512, .f32⟩
  | 103 => ⟨S512, .f32⟩
  | 104 => ⟨S512, .f32⟩
  | 105 => ⟨S512, .f32⟩
  | 106 => ⟨S512, .f32⟩
  | 107 => ⟨S512, .f32⟩
  | 108 => ⟨S512, .f32⟩
  | 109 => ⟨S1x512, .f32⟩
  | 110 => ⟨S49152x512, .f32⟩
  | 111 => ⟨S49152x512, .f32⟩
  | 112 => ⟨S_, .f32⟩
  | 113 => ⟨S49152x512, .f32⟩
  | 114 => ⟨S49152x512, .f32⟩
  | 115 => ⟨S49152x512, .f32⟩
  | 116 => ⟨S49152x512, .f32⟩
  | 117 => ⟨S49152x512, .f32⟩
  | 118 => ⟨S49152x512, .f32⟩
  | 119 => ⟨S49152x512, .f32⟩
  | 120 => ⟨S49152x512, .f32⟩
  | _ => ⟨S49152x2560, .f32⟩

abbrev hbmTy (i : Nat) : BufTy := match i / 128 with
  | 0 => hbmTy0_0 i
  | 1 => hbmTy0_1 i
  | _ => ⟨S49152x2560, .f32⟩

abbrev bufTy : (tb : Table) → Fin (tcTables nBuf tb) → BufTy
  | .hbm, ⟨i, _⟩ => hbmTy i
  | _, _ => ⟨S49152x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_c_4 : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_call2_v0 : Ref sig .tc := ⟨.hbm, 44, rfl⟩
abbrev main_v25 : Ref sig .tc := ⟨.hbm, 45, rfl⟩
abbrev main_v26 : Ref sig .tc := ⟨.hbm, 46, rfl⟩
abbrev main_cst : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_call4_v0 : Ref sig .tc := ⟨.hbm, 67, rfl⟩
abbrev main_v40 : Ref sig .tc := ⟨.hbm, 68, rfl⟩
abbrev main_v41 : Ref sig .tc := ⟨.hbm, 69, rfl⟩
abbrev main_cst_11 : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_12 : Ref sig .tc := ⟨.hbm, 87, rfl⟩
abbrev main_v55 : Ref sig .tc := ⟨.hbm, 88, rfl⟩
abbrev main_v56 : Ref sig .tc := ⟨.hbm, 89, rfl⟩
abbrev main_c_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_14 : Ref sig .tc := ⟨.hbm, 96, rfl⟩
abbrev main_call6_v0 : Ref sig .tc := ⟨.hbm, 97, rfl⟩
abbrev main_v62 : Ref sig .tc := ⟨.hbm, 98, rfl⟩
abbrev main_v63 : Ref sig .tc := ⟨.hbm, 99, rfl⟩
abbrev main_cst_15 : Ref sig .tc := ⟨.hbm, 100, rfl⟩
abbrev main_call7_v0 : Ref sig .tc := ⟨.hbm, 101, rfl⟩
abbrev main_call7_v1 : Ref sig .tc := ⟨.hbm, 102, rfl⟩
abbrev main_call7_v2 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_16 : Ref sig .tc := ⟨.hbm, 125, rfl⟩
abbrev main_v85 : Ref sig .tc := ⟨.hbm, 126, rfl⟩
abbrev main_v86 : Ref sig .tc := ⟨.hbm, 127, rfl⟩
abbrev main_cst_17 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_18 : Ref sig .tc := ⟨.hbm, 143, rfl⟩
abbrev main_v101 : Ref sig .tc := ⟨.hbm, 144, rfl⟩
abbrev main_v102 : Ref sig .tc := ⟨.hbm, 145, rfl⟩
abbrev main_cst_19 : Ref sig .tc := ⟨.hbm, 146, rfl⟩
abbrev main_v103 : Ref sig .tc := ⟨.hbm, 147, rfl⟩
abbrev main_v104 : Ref sig .tc := ⟨.hbm, 148, rfl⟩
abbrev main_cst_20 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_call8_cst : Ref sig .tc := ⟨.hbm, 155, rfl⟩
abbrev main_call8_v0 : Ref sig .tc := ⟨.hbm, 156, rfl⟩
abbrev main_call8_v1 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_call8_v5 : Ref sig .tc := ⟨.hbm, 161, rfl⟩
abbrev main_call8_v6 : Ref sig .tc := ⟨.hbm, 162, rfl⟩
abbrev main_call8_v7 : Ref sig .tc := ⟨.hbm, 163, rfl⟩
abbrev main_call8_v8 : Ref sig .tc := ⟨.hbm, 164, rfl⟩
abbrev main_call8_v9 : Ref sig .tc := ⟨.hbm, 165, rfl⟩
abbrev main_call8_v10 : Ref sig .tc := ⟨.hbm, 166, rfl⟩
abbrev main_call8_v11 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_cst_21 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_22 : Ref sig .tc := ⟨.hbm, 193, rfl⟩
abbrev main_v134 : Ref sig .tc := ⟨.hbm, 194, rfl⟩
abbrev main_v135 : Ref sig .tc := ⟨.hbm, 195, rfl⟩
abbrev main_cst_23 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_cst_24 : Ref sig .tc := ⟨.hbm, 211, rfl⟩
abbrev main_v150 : Ref sig .tc := ⟨.hbm, 212, rfl⟩
abbrev main_v151 : Ref sig .tc := ⟨.hbm, 213, rfl⟩
abbrev main_cst_25 : Ref sig .tc := ⟨.hbm, 214, rfl⟩
abbrev main_v152 : Ref sig .tc := ⟨.hbm, 215, rfl⟩
abbrev main_v153 : Ref sig .tc := ⟨.hbm, 216, rfl⟩
abbrev main_cst_26 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_call9_cst : Ref sig .tc := ⟨.hbm, 223, rfl⟩
abbrev main_call9_v0 : Ref sig .tc := ⟨.hbm, 224, rfl⟩
abbrev main_call9_v1 : Ref sig .tc := ⟨.hbm, 225, rfl⟩
abbrev main_call9_v2 : Ref sig .tc := ⟨.hbm, 226, rfl⟩
abbrev main_call9_v3 : Ref sig .tc := ⟨.hbm, 227, rfl⟩
abbrev main_call9_v4 : Ref sig .tc := ⟨.hbm, 228, rfl⟩
abbrev main_call9_v5 : Ref sig .tc := ⟨.hbm, 229, rfl⟩
abbrev main_call9_v6 : Ref sig .tc := ⟨.hbm, 230, rfl⟩
abbrev main_call9_v7 : Ref sig .tc := ⟨.hbm, 231, rfl⟩
abbrev main_call9_v8 : Ref sig .tc := ⟨.hbm, 232, rfl⟩
abbrev main_call9_v9 : Ref sig .tc := ⟨.hbm, 233, rfl⟩
abbrev main_call9_v10 : Ref sig .tc := ⟨.hbm, 234, rfl⟩
abbrev main_call9_v11 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_cst_27 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩

abbrev nD : Nat := 1
abbrev τ : Topo := Topo.v7x

variable {F : FTy → Type} [FloatOps F]
-- ==== Proof.FfnMath.lean ====
module

public import Idealize.ShloMosaic.PureOps.Ideal

/-! The feed-forward half-step of one token, as the extended-real function both programs are shown to compute: the
    normalised row, the gated hidden units, the residual with half the down projection, and the hidden sum cut in two. -/

@[expose] public section

noncomputable section

namespace Cert.FfnMath

open Idealize.ShloMosaic
open scoped BigOperators

/-- The normalised row: each entry over the root of the row's mean square plus the small constant, times its gain. -/
def normed (x g : Fin 1024 → EReal) (k : Fin 1024) : EReal :=
  x k * Ideal.rsqrt (Ideal.div (∑ j, x j * x j) (Ideal.ofBits .f32 1149239296#32) + Ideal.ofBits .f32 897988541#32) * g k

/-- The projection of the normalised row onto hidden unit `f`. -/
def proj (x g : Fin 1024 → EReal) {n : ℕ} (w : Fin 1024 → Fin n → EReal) (f : Fin n) : EReal :=
  ∑ k, normed x g k * w k f

/-- Hidden unit `f`: the gate times its logistic, times the up projection. -/
def hidden (x g : Fin 1024 → EReal) {n : ℕ} (wg wu : Fin 1024 → Fin n → EReal) (f : Fin n) : EReal :=
  proj x g wg f * Ideal.logistic (proj x g wg f) * proj x g wu f

/-- The half-step's entry `c`: the residual plus half the down projection of the hidden units. -/
def halfStep (x g : Fin 1024 → EReal) (wg wu : Fin 1024 → Fin 2816 → EReal) (wd : Fin 2816 → Fin 1024 → EReal)
    (c : Fin 1024) : EReal :=
  x c + Ideal.ofBits .f32 1056964608#32 * ∑ f, hidden x g wg wu f * wd f c

/-- The lower half of the hidden units, -/
abbrev lo (f : Fin 1408) : Fin 2816 := ⟨f.val, by omega⟩
/-- and the upper half. -/
abbrev hi (f : Fin 1408) : Fin 2816 := ⟨1408 + f.val, by omega⟩

/-- The sum over the hidden units is the sum over the lower half plus the sum over the upper half, so the half-step
    may be accumulated in two chunks. -/
theorem halfStep_chunks (x g : Fin 1024 → EReal) (wg wu : Fin 1024 → Fin 2816 → EReal) (wd : Fin 2816 → Fin 1024 → EReal)
    (c : Fin 1024) :
    halfStep x g wg wu wd c = x c + Ideal.ofBits .f32 1056964608#32
      * ((∑ f, hidden x g (fun k f => wg k (lo f)) (fun k f => wu k (lo f)) f * wd (lo f) c)
        + ∑ f, hidden x g (fun k f => wg k (hi f)) (fun k f => wu k (hi f)) f * wd (hi f) c) := by
  unfold halfStep
  rw [Fin.sum_univ_add (a := 1408) (b := 1408)]
  rfl

end Cert.FfnMath

end
-- ==== Proof.Rows.lean ====
module

public import Idealize.ShloMosaic.Lib.ValueIdx
public import Idealize.ShloMosaic.Lib.Pipeline.ValueKit

/-! Facts that every tiled call shares: the offsets of a whole rectangle, and the tokens of a block. -/

@[expose] public section

namespace Cert.Rows

open Idealize.ShloMosaic

/-- Zero offsets of a rank-2 and a rank-3 rectangle. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Row `r` of the `t`-th of the 96 blocks of tokens is token `512 t + r`. -/
abbrev row (t : Fin 96) (r : Fin 512) : Fin 49152 := ⟨t.val * 512 + r.val, by omega⟩

/-- Every index of a rank-2 array is given by its two coordinates. -/
theorem exists_ix2 {a b : ℕ} (y : (⟨2, ![a, b]⟩ : Shape).Idx) : ∃ r k, y = ix2 r k :=
  ⟨y 0, y 1, by funext x; fin_cases x <;> rfl⟩

end Cert.Rows

end
-- ==== Proof.FfnBlock.lean ====
module

public import proofs.«01_k».proof.Proof.Gen.FfnIdeal.Value
public import proofs.«01_k».proof.Proof.FfnMath
public import proofs.«01_k».proof.Proof.Rows
public import Idealize.ShloMosaic.Lib.Pointwise

/-! One block of the feed-forward kernel: what the body leaves for the block's row `r` is the half-step of that row. -/

@[expose] public section

set_option maxRecDepth 16384

noncomputable section

open Idealize.ShloMosaic Idealize.ShloMosaic.TcCoe

namespace Cert.FfnIdeal.Block

open Cert.FfnIdeal Cert.FfnIdeal.Gen Cert.FfnMath Cert.Rows

variable (v0 : Vec Ideal S512x1024 .f32) (v1 : Vec Ideal S1x1x1024 .f32)

/-- Row `r` of a block of tokens. -/
abbrev tok (v0 : Vec Ideal S512x1024 .f32) (r : Fin 512) : Fin 1024 → EReal := fun k => v0 (ix2 r k)
/-- The gains. -/
abbrev gain (v1 : Vec Ideal S1x1x1024 .f32) : Fin 1024 → EReal := fun k => v1 (ix3 0 0 k)

/-- The body's normalised block is the normalised row. -/
theorem pay2_apply (r : Fin 512) (k : Fin 1024) :
    k0_pay2 v0 v1 (ix2 r k) = normed (tok v0 r) (gain v1) k := by
  pointwise [k0_pay2]
  rfl

/-- A gate product over half the hidden units is the projection. -/
theorem pay4_apply (w : Vec Ideal S1x1024x1408 .bf16) (r : Fin 512) (f : Fin 1408) :
    k0_pay4 v0 v1 w (ix2 r f) = proj (tok v0 r) (gain v1) (fun k f => w (ix3 0 k f)) f := by
  pointwise [k0_pay4]
  simp only [pay2_apply]
  rfl

/-- The first chunk's down projection. -/
theorem pay3_apply (w u : Vec Ideal S1x1024x1408 .bf16) (d : Vec Ideal S1x1408x1024 .bf16) (r : Fin 512) (c : Fin 1024) :
    k0_pay3 v0 v1 w u d (ix2 r c)
      = ∑ f, hidden (tok v0 r) (gain v1) (fun k f => w (ix3 0 k f)) (fun k f => u (ix3 0 k f)) f * d (ix3 0 f c) := by
  pointwise [k0_pay3]
  simp only [pay2_apply]
  rfl

/-- The stored block, of the first chunk's sum `s`: the residual plus half of `s` with the second chunk's down projection. -/
theorem pay1_apply (s : FVec Ideal S512x1024 .f32) (w u : Vec Ideal S1x1024x1408 .bf16) (d : Vec Ideal S1x1408x1024 .bf16)
    (r : Fin 512) (c : Fin 1024) :
    k0_pay1 v0 (k0_pay2 v0 v1) s (k0_pay4 v0 v1 w) u d (ix2 r c)
      = tok v0 r c + Ideal.ofBits .f32 1056964608#32 * (s (ix2 r c)
        + ∑ f, hidden (tok v0 r) (gain v1) (fun k f => w (ix3 0 k f)) (fun k f => u (ix3 0 k f)) f * d (ix3 0 f c)) := by
  pointwise [k0_pay1]
  simp only [pay2_apply, pay4_apply]
  rfl

/-- The body's result for row `r` of its block is the half-step of that row, by the blocks' weights. -/
theorem out_apply (x2 x3 : Vec Ideal S1x1024x2816 .bf16) (x4 : Vec Ideal S1x2816x1024 .bf16) (r : Fin 512) (c : Fin 1024) :
    out0_5 v0 v1 x2 x3 x4 (ix2 r c)
      = halfStep (tok v0 r) (gain v1) (fun k f => x2 (ix3 0 k f)) (fun k f => x3 (ix3 0 k f)) (fun f c => x4 (ix3 0 f c)) c := by
  unfold out0_5
  rw [View.canon_unit_zero hz2, View.ld_unit_zero hz2, View.ld_unit_zero hz3, pay1_apply, pay3_apply, halfStep_chunks]
  pointwise

end Cert.FfnIdeal.Block

end
-- ==== Proof.FfnRef.lean ====
module

public import proofs.«01_k».proof.Proof.Gen.FfnRefIdeal.Read
public import proofs.«01_k».proof.Proof.FfnMath
public import Idealize.ShloMosaic.Lib.Pointwise

/-! The feed-forward reference read at a token and a feature: the half-step of the token's row. -/

@[expose] public section

set_option maxRecDepth 16384

noncomputable section

open Idealize.ShloMosaic Idealize.ShloMosaic.TcCoe

namespace Cert.FfnRefIdeal.Row

open Cert.FfnRefIdeal Cert.FfnRefIdeal.Gen Cert.FfnRefIdeal.Read Cert.FfnMath

variable (x0 : FVec Ideal S49152x1024 .f32) (x1 : FVec Ideal S4x1024 .f32) (x2 x3 : FVec Ideal S4x1024x2816 .f32)
  (x4 : FVec Ideal S4x2816x1024 .f32)

/-- The whole result as one function of the arguments: row `r`, entry `c` is the half-step of row `r` with the first
    layer's weights. -/
def whole : FVec Ideal S49152x1024 .f32 := fun j =>
  halfStep (fun k => x0 (ix2 (j 0) k)) (fun k => x1 (ix2 0 k)) (fun k f => x2 (ix3 0 k f)) (fun k f => x3 (ix3 0 k f))
    (fun f c => x4 (ix3 0 f c)) (j 1)

/-- The normalised rows. -/
theorem v14_apply (r : Fin 49152) (k : Fin 1024) :
    val_main_v14 (F := Ideal) x0 x1 (ix2 r k) = normed (fun k => x0 (ix2 r k)) (fun k => x1 (ix2 0 k)) k := by
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]
  rfl

/-- The gate projection, -/
theorem v17_apply (r : Fin 49152) (f : Fin 2816) :
    val_main_v17 (F := Ideal) x0 x1 x2 (ix2 r f)
      = proj (fun k => x0 (ix2 r k)) (fun k => x1 (ix2 0 k)) (fun k f => x2 (ix3 0 k f)) f := by
  pointwise [val_main_v17, val_main_v16, val_main_v15]
  simp only [v14_apply]
  rfl

/-- the up projection, -/
theorem v21_apply (r : Fin 49152) (f : Fin 2816) :
    val_main_v21 (F := Ideal) x0 x1 x3 (ix2 r f)
      = proj (fun k => x0 (ix2 r k)) (fun k => x1 (ix2 0 k)) (fun k f => x3 (ix3 0 k f)) f := by
  pointwise [val_main_v21, val_main_v20, val_main_v19]
  simp only [v14_apply]
  rfl

/-- the gate times its logistic, -/
theorem v18_apply (r : Fin 49152) (f : Fin 2816) :
    val_main_v18 (F := Ideal) x0 x1 x2 (ix2 r f)
      = proj (fun k => x0 (ix2 r k)) (fun k => x1 (ix2 0 k)) (fun k f => x2 (ix3 0 k f)) f
        * Ideal.logistic (proj (fun k => x0 (ix2 r k)) (fun k => x1 (ix2 0 k)) (fun k f => x2 (ix3 0 k f)) f) := by
  pointwise [val_main_v18, val_main_call0_v5, val_main_call0_v4, val_main_call0_v3, val_main_call0_v2, val_main_call0_v1,
    val_main_call0_v0, val_main_call0_cst, val_main_call0_cst_0]
  simp only [v17_apply]
  rfl

/-- and the result: the reference's result array is the half-step, row by row. -/
theorem v28_eq : val_main_v28 (F := Ideal) x0 x1 x2 x3 x4 = whole x0 x1 x2 x3 x4 := by
  funext j
  obtain ⟨r, c, rfl⟩ : ∃ (r : Fin 49152) (c : Fin 1024), j = ix2 r c := ⟨j 0, j 1, by funext a; fin_cases a <;> rfl⟩
  pointwise [val_main_v28, val_main_v27, val_main_v26, val_main_v25, val_main_v24, val_main_v23, val_main_v22,
    val_main_cst_2]
  simp only [v18_apply, v21_apply]
  rfl

end Cert.FfnRefIdeal.Row

end
-- ==== Proof.FfnArray.lean ====
module

public import proofs.«01_k».proof.Proof.FfnBlock
public import proofs.«01_k».proof.Proof.FfnRef
public import proofs.«01_k».proof.Defs

/-! The feed-forward kernel's whole result array, and the equation with the reference. -/

@[expose] public section

set_option maxRecDepth 16384

noncomputable section

open Idealize.ShloMosaic Idealize.ShloMosaic.TcCoe Idealize.SL.Sem
open Idealize.ShloMosaic.Pipeline (Dat)

namespace Cert.FfnIdeal.Block

open Cert.FfnIdeal Cert.FfnIdeal.Gen Cert.FfnMath Cert.Rows

variable (m : (ℓ : Loc nD τ sig) → Buf (Elt Ideal) ℓ) (ρ : Dev nD → PrngReg) (c : Dev nD)

/-! ### The arrays the region finds: the gains with a unit axis, the weights rounded -/

theorem V_v0 : V m c main_v0
    = broadcastInDim S4x1x1024 ![0, 2] bcast_S4x1024_S4x1x1024_0_2 (m ((c : Thread nD τ).loc main_arg1)) := by
  show StableHlo.after hostOps0 (fun b => m (c, b)) main_v0 = _
  after_results

theorem V_v1 : V m c main_v1 = (truncf (F := Ideal) .bf16 (m ((c : Thread nD τ).loc main_arg2) : FVec Ideal S4x1024x2816 .f32) bitsLt_bf16_f32 : FVec Ideal S4x1024x2816 .bf16) := by
  show StableHlo.after hostOps0 (fun b => m (c, b)) main_v1 = _
  after_results

theorem V_v2 : V m c main_v2 = (truncf (F := Ideal) .bf16 (m ((c : Thread nD τ).loc main_arg3) : FVec Ideal S4x1024x2816 .f32) bitsLt_bf16_f32 : FVec Ideal S4x1024x2816 .bf16) := by
  show StableHlo.after hostOps0 (fun b => m (c, b)) main_v2 = _
  after_results

theorem V_v3 : V m c main_v3 = (truncf (F := Ideal) .bf16 (m ((c : Thread nD τ).loc main_arg4) : FVec Ideal S4x2816x1024 .f32) bitsLt_bf16_f32 : FVec Ideal S4x2816x1024 .bf16) := by
  show StableHlo.after hostOps0 (fun b => m (c, b)) main_v3 = _
  after_results

/-! ### The index maps, decided over the grid, and where each block lies in its array -/

theorem idx : ∀ t : Fin cfg0.N, win0_0.index t = ![t.val, 0] ∧ win0_1.index t = ![0, 0, 0]
    ∧ win0_2.index t = ![0, 0, 0] ∧ win0_3.index t = ![0, 0, 0]
    ∧ win0_4.index t = ![0, 0, 0] ∧ win0_5.index t = ![t.val, 0] :=
  (by decide +kernel : ∀ t : Fin grid0.N, _)

theorem emb0 (t : Fin cfg0.N) (r : Fin 512) (k : Fin 1024) : ((cfg0.win 0).blk t).view.emb (ix2 r k) = ix2 (row t r) k := by blk_ext [(idx t).1]

theorem emb5 (t : Fin cfg0.N) (r : Fin 512) (k : Fin 1024) : ((cfg0.win 5).blk t).view.emb (ix2 r k) = ix2 (row t r) k := by blk_ext [(idx t).2.2.2.2.2]

theorem emb1 (t : Fin cfg0.N) (k : Fin 1024) : ((cfg0.win 1).blk t).view.emb (ix3 0 0 k) = (ix3 0 0 k : S4x1x1024.Idx) := by blk_ext [(idx t).2.1]

theorem emb2 (t : Fin cfg0.N) (k : Fin 1024) (f : Fin 2816) :
    ((cfg0.win 2).blk t).view.emb (ix3 0 k f) = (ix3 0 k f : S4x1024x2816.Idx) := by blk_ext [(idx t).2.2.1]

theorem emb3 (t : Fin cfg0.N) (k : Fin 1024) (f : Fin 2816) :
    ((cfg0.win 3).blk t).view.emb (ix3 0 k f) = (ix3 0 k f : S4x1024x2816.Idx) := by blk_ext [(idx t).2.2.2.1]

theorem emb4 (t : Fin cfg0.N) (f : Fin 2816) (k : Fin 1024) :
    ((cfg0.win 4).blk t).view.emb (ix3 0 f k) = (ix3 0 f k : S4x2816x1024.Idx) := by blk_ext [(idx t).2.2.2.2.1]

/-! ### The blocks, read off the arguments -/

theorem iblk0_apply (t : Fin cfg0.N) (r : Fin 512) (k : Fin 1024) :
    iblk m c 0 t (ix2 r k) = m ((c : Thread nD τ).loc main_arg0) (ix2 (row t r) k) := by
  show V m c main_arg0 (((cfg0.win 0).blk t).view.emb (ix2 r k)) = _
  rw [emb0, V_main_arg0]

theorem iblk1_apply (t : Fin cfg0.N) (k : Fin 1024) :
    iblk m c 1 t (ix3 0 0 k) = m ((c : Thread nD τ).loc main_arg1) (ix2 0 k) := by
  show V m c main_v0 (((cfg0.win 1).blk t).view.emb (ix3 0 0 k)) = _
  rw [emb1, V_v0]
  pointwise

theorem iblk2_apply (t : Fin cfg0.N) (k : Fin 1024) (f : Fin 2816) :
    iblk m c 2 t (ix3 0 k f) = m ((c : Thread nD τ).loc main_arg2) (ix3 0 k f) := by
  show V m c main_v1 (((cfg0.win 2).blk t).view.emb (ix3 0 k f)) = _
  rw [emb2, V_v1]
  rfl

theorem iblk3_apply (t : Fin cfg0.N) (k : Fin 1024) (f : Fin 2816) :
    iblk m c 3 t (ix3 0 k f) = m ((c : Thread nD τ).loc main_arg3) (ix3 0 k f) := by
  show V m c main_v2 (((cfg0.win 3).blk t).view.emb (ix3 0 k f)) = _
  rw [emb3, V_v2]
  rfl

theorem iblk4_apply (t : Fin cfg0.N) (f : Fin 2816) (k : Fin 1024) :
    iblk m c 4 t (ix3 0 f k) = m ((c : Thread nD τ).loc main_arg4) (ix3 0 f k) := by
  show V m c main_v3 (((cfg0.win 4).blk t).view.emb (ix3 0 f k)) = _
  rw [emb4, V_v3]
  rfl

/-! ### The result array -/

/-- The array of half-steps of the five arguments on device `c`. -/
abbrev goal : FVec Ideal S49152x1024 .f32 :=
  Cert.FfnRefIdeal.Row.whole (m ((c : Thread nD τ).loc main_arg0)) (m ((c : Thread nD τ).loc main_arg1))
    (m ((c : Thread nD τ).loc main_arg2)) (m ((c : Thread nD τ).loc main_arg3)) (m ((c : Thread nD τ).loc main_arg4))

/-- What point `t` writes back is its block of the array of half-steps. -/
theorem flushed_eq (t : Fin cfg0.N) :
    (dats m 0 c).flushed 5 t = ((cfg0.win 5).blk t).view.read (Elt Ideal) (goal m c) := by
  rw [Value.flushed5]
  funext y
  obtain ⟨r, k, rfl⟩ := exists_ix2 (a := 512) (b := 1024) y
  show (out0_5 (F := Ideal) _ _ _ _ _ (ix2 r k) : Ideal .f32) = goal m c (((cfg0.win 5).blk t).view.emb (ix2 r k))
  rw [out_apply, emb5]
  unfold tok gain
  simp only [iblk0_apply, iblk1_apply, iblk2_apply, iblk3_apply, iblk4_apply]
  rfl

/-- The blocks cover the array. -/
theorem covers : (cfg0.win 5).Covers := by decide +kernel

/-- After the run the result array is the array of half-steps. -/
theorem final : (dats m 0 c).arrAt 5 cfg0.N = goal m c :=
  (dats m 0 c).arrAt_eq_of_cover 5 (goal m c) (fun t _ => flushed_eq m c t)
    (covers.cover _ (Memref.isWhole_whole _))

end Cert.FfnIdeal.Block

namespace Cert.FfnProof

/-- The feed-forward half-step: at the extended reals the kernel leaves what the reference computes, for all arguments. -/
theorem algebraic : Cert.algebraic_FfnIdeal_FfnRefIdeal := fun m g m' g' _ hag =>
  ⟨fun c => Cert.FfnIdeal.Block.goal m c,
    (θ_run _ _ _).mono (fun _ h c => ⟨(h c).1.trans (Cert.FfnIdeal.Block.final m c), (h c).2⟩) (Cert.FfnIdeal.Value.run_blocks m g),
    (θ_run _ _ _).mono (fun _ h c => ⟨(h c).1.trans (by
        rw [Cert.FfnRefIdeal.Read.val_main_v28_eq, Cert.FfnRefIdeal.Row.v28_eq, (hag c).1, (hag c).2.1, (hag c).2.2.1,
          (hag c).2.2.2.1, (hag c).2.2.2.2]), (h c).2⟩) (Cert.FfnRefIdeal.Value.run m' g')⟩

/-- The reference runs to its end from any memory, leaves its arguments and every counter as they were. -/
theorem frame_ref : Cert.quiescent_FfnRefIdeal := fun m ρ _ =>
  (θ_run _ _ _).mono (fun r h => ⟨fun c => (h c).2, sem_eq_zero_of_no_sems (by decide) r.2⟩)
    (Cert.FfnRefIdeal.Value.run (F := Ideal) m ρ)

end Cert.FfnProof

end
-- ==== Proof.LruLoop.lean ====
module

public import proofs.«01_k».proof.Proof.Gen.LruIdeal.Frame
public import proofs.«01_k».proof.Proof.Gen.LruIdeal.Loops
public import Idealize.ShloMosaic.Lib.WritesUnit
public import Idealize.ShloMosaic.Lib.Pointwise

/-! One block of the RG-LRU scan: what its two loops leave, tile by tile. -/

@[expose] public section

set_option maxRecDepth 16384

noncomputable section

open Idealize.ShloMosaic Idealize.ShloMosaic.TcCoe Idealize.SL.Sem

namespace Cert.LruIdeal.Scan

open Cert.LruIdeal Cert.LruIdeal.Gen

variable {F : FTy → Type} [FloatOps F]

/-- The row numbers of a tile. -/
abbrev rowNo : IVec S8x512 32 := iota .tc S8x512 32 [0] iota_S8x512_d0_w32

/-- Eight rows of a block from row `o` on. -/
def tile (A : Vec F S512x512 .f32) (o : ℕ) : Vec F S8x512 .f32 := fun y => A (ix2 ⟨(o + (y 0).val) % 512, Nat.mod_lt _ (by decide)⟩ (y 1))

/-- The forward direction: the carry before tile `k`, from the carry `h` the block begins with. -/
def carF (A B : Vec F S512x512 .f32) (h : Vec F S8x512 .f32) : ℕ → Vec F S8x512 .f32
  | 0 => h
  | k + 1 => k0_pay2 (k0_pay7 rowNo (carF A B h k) (tile A (8 * k)) (tile B (8 * k)))

/-- The forward direction: the rows tile `k` stores. -/
def rowsF (A B : Vec F S512x512 .f32) (h : Vec F S8x512 .f32) (k : ℕ) : Vec F S8x512 .f32 :=
  k0_pay7 rowNo (carF A B h k) (tile A (8 * k)) (tile B (8 * k))

/-- The backward direction: the carry before its tile `k`, counted from the block's end. -/
def carB (A B : Vec F S512x512 .f32) (h : Vec F S8x512 .f32) : ℕ → Vec F S8x512 .f32
  | 0 => h
  | k + 1 => k0_pay5 (carB A B h k) (k0_pay13 rowNo (tile A (504 - 8 * k)) (tile B (504 - 8 * k))) (k0_pay14 rowNo (tile A (504 - 8 * k)))

/-- The backward direction: the rows its tile `k` stores. -/
def rowsB (A B : Vec F S512x512 .f32) (h : Vec F S8x512 .f32) (k : ℕ) : Vec F S8x512 .f32 :=
  k0_pay4 (carB A B h k) (k0_pay13 rowNo (tile A (504 - 8 * k)) (tile B (504 - 8 * k))) (k0_pay14 rowNo (tile A (504 - 8 * k)))

variable (𝒱 : Variants) (c : Dev nD) (bd : Option 𝒱.V) (i : grid0.Coords)
  (arg1 : Memref sig .tc .vmem S512x512 .f32) (harg1 : arg1.IsWhole) (arg2 : Memref sig .tc .vmem S512x512 .f32) (harg2 : arg2.IsWhole)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S512x512 .f32) (harg6 : arg6.IsWhole)
  (arg7 : Memref sig .tc .vmem S8x512 .f32) (harg7 : arg7.IsWhole) (arg8 : Memref sig .tc .vmem S8x512 .f32) (harg8 : arg8.IsWhole)

/-- A load of eight rows from row `o` on reads the tile. -/
theorem readAt_tile (v : View sig .tc .vmem S512x512 .f32) (X : v.ty.Contents (Elt F)) (off : Fin 2 → ℕ) (o : ℕ) (ho : o + 8 ≤ 512) (hoff : off = ![o, 0])
    (inb : ∀ a, off a + S8x512.size a ≤ S512x512.size a) :
    v.readAt (Elt F) (Rect.unit (s := S512x512) off S8x512.size inb).toLoadRect X = tile (v.read (Elt F) X) o := by
  subst hoff
  funext y
  refine congrArg (fun z => v.read (Elt F) X z) (?_ : (Rect.unit (s := S512x512) ![o, 0] S8x512.size inb).toLoadRect.idx y = _)
  have h0 : (y 0).val < 8 := (y 0).isLt
  funext a; apply Fin.ext
  fin_cases a
  · show _ = (o + (y 0).val) % 512
    rw [Nat.mod_eq_of_lt (by omega)]
    simp [LoadRect.idx, Rect.toLoadRect, Rect.unit]
  · show _ = (y 1).val
    simp [LoadRect.idx, Rect.toLoadRect, Rect.unit]

theorem trips1 : k0_t1_loop.trips = 64 := by decide +kernel
theorem trips2 : k0_t2_loop.trips = 64 := by decide +kernel

/-- One forward trip's carry; -/
theorem trip1 (X1 : BufTy.Contents (Elt F) arg1.view.ty) (X2 : BufTy.Contents (Elt F) arg2.view.ty) (k : Fin k0_t1_loop.trips) (acc : Vec F S8x512 .f32) :
    tripR_k0_t1 (F := F) 𝒱 c bd i arg1 harg1 arg2 harg2 arg3 harg3 arg4 harg4 arg5 harg5 arg6 harg6 arg7 harg7 arg8 harg8 rowNo X1 X2 k acc
      = k0_pay2 (k0_pay7 rowNo acc (tile (arg1.view.read (Elt F) X1) (8 * k.val)) (tile (arg2.view.read (Elt F) X2) (8 * k.val))) := by
  have hk : k.val < 64 := lt_of_lt_of_eq k.isLt trips1
  unfold tripR_k0_t1 trip_k0_t1
  rw [← readAt_tile arg1.view X1 _ _ (by omega) (k0_off1_eq k) (k0_off1_inb k), ← readAt_tile arg2.view X2 _ _ (by omega) (k0_off1_eq k) (k0_off1_inb k)]
  rfl

/-- and what it stores: eight rows. -/
theorem trip1_pieces (X1 : BufTy.Contents (Elt F) arg1.view.ty) (X2 : BufTy.Contents (Elt F) arg2.view.ty) (k : Fin k0_t1_loop.trips) (acc : Vec F S8x512 .f32) :
    tripL_k0_t1 (F := F) 𝒱 c bd i arg1 harg1 arg2 harg2 arg3 harg3 arg4 harg4 arg5 harg5 arg6 harg6 arg7 harg7 arg8 harg8 rowNo X1 X2 k acc
      = [⟨Rect.unit (s := S512x512) (k0_off1 k) S8x512.size (k0_off1_inb k),
          k0_pay7 rowNo acc (tile (arg1.view.read (Elt F) X1) (8 * k.val)) (tile (arg2.view.read (Elt F) X2) (8 * k.val))⟩] := by
  have hk : k.val < 64 := lt_of_lt_of_eq k.isLt trips1
  unfold tripL_k0_t1 trip_k0_t1
  rw [← readAt_tile arg1.view X1 _ _ (by omega) (k0_off1_eq k) (k0_off1_inb k), ← readAt_tile arg2.view X2 _ _ (by omega) (k0_off1_eq k) (k0_off1_inb k)]
  rfl

/-- One backward trip's carry; -/
theorem trip2 (X3 : BufTy.Contents (Elt F) arg3.view.ty) (X4 : BufTy.Contents (Elt F) arg4.view.ty) (k : Fin k0_t2_loop.trips) (acc : Vec F S8x512 .f32) :
    tripR_k0_t2 (F := F) 𝒱 c bd i arg1 harg1 arg2 harg2 arg3 harg3 arg4 harg4 arg5 harg5 arg6 harg6 arg7 harg7 arg8 harg8 rowNo X3 X4 k acc
      = k0_pay5 acc (k0_pay13 rowNo (tile (arg3.view.read (Elt F) X3) (504 - 8 * k.val)) (tile (arg4.view.read (Elt F) X4) (504 - 8 * k.val)))
          (k0_pay14 rowNo (tile (arg3.view.read (Elt F) X3) (504 - 8 * k.val))) := by
  have hk : k.val < 64 := lt_of_lt_of_eq k.isLt trips2
  unfold tripR_k0_t2 trip_k0_t2
  rw [← readAt_tile arg3.view X3 _ _ (by omega) (k0_off2_eq k) (k0_off2_inb k), ← readAt_tile arg4.view X4 _ _ (by omega) (k0_off2_eq k) (k0_off2_inb k)]
  rfl

/-- and what it stores: eight rows. -/
theorem trip2_pieces (X3 : BufTy.Contents (Elt F) arg3.view.ty) (X4 : BufTy.Contents (Elt F) arg4.view.ty) (k : Fin k0_t2_loop.trips) (acc : Vec F S8x512 .f32) :
    tripL_k0_t2 (F := F) 𝒱 c bd i arg1 harg1 arg2 harg2 arg3 harg3 arg4 harg4 arg5 harg5 arg6 harg6 arg7 harg7 arg8 harg8 rowNo X3 X4 k acc
      = [⟨Rect.unit (s := S512x512) (k0_off2 k) S8x512.size (k0_off2_inb k),
          k0_pay4 acc (k0_pay13 rowNo (tile (arg3.view.read (Elt F) X3) (504 - 8 * k.val)) (tile (arg4.view.read (Elt F) X4) (504 - 8 * k.val)))
          (k0_pay14 rowNo (tile (arg3.view.read (Elt F) X3) (504 - 8 * k.val)))⟩] := by
  have hk : k.val < 64 := lt_of_lt_of_eq k.isLt trips2
  unfold tripL_k0_t2 trip_k0_t2
  rw [← readAt_tile arg3.view X3 _ _ (by omega) (k0_off2_eq k) (k0_off2_inb k), ← readAt_tile arg4.view X4 _ _ (by omega) (k0_off2_eq k) (k0_off2_inb k)]
  rfl

/-- The forward block: row `r` is row `r % 8` of tile `r / 8`. -/
def outF (A B : Vec F S512x512 .f32) (h : Vec F S8x512 .f32) : Vec F S512x512 .f32 := fun y =>
  rowsF A B h ((y 0).val / 8) (ix2 ⟨(y 0).val % 8, Nat.mod_lt _ (by decide)⟩ (y 1))

/-- The backward block: the tiles come from the block's end. -/
def outB (A B : Vec F S512x512 .f32) (h : Vec F S8x512 .f32) : Vec F S512x512 .f32 := fun y =>
  rowsB A B h (63 - (y 0).val / 8) (ix2 ⟨(y 0).val % 8, Nat.mod_lt _ (by decide)⟩ (y 1))

/-- The forward loop before tile `k`: the carry, and the rows written so far. -/
theorem loop1 (X1 : BufTy.Contents (Elt F) arg1.view.ty) (X2 : BufTy.Contents (Elt F) arg2.view.ty) (h : Vec F S8x512 .f32)
    (G : arg5.view.ty.Contents (Elt F)) (k : ℕ) (hk : k ≤ 64) :
    (st_k0_t1 (F := F) 𝒱 c bd i arg1 harg1 arg2 harg2 arg3 harg3 arg4 harg4 arg5 harg5 arg6 harg6 arg7 harg7 arg8 harg8 rowNo X1 X2 h k).1
        = carF (arg1.view.read (Elt F) X1) (arg2.view.read (Elt F) X2) h k
    ∧ ∀ y : S512x512.Idx, (y 0).val < 8 * k → arg5.view.read (Elt F) (arg5.view.writes (Elt F) G
        (st_k0_t1 (F := F) 𝒱 c bd i arg1 harg1 arg2 harg2 arg3 harg3 arg4 harg4 arg5 harg5 arg6 harg6 arg7 harg7 arg8 harg8 rowNo X1 X2 h k).2) y
        = outF (arg1.view.read (Elt F) X1) (arg2.view.read (Elt F) X2) h y := by
  induction k with
  | zero => exact ⟨rfl, fun y hy => absurd hy (by omega)⟩
  | succ k ih =>
    obtain ⟨ih1, ih2⟩ := ih (by omega)
    have e := st_k0_t1_succ (F := F) 𝒱 c bd i arg1 harg1 arg2 harg2 arg3 harg3 arg4 harg4 arg5 harg5 arg6 harg6 arg7 harg7 arg8 harg8 rowNo X1 X2 h
      ⟨k, by rw [trips1]; omega⟩
    rw [trip1_pieces, trip1, ih1] at e
    rw [show k + 1 = (⟨k, by rw [trips1]; omega⟩ : Fin k0_t1_loop.trips).val + 1 from rfl, e]
    refine ⟨rfl, fun y hy => ?_⟩
    by_cases hy' : (y 0).val < 8 * k
    · refine (View.read_writes_cons_rows_of_not_mem _ _ _ _ _ y (k0_off1_eq _) rfl (Or.inl hy')).trans (ih2 y hy')
    · have hy2 : (y 0).val < 8 * (k + 1) := hy
      have hd : (y 0).val / 8 = k := by omega
      refine (View.read_writes_cons_rows_of_mem _ _ _ _ _ y (ix2 ⟨(y 0).val % 8, Nat.mod_lt _ (by decide)⟩ (y 1) : S8x512.Idx) (k0_off1_eq _)
        (show (y 0).val = 8 * k + (y 0).val % 8 by omega) rfl).trans ?_
      show _ = rowsF _ _ _ ((y 0).val / 8) _
      rw [hd]; rfl

/-- The backward loop before its tile `k`: the carry, and the rows written so far, the block's last ones. -/
theorem loop2 (X3 : BufTy.Contents (Elt F) arg3.view.ty) (X4 : BufTy.Contents (Elt F) arg4.view.ty) (h : Vec F S8x512 .f32)
    (G : arg6.view.ty.Contents (Elt F)) (k : ℕ) (hk : k ≤ 64) :
    (st_k0_t2 (F := F) 𝒱 c bd i arg1 harg1 arg2 harg2 arg3 harg3 arg4 harg4 arg5 harg5 arg6 harg6 arg7 harg7 arg8 harg8 rowNo X3 X4 h k).1
        = carB (arg3.view.read (Elt F) X3) (arg4.view.read (Elt F) X4) h k
    ∧ ∀ y : S512x512.Idx, 512 - 8 * k ≤ (y 0).val → arg6.view.read (Elt F) (arg6.view.writes (Elt F) G
        (st_k0_t2 (F := F) 𝒱 c bd i arg1 harg1 arg2 harg2 arg3 harg3 arg4 harg4 arg5 harg5 arg6 harg6 arg7 harg7 arg8 harg8 rowNo X3 X4 h k).2) y
        = outB (arg3.view.read (Elt F) X3) (arg4.view.read (Elt F) X4) h y := by
  induction k with
  | zero => exact ⟨rfl, fun y hy => absurd hy (by have : (y 0).val < 512 := (y 0).isLt; omega)⟩
  | succ k ih =>
    obtain ⟨ih1, ih2⟩ := ih (by omega)
    have e := st_k0_t2_succ (F := F) 𝒱 c bd i arg1 harg1 arg2 harg2 arg3 harg3 arg4 harg4 arg5 harg5 arg6 harg6 arg7 harg7 arg8 harg8 rowNo X3 X4 h
      ⟨k, by rw [trips2]; omega⟩
    rw [trip2_pieces, trip2, ih1] at e
    rw [show k + 1 = (⟨k, by rw [trips2]; omega⟩ : Fin k0_t2_loop.trips).val + 1 from rfl, e]
    refine ⟨rfl, fun y hy => ?_⟩
    have hy5 : (y 0).val < 512 := (y 0).isLt
    replace hy : 512 - 8 * (k + 1) ≤ (y 0).val := hy
    by_cases hy' : 512 - 8 * k ≤ (y 0).val
    · refine (View.read_writes_cons_rows_of_not_mem _ _ _ _ _ y (k0_off2_eq _) rfl (Or.inr ?_)).trans (ih2 y hy')
      show 504 - 8 * k + 8 ≤ (y 0).val; omega
    · have hd : 63 - (y 0).val / 8 = k := by omega
      refine (View.read_writes_cons_rows_of_mem _ _ _ _ _ y (ix2 ⟨(y 0).val % 8, Nat.mod_lt _ (by decide)⟩ (y 1) : S8x512.Idx) (k0_off2_eq _)
        (show (y 0).val = 504 - 8 * k + (y 0).val % 8 by omega) rfl).trans ?_
      show _ = rowsB _ _ _ (63 - (y 0).val / 8) _
      rw [hd]; rfl

end Cert.LruIdeal.Scan

end
-- ==== Proof.LruMath.lean ====
module

public import Mathlib.Data.EReal.Operations
public import Mathlib.Tactic.Abel

/-! The recurrence of the RG-LRU over the extended reals. -/

@[expose] public section

noncomputable section

namespace Cert.LruMath

/-- A decay: nonnegative and finite. -/
def Decay (x : EReal) : Prop := 0 ≤ x ∧ x ≠ ⊤

/-- A decay distributes over a sum, whatever the summands. -/
theorem Decay.mul_add {x : EReal} (h : Decay x) (y z : EReal) : x * (y + z) = x * y + x * z :=
  EReal.left_distrib_of_nonneg_of_ne_top h.1 h.2 y z

/-- The recurrence `h ↦ a n * h + b n`, `n` steps from `c`. -/
def run (a b : ℕ → EReal) (c : EReal) : ℕ → EReal
  | 0 => c
  | n + 1 => a n * run a b c n + b n

/-- Steps in two stretches. -/
theorem run_add (a b : ℕ → EReal) (c : EReal) (m n : ℕ) :
    run a b c (m + n) = run (fun k => a (m + k)) (fun k => b (m + k)) (run a b c m) n := by
  induction n with
  | zero => rfl
  | succ n ih => exact congrArg (fun x => a (m + n) * x + b (m + n)) ih

/-- The steps read their coefficients up to the last step only. -/
theorem run_congr {a b a' b' : ℕ → EReal} (c : EReal) (n : ℕ) (h : ∀ k < n, a k = a' k ∧ b k = b' k) :
    run a b c n = run a' b' c n := by
  induction n with
  | zero => rfl
  | succ n ih =>
    show a n * _ + b n = a' n * _ + b' n
    rw [ih fun k hk => h k (by omega), (h n (by omega)).1, (h n (by omega)).2]

/-- The recurrence over consecutive sequences: where `z n` holds a sequence begins, from the state zero. -/
def scan (a b : ℕ → EReal) (z : ℕ → Prop) [DecidablePred z] : ℕ → EReal
  | 0 => 0
  | n + 1 => a n * (if z n then 0 else scan a b z n) + b n

/-- A stretch inside which no sequence begins, except perhaps at its first position. -/
theorem scan_add (a b : ℕ → EReal) (z : ℕ → Prop) [DecidablePred z] (m n : ℕ) (hz : ∀ k, 0 < k → k ≤ n → ¬ z (m + k)) :
    scan a b z (m + (n + 1)) = run (fun k => a (m + k)) (fun k => b (m + k)) (if z m then 0 else scan a b z m) (n + 1) := by
  induction n with
  | zero => rfl
  | succ n ih =>
    show a (m + (n + 1)) * (if z (m + (n + 1)) then 0 else scan a b z (m + (n + 1))) + b (m + (n + 1)) = _
    rw [if_neg (hz (n + 1) (by omega) le_rfl), ih fun k h0 hk => hz k h0 (by omega)]
    rfl

/-- The entry of token `n`. -/
def tok (A : Fin 49152 → EReal) (n : ℕ) : EReal := A ⟨n % 49152, Nat.mod_lt _ (by decide)⟩

/-- Token `n` is the first of its sequence: eight sequences of 4096 tokens, then two of 8192. -/
def zF (n : ℕ) : Prop := if n < 32768 then n % 4096 = 0 else n % 8192 = 0

/-- The token `n` places before the last one is the last of its sequence. -/
def zB (n : ℕ) : Prop := if n < 16384 then n % 8192 = 0 else n % 4096 = 0

instance : DecidablePred zF := fun n => by unfold zF; infer_instance
instance : DecidablePred zB := fun n => by unfold zB; infer_instance

/-- The forward recurrence of one channel, after `n` tokens. -/
def fwd (A B : Fin 49152 → EReal) (n : ℕ) : EReal := scan (tok A) (tok B) zF n

/-- The backward recurrence of one channel, after the last `n` tokens. -/
def bwd (A B : Fin 49152 → EReal) (n : ℕ) : EReal := scan (fun k => tok A (49151 - k)) (fun k => tok B (49151 - k)) zB n

end Cert.LruMath

end
-- ==== Proof.LruTile.lean ====
module

public import proofs.«01_k».proof.Proof.LruLoop
public import proofs.«01_k».proof.Proof.LruMath

/-! One tile of the RG-LRU scan: doubling steps over eight rows are the recurrence, row by row. -/

@[expose] public section

set_option maxRecDepth 16384

noncomputable section

open Idealize.ShloMosaic Idealize.ShloMosaic.TcCoe

namespace Cert.LruIdeal.Scan

open Cert.LruIdeal Cert.LruIdeal.Gen Cert.LruMath

/-- Row `k` of a tile. -/
abbrev row8 (k : ℕ) : Fin 8 := ⟨k % 8, Nat.mod_lt _ (by decide)⟩

theorem row8_0 : row8 0 = 0 := rfl
theorem row8_1 : row8 1 = 1 := rfl
theorem row8_2 : row8 2 = 2 := rfl
theorem row8_3 : row8 3 = 3 := rfl
theorem row8_4 : row8 4 = 4 := rfl
theorem row8_5 : row8 5 = 5 := rfl
theorem row8_6 : row8 6 = 6 := rfl
theorem row8_7 : row8 7 = 7 := rfl

/-- A selection on a true condition, and on a false one. -/
theorem sel_t {α : Type} (x y : α) : Scalar.select 1#1 x y = x := rfl
theorem sel_f {α : Type} (x y : α) : Scalar.select 0#1 x y = y := rfl

set_option maxHeartbeats 2000000 in
/-- A forward tile's row `i`: the recurrence, `i + 1` steps from the carry. -/
theorem pay7_apply (c a b : Vec Ideal S8x512 .f32) (i : Fin 8) (j : Fin 512) (ha : ∀ k, Decay (a (ix2 k j))) :
    k0_pay7 (F := Ideal) rowNo c a b (ix2 i j) = run (fun k => a (ix2 (row8 k) j)) (fun k => b (ix2 (row8 k) j)) (c (ix2 i j)) (i.val + 1) := by
  have h0 := (ha 0).mul_add; have h1 := (ha 1).mul_add; have h2 := (ha 2).mul_add; have h3 := (ha 3).mul_add
  have h4 := (ha 4).mul_add; have h5 := (ha 5).mul_add; have h6 := (ha 6).mul_add; have h7 := (ha 7).mul_add
  fin_cases i
  all_goals
    try simp only [Fin.mk_zero, Fin.mk_one, Fin.reduceFinMk, Fin.zero_eta]
    pointwise [k0_pay7]
    simp only [run, row8_0, row8_1, row8_2, row8_3, row8_4, row8_5, row8_6, row8_7]
    try simp [IntOp.cmpi, sel_t, sel_f]
    try simp only [mul_assoc, h0, h1, h2, h3, h4, h5, h6, h7]
    try abel

set_option maxHeartbeats 2000000 in
/-- A backward tile's row `i`: the recurrence from the tile's last row upwards, `8 - i` steps from the carry. -/
theorem pay4_apply (c a b : Vec Ideal S8x512 .f32) (i : Fin 8) (j : Fin 512) (ha : ∀ k, Decay (a (ix2 k j))) :
    k0_pay4 (F := Ideal) c (k0_pay13 rowNo a b) (k0_pay14 rowNo a) (ix2 i j)
      = run (fun k => a (ix2 (row8 (7 - k)) j)) (fun k => b (ix2 (row8 (7 - k)) j)) (c (ix2 i j)) (7 - i.val + 1) := by
  have h0 := (ha 0).mul_add; have h1 := (ha 1).mul_add; have h2 := (ha 2).mul_add; have h3 := (ha 3).mul_add
  have h4 := (ha 4).mul_add; have h5 := (ha 5).mul_add; have h6 := (ha 6).mul_add; have h7 := (ha 7).mul_add
  fin_cases i
  all_goals
    try simp only [Fin.mk_zero, Fin.mk_one, Fin.reduceFinMk, Fin.zero_eta]
    pointwise [k0_pay4, k0_pay13, k0_pay14, k0_pay8, k0_pay9, k0_pay10, k0_pay11, k0_pay12]
    simp only [Nat.reduceSub, run, row8_0, row8_1, row8_2, row8_3, row8_4, row8_5, row8_6, row8_7]
    try simp [IntOp.cmpi, sel_t, sel_f]
    try simp only [mul_assoc, h0, h1, h2, h3, h4, h5, h6, h7]
    try abel

/-- The forward carry: the tile's last row, on every row. -/
theorem pay2_apply (x : Vec Ideal S8x512 .f32) (i : Fin 8) (j : Fin 512) : k0_pay2 (F := Ideal) x (ix2 i j) = x (ix2 7 j) := by
  pointwise [k0_pay2]

/-- The backward carry: the tile's first row, on every row. -/
theorem pay5_apply (c b a : Vec Ideal S8x512 .f32) (i : Fin 8) (j : Fin 512) :
    k0_pay5 (F := Ideal) c b a (ix2 i j) = k0_pay4 (F := Ideal) c b a (ix2 0 j) := by
  pointwise [k0_pay5]

end Cert.LruIdeal.Scan

end
-- ==== Proof.LruBody.lean ====
module

public import proofs.«01_k».proof.Proof.LruLoop
public import Idealize.ShloMosaic.Lib.VecWindow

/-! The body of the RG-LRU scan at one grid point: what it leaves in both outputs and in both carries. -/

@[expose] public section

set_option maxRecDepth 16384

noncomputable section

namespace Cert.LruIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LruIdeal Cert.LruIdeal.Gen

variable {F : FTy → Type} [FloatOps F]

local notation "𝕄" => MT nD τ sig Unit (Elt F) ℕ (UR sig nD τ) ℕ

/-- The forward direction begins a sequence at this block: its carry is reset. -/
abbrev firstF (i : grid0.Coords) : Prop :=
  (Scalar.cmpi .ne (Scalar.extui (Scalar.ori (Scalar.andi (Scalar.andi (Scalar.cmpi .sge (Scalar.subi (BitVec.ofNat 32 (i 0).val) 0#32) 0#32) (Scalar.cmpi .slt (Scalar.subi (BitVec.ofNat 32 (i 0).val) 0#32) 64#32)) (Scalar.cmpi .eq (Scalar.remsi (Scalar.maxsi (Scalar.subi (BitVec.ofNat 32 (i 0).val) 0#32) 0#32) 8#32) 0#32)) (Scalar.andi (Scalar.andi (Scalar.cmpi .sge (Scalar.subi (BitVec.ofNat 32 (i 0).val) 64#32) 0#32) (Scalar.cmpi .slt (Scalar.subi (BitVec.ofNat 32 (i 0).val) 64#32) 32#32)) (Scalar.cmpi .eq (Scalar.remsi (Scalar.maxsi (Scalar.subi (BitVec.ofNat 32 (i 0).val) 64#32) 0#32) 16#32) 0#32)))) 0#32) = 1#1

/-- The backward direction begins a sequence, from its end, at this block: its carry is reset. -/
abbrev firstB (i : grid0.Coords) : Prop :=
  (Scalar.cmpi .ne (Scalar.extui (Scalar.ori (Scalar.andi (Scalar.andi (Scalar.cmpi .sge (Scalar.subi (Scalar.subi 95#32 (BitVec.ofNat 32 (i 0).val)) 0#32) 0#32) (Scalar.cmpi .slt (Scalar.subi (Scalar.subi 95#32 (BitVec.ofNat 32 (i 0).val)) 0#32) 64#32)) (Scalar.cmpi .eq (Scalar.remsi (Scalar.maxsi (Scalar.subi (Scalar.subi 95#32 (BitVec.ofNat 32 (i 0).val)) 0#32) 0#32) 8#32) 7#32)) (Scalar.andi (Scalar.andi (Scalar.cmpi .sge (Scalar.subi (Scalar.subi 95#32 (BitVec.ofNat 32 (i 0).val)) 64#32) 0#32) (Scalar.cmpi .slt (Scalar.subi (Scalar.subi 95#32 (BitVec.ofNat 32 (i 0).val)) 64#32) 32#32)) (Scalar.cmpi .eq (Scalar.remsi (Scalar.maxsi (Scalar.subi (Scalar.subi 95#32 (BitVec.ofNat 32 (i 0).val)) 64#32) 0#32) 16#32) 15#32)))) 0#32) = 1#1

/-- The carry a forward block starts from: zero where a sequence begins. -/
def inF (i : grid0.Coords) (h : Vec F S8x512 .f32) : Vec F S8x512 .f32 := if firstF i then k0_pay15 (F := F) else h

/-- The carry a backward block starts from: zero where a sequence begins. -/
def inB (i : grid0.Coords) (h : Vec F S8x512 .f32) : Vec F S8x512 .f32 := if firstB i then k0_pay1 (F := F) else h

/-- The forward loop run to its end, on whole buffers: the carry and the whole output block. -/
theorem after1 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S8x512 .f32) (harg7 : arg7.IsWhole) (arg8 : Memref sig .tc .vmem S8x512 .f32) (harg8 : arg8.IsWhole)
    (x0 x1 : Vec F S512x512 .f32) (h : Vec F S8x512 .f32) (G : arg5.view.ty.Contents (Elt F)) :
    (st_k0_t1 (F := F) Variants.none c none i arg1 harg1 arg2 harg2 arg3 harg3 arg4 harg4 arg5 harg5 arg6 harg6 arg7 harg7 arg8 harg8 rowNo (harg1.unread x0) (harg2.unread x1) h (Scf.trips k0_t1_loop.lb k0_t1_loop.ub k0_t1_loop.st)).1
        = carF x0 x1 h 64
    ∧ arg5.view.read (Elt F) (arg5.view.writes (Elt F) G
        (st_k0_t1 (F := F) Variants.none c none i arg1 harg1 arg2 harg2 arg3 harg3 arg4 harg4 arg5 harg5 arg6 harg6 arg7 harg7 arg8 harg8 rowNo (harg1.unread x0) (harg2.unread x1) h (Scf.trips k0_t1_loop.lb k0_t1_loop.ub k0_t1_loop.st)).2)
        = outF x0 x1 h := by
  have e := loop1 Variants.none c none i arg1 harg1 arg2 harg2 arg3 harg3 arg4 harg4 arg5 harg5 arg6 harg6 arg7 harg7 arg8 harg8 (harg1.unread x0) (harg2.unread x1) h G 64 le_rfl
  rw [harg1.read_unread, harg2.read_unread] at e
  rw [show Scf.trips k0_t1_loop.lb k0_t1_loop.ub k0_t1_loop.st = 64 from trips1]
  exact ⟨e.1, funext fun y => e.2 y (y 0).isLt⟩

/-- The backward loop run to its end, on whole buffers: the carry and the whole output block. -/
theorem after2 (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S8x512 .f32) (harg7 : arg7.IsWhole) (arg8 : Memref sig .tc .vmem S8x512 .f32) (harg8 : arg8.IsWhole)
    (x2 x3 : Vec F S512x512 .f32) (h : Vec F S8x512 .f32) (G : arg6.view.ty.Contents (Elt F)) :
    (st_k0_t2 (F := F) Variants.none c none i arg1 harg1 arg2 harg2 arg3 harg3 arg4 harg4 arg5 harg5 arg6 harg6 arg7 harg7 arg8 harg8 rowNo (harg3.unread x2) (harg4.unread x3) h (Scf.trips k0_t2_loop.lb k0_t2_loop.ub k0_t2_loop.st)).1
        = carB x2 x3 h 64
    ∧ arg6.view.read (Elt F) (arg6.view.writes (Elt F) G
        (st_k0_t2 (F := F) Variants.none c none i arg1 harg1 arg2 harg2 arg3 harg3 arg4 harg4 arg5 harg5 arg6 harg6 arg7 harg7 arg8 harg8 rowNo (harg3.unread x2) (harg4.unread x3) h (Scf.trips k0_t2_loop.lb k0_t2_loop.ub k0_t2_loop.st)).2)
        = outB x2 x3 h := by
  have e := loop2 Variants.none c none i arg1 harg1 arg2 harg2 arg3 harg3 arg4 harg4 arg5 harg5 arg6 harg6 arg7 harg7 arg8 harg8 (harg3.unread x2) (harg4.unread x3) h G 64 le_rfl
  rw [harg3.read_unread, harg4.read_unread] at e
  rw [show Scf.trips k0_t2_loop.lb k0_t2_loop.ub k0_t2_loop.st = 64 from trips2]
  exact ⟨e.1, funext fun y => e.2 y (Nat.zero_le _)⟩

set_option maxHeartbeats 4000000 in
/-- The body, from any carries: both output blocks, and both carries after the block's last tile. -/
theorem body_run (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S8x512 .f32) (harg7 : arg7.IsWhole) (arg8 : Memref sig .tc .vmem S8x512 .f32) (harg8 : arg8.IsWhole)
    (x0 x1 x2 x3 : Vec F S512x512 .f32) (h0 h1 : Vec F S8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare h0 ∗ owns (c : Thread nD τ) arg8 fullShare h1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (outF x0 x1 (inF i h0)) ∗ owns (c : Thread nD τ) arg6 fullShare (outB x2 x3 (inB i h1))
            ∗ owns (c : Thread nD τ) arg7 fullShare (carF x0 x1 (inF i h0) 64) ∗ owns (c : Thread nD τ) arg8 fullShare (carB x2 x3 (inB i h1) 64)) -∗ K ⟨⟩))
      ⊢ wp frame (wpE (defs₀ (F := F)) Variants.none c none) E (cc0_lru_scan i arg1 harg1 arg2 harg2 arg3 harg3 arg4 harg4 arg5 harg5 arg6 harg6 arg7 harg7 arg8 harg8) K := by
  by_cases hc0 : firstF i <;> by_cases hc1 : firstB i
  all_goals
    simp only [cc0_lru_scan_eq_skeleton]; unfold cc0_lru_scan_skel
    simp only [k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hs0, HS0⟩, ⟨%fs1, %hs1, HS1⟩, Hk⟩
    obtain rfl := harg1.eq_unread hf0; obtain rfl := harg2.eq_unread hf1; obtain rfl := harg3.eq_unread hf2; obtain rfl := harg4.eq_unread hf3
    obtain rfl := harg7.eq_unread hs0; obtain rfl := harg8.eq_unread hs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (after1 c i arg1 harg1 arg2 harg2 arg3 harg3 arg4 harg4 arg5 harg5 arg6 harg6 arg7 harg7 arg8 harg8 x0 x1 _ f4).2.trans (congrArg (outF x0 x1) ?_)
      first
        | exact (View.readCov_full arg7.view _ _ _ _).trans (if_pos hc0).symm
        | exact ((View.readAt_full arg7.view _ _).trans (harg7.read_unread _)).trans (if_neg hc0).symm
    isplitl [H5]
    · iexists _; isplitr; swap; · iexact H5
      ipureintro
      refine (after2 c i arg1 harg1 arg2 harg2 arg3 harg3 arg4 harg4 arg5 harg5 arg6 harg6 arg7 harg7 arg8 harg8 x2 x3 _ f5).2.trans (congrArg (outB x2 x3) ?_)
      first
        | exact (View.readCov_full arg8.view _ _ _ _).trans (if_pos hc1).symm
        | exact ((View.readAt_full arg8.view _ _).trans (harg8.read_unread _)).trans (if_neg hc1).symm
    isplitl [HS0]
    · iexists _; isplitr; swap; · iexact HS0
      ipureintro
      refine (View.read_writes_full arg7.view _ _ _ _).trans ((shapeCast_self _ _).trans
        ((after1 c i arg1 harg1 arg2 harg2 arg3 harg3 arg4 harg4 arg5 harg5 arg6 harg6 arg7 harg7 arg8 harg8 x0 x1 _ f4).1.trans (congrArg (fun h => carF x0 x1 h 64) ?_)))
      first
        | exact (View.readCov_full arg7.view _ _ _ _).trans (if_pos hc0).symm
        | exact ((View.readAt_full arg7.view _ _).trans (harg7.read_unread _)).trans (if_neg hc0).symm
    iexists _; isplitr; swap; · iexact HS1
    ipureintro
    refine (View.read_writes_full arg8.view _ _ _ _).trans ((shapeCast_self _ _).trans
      ((after2 c i arg1 harg1 arg2 harg2 arg3 harg3 arg4 harg4 arg5 harg5 arg6 harg6 arg7 harg7 arg8 harg8 x2 x3 _ f5).1.trans (congrArg (fun h => carB x2 x3 h 64) ?_)))
    first
      | exact (View.readCov_full arg8.view _ _ _ _).trans (if_pos hc1).symm
      | exact ((View.readAt_full arg8.view _ _).trans (harg8.read_unread _)).trans (if_neg hc1).symm

end Cert.LruIdeal.Scan

end
-- ==== Proof.LruFrame.lean ====
module

public import proofs.«01_k».proof.Proof.LruBody
public import Idealize.ShloMosaic.Lib.Pipeline.Value
public import Idealize.ShloMosaic.Lib.Claim

/-! The RG-LRU scan over its grid: the carries from block to block, and the run of the whole program. -/

@[expose] public section

set_option maxRecDepth 16384

noncomputable section

namespace Cert.LruIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.LruIdeal Cert.LruIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A forward block begins a sequence at every eighth block of the prompt group and at every sixteenth of the other. -/
theorem firstF_iff : ∀ t : Fin cfg0.N, firstF (grid0.coords t) ↔ (if t.val < 64 then t.val % 8 = 0 else t.val % 16 = 0) :=
  (by decide +kernel : ∀ t : Fin grid0.N, firstF (grid0.coords t) ↔ (if t.val < 64 then t.val % 8 = 0 else t.val % 16 = 0))

/-- A backward block, number `95 - t`, begins a sequence where that block is its sequence's last one. -/
theorem firstB_iff : ∀ t : Fin cfg0.N, firstB (grid0.coords t) ↔ (if 95 - t.val < 64 then (95 - t.val) % 8 = 7 else (95 - t.val) % 16 = 15) :=
  (by decide +kernel : ∀ t : Fin grid0.N, firstB (grid0.coords t) ↔ (if 95 - t.val < 64 then (95 - t.val) % 8 = 7 else (95 - t.val) % 16 = 15))

/-- The forward carry before point `n` (at the first point it is reset, whatever it was). -/
def curF (c : Dev nD) : ℕ → Vec F S8x512 .f32
  | 0 => k0_pay15 (F := F)
  | n + 1 => if h : n < cfg0.N then carF (iblk m c 0 ⟨n, h⟩) (iblk m c 1 ⟨n, h⟩) (inF (grid0.coords ⟨n, h⟩) (curF c n)) 64 else k0_pay15 (F := F)

/-- The backward carry before point `n`. -/
def curB (c : Dev nD) : ℕ → Vec F S8x512 .f32
  | 0 => k0_pay1 (F := F)
  | n + 1 => if h : n < cfg0.N then carB (iblk m c 2 ⟨n, h⟩) (iblk m c 3 ⟨n, h⟩) (inB (grid0.coords ⟨n, h⟩) (curB c n)) 64 else k0_pay1 (F := F)

theorem curF_succ (c : Dev nD) (t : Fin cfg0.N) :
    curF m c (t.val + 1) = carF (iblk m c 0 t) (iblk m c 1 t) (inF (grid0.coords t) (curF m c t.val)) 64 := dif_pos t.isLt

theorem curB_succ (c : Dev nD) (t : Fin cfg0.N) :
    curB m c (t.val + 1) = carB (iblk m c 2 t) (iblk m c 3 t) (inB (grid0.coords t) (curB m c t.val)) 64 := dif_pos t.isLt

/-- The two carries as whole buffers. -/
abbrev sc0 : Memref sig .tc .vmem S8x512 .f32 := Memref.whole cc0_scratch0
abbrev sc1 : Memref sig .tc .vmem S8x512 .f32 := Memref.whole cc0_scratch1

/-- What the launch hands the region, with the carries as buffers owned at anything. -/
theorem entry_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before position `n`: anything in the carries before the first point, afterwards the carries named. -/
def inv (c : Dev nD) : ℕ → sProp 𝕄
  | 0 => Pipeline.ΦA spec0 c
  | n + 1 => iprop(iprop(owns (c : Thread nD τ) sc0 fullShare (curF m c (n + 1)) ∗ owns (c : Thread nD τ) sc1 fullShare (curB m c (n + 1))) ∗ (∃ r, prngReg c r))

/-- The proof data: inputs stay at their blocks, the outputs are the two directions' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outF (iblk m c 0 t) (iblk m c 1 t) (inF (grid0.coords t) (curF m c t.val))
    | ⟨5, _⟩ => outB (iblk m c 2 t) (iblk m c 3 t) (inB (grid0.coords t) (curB m c t.val))
  Φ t := inv m c t.val
  q _ := fullShare
  owed _ := 0

theorem A_eq (c : Dev nD) (w : Fin cfg0.W) : (dats m 0 c).A w = V m c (Pipeline.arrRef spec0 w) := by dsimp only [dats]

theorem after_4 (c : Dev nD) (t : Fin cfg0.N) :
    (dats m 0 c).after 4 t = outF (iblk m c 0 t) (iblk m c 1 t) (inF (grid0.coords t) (curF m c t.val)) := by dsimp only [dats]
theorem after_5 (c : Dev nD) (t : Fin cfg0.N) :
    (dats m 0 c).after 5 t = outB (iblk m c 2 t) (iblk m c 3 t) (inB (grid0.coords t) (curB m c t.val)) := by dsimp only [dats]

/-- The body is entered with each input at its block, -/
theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d

/-- At every point there are carries the body is entered with that start the block as the named ones do. -/
theorem inv_open (c : Dev nD) (t : Fin cfg0.N) :
    inv m c t.val ⊢ iprop(∃ d0 d1, ⌜inF (grid0.coords t) d0 = inF (grid0.coords t) (curF m c t.val) ∧ inB (grid0.coords t) d1 = inB (grid0.coords t) (curB m c t.val)⌝
      ∗ (owns (c : Thread nD τ) sc0 fullShare d0 ∗ owns (c : Thread nD τ) sc1 fullShare d1) ∗ (∃ r, prngReg c r)) := by
  rcases t with ⟨_ | n, hn⟩
  · show Pipeline.ΦA spec0 c ⊢ _
    rw [entry_eq]
    have h0 : firstF (grid0.coords ⟨0, hn⟩) := (firstF_iff ⟨0, hn⟩).mpr (by simp)
    have h1 : firstB (grid0.coords ⟨0, hn⟩) := (firstB_iff ⟨0, hn⟩).mpr (by simp)
    iintro ⟨⟨⟨%d0, H0⟩, ⟨%d1, H1⟩⟩, Hg⟩
    iexists d0, d1
    isplitr
    · ipureintro
      exact ⟨(if_pos h0).trans (if_pos h0).symm, (if_pos h1).trans (if_pos h1).symm⟩
    isplitl [H0 H1]
    · isplitl [H0]; · iexact H0
      iexact H1
    iexact Hg
  · show iprop(iprop(owns (c : Thread nD τ) sc0 fullShare (curF m c (n + 1)) ∗ owns (c : Thread nD τ) sc1 fullShare (curB m c (n + 1))) ∗ (∃ r, prngReg c r)) ⊢ _
    iintro ⟨⟨H0, H1⟩, Hg⟩
    iexists _, _
    isplitr
    · ipureintro; exact ⟨rfl, rfl⟩
    isplitl [H0 H1]
    · isplitl [H0]; · iexact H0
      iexact H1
    iexact Hg

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
/-- The body at any point, from the invariant to the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_4, after_5, show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).Φ t.castSucc = inv m c t.val from rfl,
    show (dats m 0 c).Φ t.succ = iprop(iprop(owns (c : Thread nD τ) sc0 fullShare (curF m c (t.val + 1)) ∗ owns (c : Thread nD τ) sc1 fullShare (curB m c (t.val + 1))) ∗ (∃ r, prngReg c r)) from rfl,
    curF_succ, curB_succ]
  iintro ⟨HI, Ho, ⟨%d0, H0⟩, ⟨%d1, H1⟩, ⟨%d2, H2⟩, ⟨%d3, H3⟩, ⟨%d4, H4⟩, ⟨%d5, H5⟩⟩
  ihave HI := inv_open m c t $$ HI
  icases HI with ⟨%e0, %e1, %he, ⟨HS0, HS1⟩, Hg⟩
  rw [← he.1, ← he.2]
  iapply (body_run c (grid0.coords t) _ _ _ _ _ _ _ _ _ _ _ _ _ _ _ _ (iblk m c 0 t) (iblk m c 1 t) (iblk m c 2 t) (iblk m c 3 t) e0 e1 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin cfg0.N) : defs₀ (F := F) .tc cfg0.body (cfg0.bodyArgs t (cfg0.slots t)) = bodyAt0 t := by
  unfold defs₀; rw [Defs.onTc_tc]

/-- The body obligation at every point. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- The invariant holds where the region is entered, -/
theorem inv_in (c : Dev nD) : Pipeline.ΦA spec0 c ⊢ (dats m 0 c).Φ 0 := Idealize.SL.BI.Entails.refl _

/-- and after the last point it gives back what the region was handed. -/
theorem inv_out (c : Dev nD) : (dats m 0 c).Φ (Fin.last cfg0.N) ⊢ Pipeline.ΦA spec0 c := by
  rw [show (dats m 0 c).Φ (Fin.last cfg0.N) = inv m c cfg0.N from rfl, show cfg0.N = 95 + 1 from N_0, entry_eq]
  show iprop(iprop(owns (c : Thread nD τ) sc0 fullShare (curF m c (95 + 1)) ∗ owns (c : Thread nD τ) sc1 fullShare (curB m c (95 + 1))) ∗ (∃ r, prngReg c r)) ⊢ _
  iintro ⟨⟨H0, H1⟩, Hg⟩
  isplitl [H0 H1]
  · isplitl [H0]
    · iexists _; iexact H0
    iexists _; iexact H1
  iexact Hg

-- the launch theorem's implicit arguments are found by unifying its conclusion with this one
set_option backward.isDefEq.respectTransparency.types false in
/-- The launch: every array of the pipeline ends as the proof data names it, and every semaphore counter is zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- Every execution ends with the arguments as they were and the counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- Every execution ends with both outputs as the proof data names them and the arguments as they were. -/
theorem run_outs : θ_run defs (onTc (τ := τ) (main (F := F))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N) :=
  (θ_run defs _ _).mono (fun _ h c => ⟨(h.1 c).1 4, (h.1 c).1 5⟩) (run_quiescent m ρ)

end Cert.LruIdeal.Scan

end
-- ==== Proof.LruValue.lean ====
module

public import proofs.«01_k».proof.Proof.LruTile
public import proofs.«01_k».proof.Proof.LruFrame

/-! The RG-LRU scan's two result arrays: the recurrences, token by token. -/

@[expose] public section

set_option maxRecDepth 16384

noncomputable section

open Idealize.ShloMosaic Idealize.ShloMosaic.TcCoe

namespace Cert.LruIdeal.Scan

open Cert.LruIdeal Cert.LruIdeal.Gen Cert.LruMath

/-! ### One block -/

/-- Row `n` of a block. -/
abbrev rowB (n : ℕ) : Fin 512 := ⟨n % 512, Nat.mod_lt _ (by decide)⟩

/-- Column `j` of a block, from the first row and from the last. -/
abbrev dn (A : Vec Ideal S512x512 .f32) (j : Fin 512) (n : ℕ) : EReal := A (ix2 (rowB n) j)
abbrev up (A : Vec Ideal S512x512 .f32) (j : Fin 512) (n : ℕ) : EReal := A (ix2 (rowB (511 - n)) j)

section Block

variable (A B : Vec Ideal S512x512 .f32) (h : Vec Ideal S8x512 .f32) (j : Fin 512) (x : EReal)
  (hA : ∀ k, Decay (A (ix2 k j))) (hh : ∀ i, h (ix2 i j) = x)

include hA

/-- One forward tile, from a carry that is the recurrence's value on every row. -/
theorem rows_run (C : Vec Ideal S8x512 .f32) (k : ℕ) (hk : k < 64) (hC : ∀ i, C (ix2 i j) = run (dn A j) (dn B j) x (8 * k)) (i : Fin 8) :
    k0_pay7 (F := Ideal) rowNo C (tile A (8 * k)) (tile B (8 * k)) (ix2 i j) = run (dn A j) (dn B j) x (8 * k + (i.val + 1)) := by
  rw [pay7_apply _ _ _ i j (fun r => hA _), hC, run_add _ _ _ (8 * k)]
  refine run_congr _ _ fun n hn => ?_
  have e : n % 8 = n := Nat.mod_eq_of_lt (by omega)
  constructor
  · show A (ix2 ⟨(8 * k + n % 8) % 512, _⟩ j) = A (ix2 ⟨(8 * k + n) % 512, _⟩ j)
    simp only [e]
  · show B (ix2 ⟨(8 * k + n % 8) % 512, _⟩ j) = B (ix2 ⟨(8 * k + n) % 512, _⟩ j)
    simp only [e]

include hh

/-- The forward carry before tile `k`: the recurrence after `8 k` rows, on every row of the carry. -/
theorem carF_apply (k : ℕ) (hk : k ≤ 64) (i : Fin 8) : carF A B h k (ix2 i j) = run (dn A j) (dn B j) x (8 * k) := by
  induction k generalizing i with
  | zero => exact hh i
  | succ k ih =>
    show k0_pay2 (F := Ideal) _ (ix2 i j) = _
    rw [pay2_apply, rows_run A B j x hA _ k (by omega) (fun i => ih (by omega) i)]
    rfl

/-- The forward block's row `r`: the recurrence after `r + 1` rows. -/
theorem outF_apply (r : Fin 512) : outF A B h (ix2 r j) = run (dn A j) (dn B j) x (r.val + 1) := by
  show k0_pay7 (F := Ideal) rowNo (carF A B h (r.val / 8)) (tile A (8 * (r.val / 8))) (tile B (8 * (r.val / 8))) (ix2 ⟨r.val % 8, _⟩ j) = _
  rw [rows_run A B j x hA _ (r.val / 8) (by omega) (fun i => carF_apply A B h j x hA hh _ (by omega) i)]
  exact congrArg _ (by show 8 * (r.val / 8) + (r.val % 8 + 1) = r.val + 1; omega)

omit hh in
/-- One backward tile, from a carry that is the recurrence's value on every row. -/
theorem rows_run' (C : Vec Ideal S8x512 .f32) (k : ℕ) (hk : k < 64) (hC : ∀ i, C (ix2 i j) = run (up A j) (up B j) x (8 * k)) (i : Fin 8) :
    k0_pay4 (F := Ideal) C (k0_pay13 rowNo (tile A (504 - 8 * k)) (tile B (504 - 8 * k))) (k0_pay14 rowNo (tile A (504 - 8 * k))) (ix2 i j)
      = run (up A j) (up B j) x (8 * k + (7 - i.val + 1)) := by
  rw [pay4_apply _ _ _ i j (fun r => hA _), hC, run_add _ _ _ (8 * k)]
  refine run_congr _ _ fun n hn => ?_
  have e : 504 - 8 * k + (7 - n) % 8 = 511 - (8 * k + n) := by omega
  constructor
  · show A (ix2 ⟨(504 - 8 * k + (7 - n) % 8) % 512, _⟩ j) = A (ix2 ⟨(511 - (8 * k + n)) % 512, _⟩ j)
    simp only [e]
  · show B (ix2 ⟨(504 - 8 * k + (7 - n) % 8) % 512, _⟩ j) = B (ix2 ⟨(511 - (8 * k + n)) % 512, _⟩ j)
    simp only [e]

/-- The backward carry before its tile `k`. -/
theorem carB_apply (k : ℕ) (hk : k ≤ 64) (i : Fin 8) : carB A B h k (ix2 i j) = run (up A j) (up B j) x (8 * k) := by
  induction k generalizing i with
  | zero => exact hh i
  | succ k ih =>
    show k0_pay5 (F := Ideal) _ _ _ (ix2 i j) = _
    rw [pay5_apply, rows_run' A B j x hA _ k (by omega) (fun i => ih (by omega) i)]
    rfl

/-- The backward block's row `r`: the recurrence after the block's last `512 - r` rows. -/
theorem outB_apply (r : Fin 512) : outB A B h (ix2 r j) = run (up A j) (up B j) x (511 - r.val + 1) := by
  show k0_pay4 (F := Ideal) (carB A B h (63 - r.val / 8)) (k0_pay13 rowNo (tile A (504 - 8 * (63 - r.val / 8))) (tile B (504 - 8 * (63 - r.val / 8))))
    (k0_pay14 rowNo (tile A (504 - 8 * (63 - r.val / 8)))) (ix2 ⟨r.val % 8, _⟩ j) = _
  rw [rows_run' A B j x hA _ (63 - r.val / 8) (by omega) (fun i => carB_apply A B h j x hA hh _ (by omega) i)]
  exact congrArg _ (by show 8 * (63 - r.val / 8) + (7 - r.val % 8 + 1) = 511 - r.val + 1; omega)

end Block

/-! ### The blocks of the arrays -/

variable (m : (ℓ : Loc nD τ sig) → Buf (Elt Ideal) ℓ) (ρ : Dev nD → PrngReg) (c : Dev nD)

theorem idx : ∀ t : Fin cfg0.N, (win0_0.index t 0 = t.val ∧ win0_0.index t 1 = 0) ∧ (win0_1.index t 0 = t.val ∧ win0_1.index t 1 = 0)
    ∧ (win0_2.index t 0 = 95 - t.val ∧ win0_2.index t 1 = 0) ∧ (win0_3.index t 0 = 95 - t.val ∧ win0_3.index t 1 = 0)
    ∧ (win0_4.index t 0 = t.val ∧ win0_4.index t 1 = 0) ∧ (win0_5.index t 0 = 95 - t.val ∧ win0_5.index t 1 = 0) :=
  (by decide +kernel : ∀ t : Fin grid0.N, _)

theorem t_lt (t : Fin cfg0.N) : t.val < 96 := lt_of_lt_of_eq t.isLt N_0

/-- Row `r` of block `u` is token `512 u + r`. -/
abbrev at_ (u : ℕ) (hu : u < 96) (r : Fin 512) : Fin 49152 := ⟨u * 512 + r.val, by omega⟩

theorem up_lt (t : Fin cfg0.N) : 95 - t.val < 96 := by omega

theorem emb0 (t : Fin cfg0.N) (r : Fin 512) (k : Fin 512) : ((cfg0.win 0).blk t).view.emb (ix2 r k) = ix2 (at_ t.val (t_lt t) r) k := by
  funext a; apply Fin.ext
  show ((win0_0.rect t).emb (ix2 r k) a : Nat) = _
  rw [win0_0.rect_emb_val]
  fin_cases a
  · show win0_0.index t 0 * 512 + r.val = _; rw [(idx t).1.1]; rfl
  · show win0_0.index t 1 * 512 + k.val = _; rw [(idx t).1.2]; show 0 * 512 + k.val = k.val; omega

theorem emb1 (t : Fin cfg0.N) (r : Fin 512) (k : Fin 512) : ((cfg0.win 1).blk t).view.emb (ix2 r k) = ix2 (at_ t.val (t_lt t) r) k := by
  funext a; apply Fin.ext
  show ((win0_1.rect t).emb (ix2 r k) a : Nat) = _
  rw [win0_1.rect_emb_val]
  fin_cases a
  · show win0_1.index t 0 * 512 + r.val = _; rw [(idx t).2.1.1]; rfl
  · show win0_1.index t 1 * 512 + k.val = _; rw [(idx t).2.1.2]; show 0 * 512 + k.val = k.val; omega

theorem emb2 (t : Fin cfg0.N) (r : Fin 512) (k : Fin 512) : ((cfg0.win 2).blk t).view.emb (ix2 r k) = ix2 (at_ (95 - t.val) (up_lt t) r) k := by
  funext a; apply Fin.ext
  show ((win0_2.rect t).emb (ix2 r k) a : Nat) = _
  rw [win0_2.rect_emb_val]
  fin_cases a
  · show win0_2.index t 0 * 512 + r.val = _; rw [(idx t).2.2.1.1]; rfl
  · show win0_2.index t 1 * 512 + k.val = _; rw [(idx t).2.2.1.2]; show 0 * 512 + k.val = k.val; omega

theorem emb3 (t : Fin cfg0.N) (r : Fin 512) (k : Fin 512) : ((cfg0.win 3).blk t).view.emb (ix2 r k) = ix2 (at_ (95 - t.val) (up_lt t) r) k := by
  funext a; apply Fin.ext
  show ((win0_3.rect t).emb (ix2 r k) a : Nat) = _
  rw [win0_3.rect_emb_val]
  fin_cases a
  · show win0_3.index t 0 * 512 + r.val = _; rw [(idx t).2.2.2.1.1]; rfl
  · show win0_3.index t 1 * 512 + k.val = _; rw [(idx t).2.2.2.1.2]; show 0 * 512 + k.val = k.val; omega

theorem emb4 (t : Fin cfg0.N) (r : Fin 512) (k : Fin 512) : ((cfg0.win 4).blk t).view.emb (ix2 r k) = ix2 (at_ t.val (t_lt t) r) k := by
  funext a; apply Fin.ext
  show ((win0_4.rect t).emb (ix2 r k) a : Nat) = _
  rw [win0_4.rect_emb_val]
  fin_cases a
  · show win0_4.index t 0 * 512 + r.val = _; rw [(idx t).2.2.2.2.1.1]; rfl
  · show win0_4.index t 1 * 512 + k.val = _; rw [(idx t).2.2.2.2.1.2]; show 0 * 512 + k.val = k.val; omega

theorem emb5 (t : Fin cfg0.N) (r : Fin 512) (k : Fin 512) : ((cfg0.win 5).blk t).view.emb (ix2 r k) = ix2 (at_ (95 - t.val) (up_lt t) r) k := by
  funext a; apply Fin.ext
  show ((win0_5.rect t).emb (ix2 r k) a : Nat) = _
  rw [win0_5.rect_emb_val]
  fin_cases a
  · show win0_5.index t 0 * 512 + r.val = _; rw [(idx t).2.2.2.2.2.1]; rfl
  · show win0_5.index t 1 * 512 + k.val = _; rw [(idx t).2.2.2.2.2.2]; show 0 * 512 + k.val = k.val; omega

theorem iblk0_apply (t : Fin cfg0.N) (r : Fin 512) (k : Fin 512) :
    iblk m c 0 t (ix2 r k) = m ((c : Thread nD τ).loc main_arg0) (ix2 (at_ t.val (t_lt t) r) k) := by
  show V m c main_arg0 (((cfg0.win 0).blk t).view.emb (ix2 r k)) = _
  rw [emb0, V_main_arg0]

theorem iblk1_apply (t : Fin cfg0.N) (r : Fin 512) (k : Fin 512) :
    iblk m c 1 t (ix2 r k) = m ((c : Thread nD τ).loc main_arg1) (ix2 (at_ t.val (t_lt t) r) k) := by
  show V m c main_arg1 (((cfg0.win 1).blk t).view.emb (ix2 r k)) = _
  rw [emb1, V_main_arg1]

theorem iblk2_apply (t : Fin cfg0.N) (r : Fin 512) (k : Fin 512) :
    iblk m c 2 t (ix2 r k) = m ((c : Thread nD τ).loc main_arg2) (ix2 (at_ (95 - t.val) (up_lt t) r) k) := by
  show V m c main_arg2 (((cfg0.win 2).blk t).view.emb (ix2 r k)) = _
  rw [emb2, V_main_arg2]

theorem iblk3_apply (t : Fin cfg0.N) (r : Fin 512) (k : Fin 512) :
    iblk m c 3 t (ix2 r k) = m ((c : Thread nD τ).loc main_arg3) (ix2 (at_ (95 - t.val) (up_lt t) r) k) := by
  show V m c main_arg3 (((cfg0.win 3).blk t).view.emb (ix2 r k)) = _
  rw [emb3, V_main_arg3]

/-! ### The carries across the blocks -/

/-- Channel `j` of the four arguments. -/
abbrev af (j : Fin 512) (n : Fin 49152) : EReal := m ((c : Thread nD τ).loc main_arg0) (ix2 n j)
abbrev bf (j : Fin 512) (n : Fin 49152) : EReal := m ((c : Thread nD τ).loc main_arg1) (ix2 n j)
abbrev ab (j : Fin 512) (n : Fin 49152) : EReal := m ((c : Thread nD τ).loc main_arg2) (ix2 n j)
abbrev bb (j : Fin 512) (n : Fin 49152) : EReal := m ((c : Thread nD τ).loc main_arg3) (ix2 n j)

/-- A block's rows are consecutive tokens. -/
theorem run_fwd (t : Fin cfg0.N) (j : Fin 512) (x : EReal) (n : ℕ) (hn : n ≤ 512) :
    run (dn (iblk m c 0 t) j) (dn (iblk m c 1 t) j) x n
      = run (fun k => tok (af m c j) (512 * t.val + k)) (fun k => tok (bf m c j) (512 * t.val + k)) x n := by
  refine run_congr x n fun k hk => ?_
  have ht := t_lt t
  have e : at_ t.val (t_lt t) (rowB k) = ⟨(512 * t.val + k) % 49152, Nat.mod_lt _ (by decide)⟩ :=
    Fin.ext (by show t.val * 512 + k % 512 = (512 * t.val + k) % 49152; omega)
  exact ⟨(iblk0_apply m c t _ j).trans (by rw [e]; rfl), (iblk1_apply m c t _ j).trans (by rw [e]; rfl)⟩

theorem run_bwd (t : Fin cfg0.N) (j : Fin 512) (x : EReal) (n : ℕ) (hn : n ≤ 512) :
    run (up (iblk m c 2 t) j) (up (iblk m c 3 t) j) x n
      = run (fun k => tok (ab m c j) (49151 - (512 * t.val + k))) (fun k => tok (bb m c j) (49151 - (512 * t.val + k))) x n := by
  refine run_congr x n fun k hk => ?_
  have ht := t_lt t
  have e : at_ (95 - t.val) (up_lt t) (rowB (511 - k)) = ⟨(49151 - (512 * t.val + k)) % 49152, Nat.mod_lt _ (by decide)⟩ :=
    Fin.ext (by show (95 - t.val) * 512 + (511 - k) % 512 = (49151 - (512 * t.val + k)) % 49152; omega)
  exact ⟨(iblk2_apply m c t _ j).trans (by rw [e]; rfl), (iblk3_apply m c t _ j).trans (by rw [e]; rfl)⟩

/-- Inside a block no sequence begins; at its first token one begins as the body's condition says. -/
theorem zF_in (t : Fin cfg0.N) (k : ℕ) (h0 : 0 < k) (hk : k ≤ 511) : ¬ zF (512 * t.val + k) := by
  have ht := t_lt t
  unfold zF; split <;> omega

theorem zB_in (t : Fin cfg0.N) (k : ℕ) (h0 : 0 < k) (hk : k ≤ 511) : ¬ zB (512 * t.val + k) := by
  have ht := t_lt t
  unfold zB; split <;> omega

theorem zF_first (t : Fin cfg0.N) : firstF (grid0.coords t) ↔ zF (512 * t.val) := by
  rw [firstF_iff t]
  have ht := t_lt t
  unfold zF; split <;> split <;> omega

theorem zB_first (t : Fin cfg0.N) : firstB (grid0.coords t) ↔ zB (512 * t.val) := by
  rw [firstB_iff t]
  have ht := t_lt t
  unfold zB; split <;> split <;> omega

theorem zero15 (i : Fin 8) (j : Fin 512) : k0_pay15 (F := Ideal) (ix2 i j) = (0 : EReal) := by
  pointwise [k0_pay15]
theorem zero1 (i : Fin 8) (j : Fin 512) : k0_pay1 (F := Ideal) (ix2 i j) = (0 : EReal) := by
  pointwise [k0_pay1]

/-- The carry a block begins with, reset where a sequence begins. -/
theorem inF_apply (t : Fin cfg0.N) (j : Fin 512) (x : EReal) (h : Vec Ideal S8x512 .f32) (hh : ∀ i, h (ix2 i j) = x) (i : Fin 8) :
    inF (grid0.coords t) h (ix2 i j) = if zF (512 * t.val) then 0 else x := by
  unfold inF
  by_cases hz : zF (512 * t.val)
  · rw [if_pos ((zF_first t).2 hz), if_pos hz, zero15]
  · rw [if_neg (fun h => hz ((zF_first t).1 h)), if_neg hz, hh]

theorem inB_apply (t : Fin cfg0.N) (j : Fin 512) (x : EReal) (h : Vec Ideal S8x512 .f32) (hh : ∀ i, h (ix2 i j) = x) (i : Fin 8) :
    inB (grid0.coords t) h (ix2 i j) = if zB (512 * t.val) then 0 else x := by
  unfold inB
  by_cases hz : zB (512 * t.val)
  · rw [if_pos ((zB_first t).2 hz), if_pos hz, zero1]
  · rw [if_neg (fun h => hz ((zB_first t).1 h)), if_neg hz, hh]

/-- The two recurrences over one block. -/
theorem fwd_block (t : Fin cfg0.N) (j : Fin 512) (n : ℕ) (hn : n ≤ 511) :
    run (dn (iblk m c 0 t) j) (dn (iblk m c 1 t) j) (if zF (512 * t.val) then 0 else fwd (af m c j) (bf m c j) (512 * t.val)) (n + 1)
      = fwd (af m c j) (bf m c j) (512 * t.val + (n + 1)) := by
  rw [run_fwd m c t j _ _ (by omega)]
  exact (scan_add (tok (af m c j)) (tok (bf m c j)) zF _ n fun k h0 hk => zF_in t k h0 (by omega)).symm

theorem bwd_block (t : Fin cfg0.N) (j : Fin 512) (n : ℕ) (hn : n ≤ 511) :
    run (up (iblk m c 2 t) j) (up (iblk m c 3 t) j) (if zB (512 * t.val) then 0 else bwd (ab m c j) (bb m c j) (512 * t.val)) (n + 1)
      = bwd (ab m c j) (bb m c j) (512 * t.val + (n + 1)) := by
  rw [run_bwd m c t j _ _ (by omega)]
  exact (scan_add (fun k => tok (ab m c j) (49151 - k)) (fun k => tok (bb m c j) (49151 - k)) zB _ n fun k h0 hk => zB_in t k h0 (by omega)).symm

/-- Every decay is nonnegative and finite. -/
def Decays : Prop := (∀ n j, Decay (af m c j n)) ∧ ∀ n j, Decay (ab m c j n)

variable {m c} (hd : Decays m c)
include hd

theorem dec0 (t : Fin cfg0.N) (j k : Fin 512) : Decay (iblk m c 0 t (ix2 k j)) := (iblk0_apply m c t k j).symm ▸ hd.1 _ _
theorem dec2 (t : Fin cfg0.N) (j k : Fin 512) : Decay (iblk m c 2 t (ix2 k j)) := (iblk2_apply m c t k j).symm ▸ hd.2 _ _

/-- Before point `n` the forward carry is the recurrence after `512 n` tokens, on every row. -/
theorem curF_apply (j : Fin 512) : ∀ n, n ≤ 96 → ∀ i : Fin 8, curF m c n (ix2 i j) = fwd (af m c j) (bf m c j) (512 * n)
  | 0, _, i => zero15 i j
  | n + 1, hn, i => by
    have hN : n < cfg0.N := lt_of_lt_of_eq (show n < 96 by omega) N_0.symm
    rw [curF_succ m c ⟨n, hN⟩, carF_apply _ _ _ j _ (dec0 hd ⟨n, hN⟩ j)
      (inF_apply ⟨n, hN⟩ j _ _ (curF_apply j n (by omega))) 64 le_rfl i]
    exact fwd_block m c ⟨n, hN⟩ j 511 le_rfl

theorem curB_apply (j : Fin 512) : ∀ n, n ≤ 96 → ∀ i : Fin 8, curB m c n (ix2 i j) = bwd (ab m c j) (bb m c j) (512 * n)
  | 0, _, i => zero1 i j
  | n + 1, hn, i => by
    have hN : n < cfg0.N := lt_of_lt_of_eq (show n < 96 by omega) N_0.symm
    rw [curB_succ m c ⟨n, hN⟩, carB_apply _ _ _ j _ (dec2 hd ⟨n, hN⟩ j)
      (inB_apply ⟨n, hN⟩ j _ _ (curB_apply j n (by omega))) 64 le_rfl i]
    exact bwd_block m c ⟨n, hN⟩ j 511 le_rfl

/-! ### The result arrays -/

omit hd

variable (m c) in
/-- The forward results: token `n` holds the recurrence after `n + 1` tokens. -/
def goalF : FVec Ideal S49152x512 .f32 := fun y => fwd (af m c (y 1)) (bf m c (y 1)) ((y 0).val + 1)

variable (m c) in
/-- The backward results: token `n` holds the recurrence after the last `49152 - n` tokens. -/
def goalB : FVec Ideal S49152x512 .f32 := fun y => bwd (ab m c (y 1)) (bb m c (y 1)) (49151 - (y 0).val + 1)

include hd

theorem flushed4 (t : Fin cfg0.N) : (dats m 0 c).flushed 4 t = ((cfg0.win 4).blk t).view.read (Elt Ideal) (goalF m c) := by
  show (cfg0.win 4).cut (grid0.coords t) ((dats m 0 c).after 4 t) = _
  rw [after_4]
  funext y
  obtain ⟨r, j, rfl⟩ : ∃ (r : Fin 512) (j : Fin 512), y = ix2 r j := ⟨y 0, y 1, by funext a; fin_cases a <;> rfl⟩
  show (outF (F := Ideal) _ _ _ (ix2 r j) : EReal) = goalF m c (((cfg0.win 4).blk t).view.emb (ix2 r j))
  rw [emb4, outF_apply _ _ _ j _ (dec0 hd t j) (inF_apply t j _ _ (curF_apply hd j t.val (by have := t_lt t; omega))) r,
    fwd_block m c t j r.val (by omega)]
  show fwd (af m c j) (bf m c j) _ = fwd (af m c j) (bf m c j) (t.val * 512 + r.val + 1)
  exact congrArg _ (by omega)

theorem flushed5 (t : Fin cfg0.N) : (dats m 0 c).flushed 5 t = ((cfg0.win 5).blk t).view.read (Elt Ideal) (goalB m c) := by
  show (cfg0.win 5).cut (grid0.coords t) ((dats m 0 c).after 5 t) = _
  rw [after_5]
  funext y
  obtain ⟨r, j, rfl⟩ : ∃ (r : Fin 512) (j : Fin 512), y = ix2 r j := ⟨y 0, y 1, by funext a; fin_cases a <;> rfl⟩
  show (outB (F := Ideal) _ _ _ (ix2 r j) : EReal) = goalB m c (((cfg0.win 5).blk t).view.emb (ix2 r j))
  rw [emb5, outB_apply _ _ _ j _ (dec2 hd t j) (inB_apply t j _ _ (curB_apply hd j t.val (by have := t_lt t; omega))) r,
    bwd_block m c t j (511 - r.val) (by omega)]
  show bwd (ab m c j) (bb m c j) _ = bwd (ab m c j) (bb m c j) (49151 - ((95 - t.val) * 512 + r.val) + 1)
  exact congrArg _ (by have := t_lt t; omega)

omit hd

/-- The blocks cover the arrays. -/
theorem cover4 (i : S49152x512.Idx) : ∃ t : Fin cfg0.N, (cfg0.win 4).flush t = true ∧ i ∈ ((cfg0.win 4).blk t).view.set := by
  have h0 : (i 0 : Nat) < 49152 := (i 0).isLt
  refine ⟨⟨(i 0 : Nat) / 512, by show _ < grid0.N; rw [N_0]; omega⟩, flush0_4 _, ?_⟩
  generalize ht : (⟨(i 0 : Nat) / 512, _⟩ : Fin cfg0.N) = t
  have hv : t.val = (i 0 : Nat) / 512 := by rw [← ht]
  have e : i = ((cfg0.win 4).blk t).view.emb (ix2 ⟨(i 0 : Nat) % 512, Nat.mod_lt _ (by omega)⟩ (i 1) : S512x512.Idx) := by
    refine Eq.trans ?_ (emb4 t _ _).symm
    funext a; apply Fin.ext
    fin_cases a
    · show (i 0 : Nat) = t.val * 512 + (i 0 : Nat) % 512; omega
    · rfl
  rw [e]
  exact View.emb_mem_set _ _

theorem cover5 (i : S49152x512.Idx) : ∃ t : Fin cfg0.N, (cfg0.win 5).flush t = true ∧ i ∈ ((cfg0.win 5).blk t).view.set := by
  have h0 : (i 0 : Nat) < 49152 := (i 0).isLt
  refine ⟨⟨95 - (i 0 : Nat) / 512, by show _ < grid0.N; rw [N_0]; omega⟩, flush0_5 _, ?_⟩
  generalize ht : (⟨95 - (i 0 : Nat) / 512, _⟩ : Fin cfg0.N) = t
  have hv : t.val = 95 - (i 0 : Nat) / 512 := by rw [← ht]
  have e : i = ((cfg0.win 5).blk t).view.emb (ix2 ⟨(i 0 : Nat) % 512, Nat.mod_lt _ (by omega)⟩ (i 1) : S512x512.Idx) := by
    refine Eq.trans ?_ (emb5 t _ _).symm
    funext a; apply Fin.ext
    fin_cases a
    · show (i 0 : Nat) = (95 - t.val) * 512 + (i 0 : Nat) % 512; omega
    · rfl
  rw [e]
  exact View.emb_mem_set _ _

include hd

/-- After the run the two result arrays are the two recurrences. -/
theorem final4 : (dats m 0 c).arrAt 4 cfg0.N = goalF m c := (dats m 0 c).arrAt_eq_of_cover 4 (goalF m c) (fun t _ => flushed4 hd t) cover4
theorem final5 : (dats m 0 c).arrAt 5 cfg0.N = goalB m c := (dats m 0 c).arrAt_eq_of_cover 5 (goalB m c) (fun t _ => flushed5 hd t) cover5

end Cert.LruIdeal.Scan

end
-- ==== Proof.LruRefMask.lean ====
module

public import proofs.«01_k».proof.Proof.Gen.LruRefIdeal.Step
public import proofs.«01_k».proof.Proof.LruMath
public import Idealize.ShloMosaic.Lib.Pointwise
public import Idealize.ShloMosaic.Lib.WordCmp
public import Idealize.ShloMosaic.Lib.Affine

/-! Where the reference of the RG-LRU scan begins a sequence: its two masks, token by token. -/

@[expose] public section

set_option maxRecDepth 16384

noncomputable section

open Idealize.ShloMosaic Idealize.ShloMosaic.WordCmp Cert.LruMath

namespace Cert.LruRefIdeal.Scan

open Cert.LruRefIdeal Cert.LruRefIdeal.Gen Cert.LruRefIdeal.Step

/-- The position of token `n` in its own sequence, as the reference's words compute it. -/
def posW (n : ℕ) : BitVec 32 :=
  Scalar.select (IntOp.cmpi CmpIPredicate.slt (BitVec.ofNat 32 n) 32768#32)
    (IntOp.remsi ArithUnit.host (BitVec.ofNat 32 n) 4096#32)
    (IntOp.remsi ArithUnit.host (IntOp.subi (BitVec.ofNat 32 n) 32768#32) 8192#32)

/-- The length of its sequence, less one. -/
def lastW (n : ℕ) : BitVec 32 :=
  IntOp.subi (Scalar.select (IntOp.cmpi CmpIPredicate.slt (BitVec.ofNat 32 n) 32768#32) 4096#32 8192#32) 1#32

theorem posW_toNat (n : ℕ) (hn : n < 49152) : (posW n).toNat = if n < 32768 then n % 4096 else (n - 32768) % 8192 := by
  unfold posW
  rw [cmpi_slt_ofNat (by omega) (by omega), select_ofBool]
  by_cases h : n < 32768
  · have e : (BitVec.ofNat 32 n).toNat = n := by rw [BitVec.toNat_ofNat]; omega
    rw [if_pos (by simpa using h), if_pos h, IntOp.toNat_remsi .host (by omega) 4096 (by omega) (by omega), e]
  · have e : (IntOp.subi (BitVec.ofNat 32 n) 32768#32).toNat = n - 32768 := by
      show (BitVec.ofNat 32 n - 32768#32).toNat = _
      rw [BitVec.toNat_sub, BitVec.toNat_ofNat, BitVec.toNat_ofNat]; omega
    rw [if_neg (by simpa using h), if_neg h, IntOp.toNat_remsi .host (by omega) 8192 (by omega) (by omega), e]

theorem lastW_toNat (n : ℕ) (hn : n < 49152) : (lastW n).toNat = if n < 32768 then 4095 else 8191 := by
  unfold lastW
  rw [cmpi_slt_ofNat (by omega) (by omega), select_ofBool]
  by_cases h : n < 32768
  · rw [if_pos (by simpa using h), if_pos h]; rfl
  · rw [if_neg (by simpa using h), if_neg h]; rfl

/-- The position's word is zero at the first tokens of the sequences; -/
theorem posW_tok (n : ℕ) (hn : n < 49152) : IntOp.cmpi CmpIPredicate.eq (posW n) 0#32 = if zF n then 1#1 else 0#1 := by
  rw [cmpi_eq_eq_toNat, posW_toNat n hn]
  have e : (if n < 32768 then n % 4096 else (n - 32768) % 8192) = (0#32).toNat ↔ zF n := by
    show _ = 0 ↔ _
    unfold zF; split <;> omega
  by_cases h : zF n
  · rw [if_pos h, decide_eq_true (e.2 h)]; rfl
  · rw [if_neg h, decide_eq_false (fun x => h (e.1 x))]; rfl

/-- and it is the length less one at the last ones. -/
theorem lastW_tok (n : ℕ) (hn : n < 49152) :
    IntOp.cmpi CmpIPredicate.eq (posW (49152 - (n + 1))) (lastW (49152 - (n + 1))) = if zB n then 1#1 else 0#1 := by
  rw [cmpi_eq_eq_toNat, posW_toNat _ (by omega), lastW_toNat _ (by omega)]
  have e : (if 49152 - (n + 1) < 32768 then (49152 - (n + 1)) % 4096 else (49152 - (n + 1) - 32768) % 8192)
      = (if 49152 - (n + 1) < 32768 then 4095 else 8191) ↔ zB n := by
    unfold zB; split <;> split <;> omega
  by_cases h : zB n
  · rw [if_pos h, decide_eq_true (e.2 h)]; rfl
  · rw [if_neg h, decide_eq_false (fun x => h (e.1 x))]; rfl

/-- The mask of the forward direction: token `n` is the first of its sequence. -/
theorem first_apply (n : Fin 49152) : K_main_v11 (F := Ideal) (ix1 n) = if zF n then 1#1 else 0#1 := by
  refine Eq.trans ?_ (posW_tok n.val n.isLt)
  pointwise [K_main_v11, K_main_v9, K_main_v10, K_main_c_3, K_main_v2, K_main_v4, K_main_v8, K_main_v0, K_main_v1, K_main_c, K_main_v3, K_main_c_0,
    K_main_v6, K_main_v7, K_main_c_2, K_main_v5, K_main_c_1, posW]

/-- The mask of the backward direction: the token `n` places before the last is the last of its sequence. -/
theorem last_apply (n : Fin 49152) : K_main_v20 (F := Ideal) (ix1 n) = if zB n then 1#1 else 0#1 := by
  refine Eq.trans ?_ (lastW_tok n.val n.isLt)
  rw [show 49152 - (n.val + 1) = (n.rev : ℕ) from rfl]
  show K_main_v16 (F := Ideal) (ix1 n.rev) = _
  show IntOp.cmpi CmpIPredicate.eq (K_main_v9 (F := Ideal) (ix1 n.rev)) (K_main_v14 (F := Ideal) (ix1 n.rev)) = _
  pointwise [K_main_v9, K_main_v2, K_main_v4, K_main_v8, K_main_v0, K_main_v1, K_main_c, K_main_v3, K_main_c_0,
    K_main_v6, K_main_v7, K_main_c_2, K_main_v5, K_main_c_1, K_main_v14, K_main_v12, K_main_v13, K_main_call1_v0, K_main_call1_v1, K_main_c_6,
    K_main_c_4, K_main_c_5, posW, lastW]

end Cert.LruRefIdeal.Scan

end
-- ==== Proof.LruRef.lean ====
module

public import proofs.«01_k».proof.Proof.LruRefMask
public import proofs.«01_k».proof.Proof.LruMath
public import Idealize.ShloMosaic.Lib.Pointwise

/-! The reference of the RG-LRU scan: its result arrays are the recurrences, token by token. -/

@[expose] public section

set_option maxRecDepth 16384

noncomputable section

open Idealize.ShloMosaic Idealize.ShloMosaic.WordCmp Cert.LruMath

namespace Cert.LruRefIdeal.Scan
open Cert.LruRefIdeal Cert.LruRefIdeal.Gen Cert.LruRefIdeal.Step

/-! ### One trip -/

/-- The start of a trip's slice of the arrays: its own row, and the first column. -/
theorem start0 (n : ℕ) (hn : n < 49152) (pr) : Host.clampedStart S49152x512 S1x512 pr
    (fun k => BitVec.toInt ((![constantI S_ 32 (BitVec.ofNat 32 n), constantI S_ 32 0#32] : Fin 2 → IVec S_ 32) k (Shape.Idx.first h_S_))) 0 = n :=
  Host.clampedStart_of_le _ _ _ n (toInt_ofNat_of_lt (by omega)) (by show n + 1 ≤ 49152; omega)

theorem start1 (n : ℕ) (pr) : Host.clampedStart S49152x512 S1x512 pr
    (fun k => BitVec.toInt ((![constantI S_ 32 (BitVec.ofNat 32 n), constantI S_ 32 0#32] : Fin 2 → IVec S_ 32) k (Shape.Idx.first h_S_))) 1 = 0 :=
  Host.clampedStart_of_le _ _ _ 0 rfl (by show 0 + 512 ≤ 512; omega)

section Trip

variable (n : ℕ) (hn : n < 49152) (s : Step.State Ideal) (j : Fin 512)

theorem b2_apply : b2 n s (ix1 j) = s.main_v23_0 (ix2 ⟨n, hn⟩ j) := by
  pointwise [b2, b1, b0]
  simp only [start0 n hn, start1 n, Nat.zero_add, Fin.eta]

theorem b5_apply : b5 n s (ix1 j) = s.main_v23_1 (ix2 ⟨n, hn⟩ j) := by
  pointwise [b5, b4, b3]
  simp only [start0 n hn, start1 n, Nat.zero_add, Fin.eta]

theorem b10_apply : b10 n s (ix1 j) = s.main_v23_3 (ix2 ⟨n, hn⟩ j) := by
  pointwise [b10, b9, b8]
  simp only [start0 n hn, start1 n, Nat.zero_add, Fin.eta]

theorem b13_apply : b13 n s (ix1 j) = s.main_v23_4 (ix2 ⟨n, hn⟩ j) := by
  pointwise [b13, b12, b11]
  simp only [start0 n hn, start1 n, Nat.zero_add, Fin.eta]

include hn in
/-- The trip's entries of the two masks. -/
theorem b6_apply : b6 n s (ix1 0) = if zF n then 1#1 else 0#1 := by
  refine (congrFun (dynamicSlice_eq_extract (s := S49152) S1 (K_main_v11 (F := Ideal)) _ _ ![n] ⟨rfl, fun a => by fin_cases a; show n + 1 ≤ 49152; omega⟩
    (fun a => by fin_cases a; exact toInt_ofNat_of_lt (by omega))) (ix1 0)).trans ?_
  refine Eq.trans ?_ (first_apply ⟨n, hn⟩)
  exact congrArg (K_main_v11 (F := Ideal)) (by funext a; fin_cases a; rfl)

include hn in
theorem b14_apply : b14 n s (ix1 0) = if zB n then 1#1 else 0#1 := by
  refine (congrFun (dynamicSlice_eq_extract (s := S49152) S1 (K_main_v20 (F := Ideal)) _ _ ![n] ⟨rfl, fun a => by fin_cases a; show n + 1 ≤ 49152; omega⟩
    (fun a => by fin_cases a; exact toInt_ofNat_of_lt (by omega))) (ix1 0)).trans ?_
  refine Eq.trans ?_ (last_apply ⟨n, hn⟩)
  exact congrArg (K_main_v20 (F := Ideal)) (by funext a; fin_cases a; rfl)

theorem b21_apply : b21 n s (ix1 j)
    = (s.main_v23_0 (ix2 ⟨n, hn⟩ j) : EReal) * (if zF n then 0 else s.main_v23_7 (ix1 j)) + s.main_v23_1 (ix2 ⟨n, hn⟩ j) := by
  rw [← b2_apply n hn s j, ← b5_apply n hn s j]
  pointwise [b21, b20, b19, b18, b17, b16, b7]
  rw [b6_apply n hn s]
  by_cases h : zF n
  · rw [if_pos h, if_pos h, mul_zero]; rfl
  · rw [if_neg h, if_neg h]; rfl

theorem b27_apply : b27 n s (ix1 j)
    = (s.main_v23_3 (ix2 ⟨n, hn⟩ j) : EReal) * (if zB n then 0 else s.main_v23_8 (ix1 j)) + s.main_v23_4 (ix2 ⟨n, hn⟩ j) := by
  rw [← b10_apply n hn s j, ← b13_apply n hn s j]
  pointwise [b27, b26, b25, b24, b23, b22, b15]
  rw [b14_apply n hn s]
  by_cases h : zB n
  · rw [if_pos h, if_pos h, mul_zero]; rfl
  · rw [if_neg h, if_neg h]; rfl

include hn in
theorem b30_apply (r : Fin 49152) : b30 n s (ix2 r j) = if r.val = n then b21 n s (ix1 j) else s.main_v23_9 (ix2 r j) := by
  pointwise [b30, b28, b29]
  simp only [start0 n hn, start1 n, Nat.sub_zero, Fin.eta, Nat.zero_le, and_true]
  by_cases h : r.val = n
  · rw [if_pos h, dif_pos (by omega)]
  · rw [if_neg h, dif_neg (by omega)]

include hn in
theorem b33_apply (r : Fin 49152) : b33 n s (ix2 r j) = if r.val = n then b27 n s (ix1 j) else s.main_v23_10 (ix2 r j) := by
  pointwise [b33, b31, b32]
  simp only [start0 n hn, start1 n, Nat.sub_zero, Fin.eta, Nat.zero_le, and_true]
  by_cases h : r.val = n
  · rw [if_pos h, dif_pos (by omega)]
  · rw [if_neg h, dif_neg (by omega)]

end Trip

/-! ### All trips -/

section Run

variable (x0 x1 x2 x3 : FVec Ideal S49152x512 .f32)

/-- The state after `n` trips. -/
def it : ℕ → Step.State Ideal
  | 0 => init x0 x1 x2 x3
  | n + 1 => step n (it n)

theorem it_0 (n : ℕ) : (it x0 x1 x2 x3 n).main_v23_0 = x0 := by
  induction n with
  | zero => rfl
  | succ n ih => exact ih
theorem it_1 (n : ℕ) : (it x0 x1 x2 x3 n).main_v23_1 = x1 := by
  induction n with
  | zero => rfl
  | succ n ih => exact ih
theorem it_3 (n : ℕ) : (it x0 x1 x2 x3 n).main_v23_3 = Host.reverse [0] x2 := by
  induction n with
  | zero => rfl
  | succ n ih => exact ih
theorem it_4 (n : ℕ) : (it x0 x1 x2 x3 n).main_v23_4 = Host.reverse [0] x3 := by
  induction n with
  | zero => rfl
  | succ n ih => exact ih

/-- Channel `j` of an array. -/
abbrev chan (x : FVec Ideal S49152x512 .f32) (j : Fin 512) (n : Fin 49152) : EReal := x (ix2 n j)

theorem reverse_apply (x : FVec Ideal S49152x512 .f32) (n : ℕ) (hn : n < 49152) (j : Fin 512) :
    (Host.reverse [0] x (ix2 ⟨n, hn⟩ j) : EReal) = tok (chan x j) (49151 - n) := by
  show x _ = x (ix2 ⟨(49151 - n) % 49152, _⟩ j)
  refine congrArg x ?_
  funext a; apply Fin.ext
  fin_cases a
  · show 49152 - (n + 1) = (49151 - n) % 49152; omega
  · rfl

theorem tok_of_lt (x : FVec Ideal S49152x512 .f32) (n : ℕ) (hn : n < 49152) (j : Fin 512) : (x (ix2 ⟨n, hn⟩ j) : EReal) = tok (chan x j) n := by
  unfold tok
  simp only [Nat.mod_eq_of_lt hn]

/-- The carried states after `n` trips are the recurrences after `n` tokens. -/
theorem carries (j : Fin 512) : ∀ n, n ≤ 49152 →
    (it x0 x1 x2 x3 n).main_v23_7 (ix1 j) = fwd (chan x0 j) (chan x1 j) n
      ∧ (it x0 x1 x2 x3 n).main_v23_8 (ix1 j) = bwd (chan x2 j) (chan x3 j) n
  | 0, _ => by
    constructor
    · show K_main_v17 (F := Ideal) (ix1 j) = (0 : EReal)
      pointwise [K_main_v17, K_main_cst]
    · show K_main_v17 (F := Ideal) (ix1 j) = (0 : EReal)
      pointwise [K_main_v17, K_main_cst]
  | n + 1, hn => by
    obtain ⟨h7, h8⟩ := carries j n (by omega)
    constructor
    · show b21 n (it x0 x1 x2 x3 n) (ix1 j) = _
      rw [b21_apply n (by omega), h7, it_0, it_1, tok_of_lt x0 n (by omega), tok_of_lt x1 n (by omega)]
      rfl
    · show b27 n (it x0 x1 x2 x3 n) (ix1 j) = _
      rw [b27_apply n (by omega), h8, it_3, it_4, reverse_apply, reverse_apply]
      rfl

/-- The rows stored by the first `n` trips. -/
theorem rows (j : Fin 512) : ∀ n, n ≤ 49152 → ∀ r : Fin 49152, r.val < n →
    (it x0 x1 x2 x3 n).main_v23_9 (ix2 r j) = fwd (chan x0 j) (chan x1 j) (r.val + 1)
      ∧ (it x0 x1 x2 x3 n).main_v23_10 (ix2 r j) = bwd (chan x2 j) (chan x3 j) (r.val + 1)
  | 0, _, r, h => absurd h (Nat.not_lt_zero _)
  | n + 1, hn, r, h => by
    have hc := carries x0 x1 x2 x3 j (n + 1) hn
    constructor
    · show b30 n (it x0 x1 x2 x3 n) (ix2 r j) = _
      rw [b30_apply n (by omega)]
      by_cases e : r.val = n
      · rw [if_pos e, e]; exact hc.1
      · rw [if_neg e]; exact (rows j n (by omega) r (by omega)).1
    · show b33 n (it x0 x1 x2 x3 n) (ix2 r j) = _
      rw [b33_apply n (by omega)]
      by_cases e : r.val = n
      · rw [if_pos e, e]; exact hc.2
      · rw [if_neg e]; exact (rows j n (by omega) r (by omega)).2

/-- The reference's forward result: token `n` holds the recurrence after `n + 1` tokens. -/
theorem result_f : (it x0 x1 x2 x3 49152).main_v23_9 = fun y => fwd (chan x0 (y 1)) (chan x1 (y 1)) ((y 0).val + 1) := by
  funext y
  obtain ⟨r, j, rfl⟩ : ∃ (r : Fin 49152) (j : Fin 512), y = ix2 r j := ⟨y 0, y 1, by funext a; fin_cases a <;> rfl⟩
  exact (rows x0 x1 x2 x3 j 49152 le_rfl r r.isLt).1

/-- Its backward result: token `n` holds the recurrence after the last `49152 - n` tokens. -/
theorem result_b : R_main_v24 (it x0 x1 x2 x3 49152) = fun y => bwd (chan x2 (y 1)) (chan x3 (y 1)) (49151 - (y 0).val + 1) := by
  funext y
  obtain ⟨r, j, rfl⟩ : ∃ (r : Fin 49152) (j : Fin 512), y = ix2 r j := ⟨y 0, y 1, by funext a; fin_cases a <;> rfl⟩
  refine Eq.trans ?_ ((rows x0 x1 x2 x3 j 49152 le_rfl r.rev r.rev.isLt).2.trans (congrArg (bwd (chan x2 j) (chan x3 j)) ?_))
  · refine congrArg (it x0 x1 x2 x3 49152).main_v23_10 ?_
    funext a
    fin_cases a <;> rfl
  · show 49152 - (r.val + 1) + 1 = 49151 - r.val + 1; omega

end Run

end Cert.LruRefIdeal.Scan

end
-- ==== Proof.LruRefRun.lean ====
module

public import proofs.«01_k».proof.Proof.Gen.LruRefIdeal.Run
public import proofs.«01_k».proof.Proof.Gen.LruRefIdeal.Step

/-! The reference of the RG-LRU scan as its trip iterated. After the generated statement of the same run, with the two steps that
   store a row closed by the rows' own equations. -/

@[expose] public section

noncomputable section

namespace Cert.LruRefIdeal.Trips

open Idealize.ShloMosaic Idealize.ShloMosaic.TcCoe Idealize.SL.Sem Idealize.ShloMosaic.StableHlo
open Cert.LruRefIdeal Cert.LruRefIdeal.Gen Cert.LruRefIdeal.Value
open Cert.LruRefIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v23_7) = s.main_v23_7
  f_8 : V0 (Proc.devRef .tc main_v23_8) = s.main_v23_8
  f_9 : V0 (Proc.devRef .tc main_v23_9) = s.main_v23_9
  f_10 : V0 (Proc.devRef .tc main_v23_10) = s.main_v23_10
  f_0 : V0 (Proc.devRef .tc main_v23_0) = s.main_v23_0
  f_1 : V0 (Proc.devRef .tc main_v23_1) = s.main_v23_1
  f_3 : V0 (Proc.devRef .tc main_v23_3) = s.main_v23_3
  f_4 : V0 (Proc.devRef .tc main_v23_4) = s.main_v23_4
  n_6 : V0 (Proc.devRef .tc main_v23_6) = constantI S_ 32 (BitVec.ofNat 32 j)
  k_2 : V0 (Proc.devRef .tc main_v23_2) = Cert.LruRefIdeal.Step.K_main_v11 (F := F)
  k_5 : V0 (Proc.devRef .tc main_v23_5) = Cert.LruRefIdeal.Step.K_main_v20 (F := F)

variable {V0 s j}

set_option maxRecDepth 8192 in
theorem al_0 (h : Holds V0 s j) : (constantI S_ 32 0#32 : (Proc.devRef .tc main_while0b_call5_c : DevRef τ sig).ty.Contents (Elt F)) = Cert.LruRefIdeal.Step.b0 j s := by
  unfold Cert.LruRefIdeal.Step.b0
  rfl
set_option maxRecDepth 8192 in
theorem al_1 (h : Holds V0 s j) : (Host.dynamicSlice S1x512 (V0 (Proc.devRef .tc main_v23_0)) (fun k => (((![V0 (Proc.devRef .tc main_v23_6), constantI S_ 32 0#32] : Fin 2 → (⟨S_, .i32⟩ : BufTy).Contents (Elt F))) k (Shape.Idx.first h_S_)).toInt) sliceFits_S49152x512_S1x512 : (Proc.devRef .tc main_while0b_call5_v0 : DevRef τ sig).ty.Contents (Elt F)) = Cert.LruRefIdeal.Step.b1 j s := by
  unfold Cert.LruRefIdeal.Step.b1
  rw [← al_0 h, h.f_0, h.n_6]
  try rfl
set_option maxRecDepth 8192 in
theorem al_2 (h : Holds V0 s j) : (shapeCast S512 (Host.dynamicSlice S1x512 (V0 (Proc.devRef .tc main_v23_0)) (fun k => (((![V0 (Proc.devRef .tc main_v23_6), constantI S_ 32 0#32] : Fin 2 → (⟨S_, .i32⟩ : BufTy).Contents (Elt F))) k (Shape.Idx.first h_S_)).toInt) sliceFits_S49152x512_S1x512) shapeCasts_S1x512_S512 : (Proc.devRef .tc main_while0b_v25 : DevRef τ sig).ty.Contents (Elt F)) = Cert.LruRefIdeal.Step.b2 j s := by
  unfold Cert.LruRefIdeal.Step.b2
  rw [← al_1 h]
  try rfl
set_option maxRecDepth 8192 in
theorem al_3 (h : Holds V0 s j) : (constantI S_ 32 0#32 : (Proc.devRef .tc main_while0b_call6_c : DevRef τ sig).ty.Contents (Elt F)) = Cert.LruRefIdeal.Step.b3 j s := by
  unfold Cert.LruRefIdeal.Step.b3
  rfl
set_option maxRecDepth 8192 in
theorem al_4 (h : Holds V0 s j) : (Host.dynamicSlice S1x512 (V0 (Proc.devRef .tc main_v23_1)) (fun k => (((![V0 (Proc.devRef .tc main_v23_6), constantI S_ 32 0#32] : Fin 2 → (⟨S_, .i32⟩ : BufTy).Contents (Elt F))) k (Shape.Idx.first h_S_)).toInt) sliceFits_S49152x512_S1x512 : (Proc.devRef .tc main_while0b_call6_v0 : DevRef τ sig).ty.Contents (Elt F)) = Cert.LruRefIdeal.Step.b4 j s := by
  unfold Cert.LruRefIdeal.Step.b4
  rw [← al_3 h, h.f_1, h.n_6]
  try rfl
set_option maxRecDepth 8192 in
theorem al_5 (h : Holds V0 s j) : (shapeCast S512 (Host.dynamicSlice S1x512 (V0 (Proc.devRef .tc main_v23_1)) (fun k => (((![V0 (Proc.devRef .tc main_v23_6), constantI S_ 32 0#32] : Fin 2 → (⟨S_, .i32⟩ : BufTy).Contents (Elt F))) k (Shape.Idx.first h_S_)).toInt) sliceFits_S49152x512_S1x512) shapeCasts_S1x512_S512 : (Proc.devRef .tc main_while0b_v26 : DevRef τ sig).ty.Contents (Elt F)) = Cert.LruRefIdeal.Step.b5 j s := by
  unfold Cert.LruRefIdeal.Step.b5
  rw [← al_4 h]
  try rfl
set_option maxRecDepth 8192 in
theorem al_6 (h : Holds V0 s j) : (Host.dynamicSlice S1 (V0 (Proc.devRef .tc main_v23_2)) (fun k => (((![V0 (Proc.devRef .tc main_v23_6)] : Fin 1 → (⟨S_, .i32⟩ : BufTy).Contents (Elt F))) k (Shape.Idx.first h_S_)).toInt) sliceFits_S49152_S1 : (Proc.devRef .tc main_while0b_call7_v0 : DevRef τ sig).ty.Contents (Elt F)) = Cert.LruRefIdeal.Step.b6 j s := by
  unfold Cert.LruRefIdeal.Step.b6
  rw [h.k_2, h.n_6]
  try rfl
set_option maxRecDepth 8192 in
theorem al_7 (h : Holds V0 s j) : (shapeCast S_ (Host.dynamicSlice S1 (V0 (Proc.devRef .tc main_v23_2)) (fun k => (((![V0 (Proc.devRef .tc main_v23_6)] : Fin 1 → (⟨S_, .i32⟩ : BufTy).Contents (Elt F))) k (Shape.Idx.first h_S_)).toInt) sliceFits_S49152_S1) shapeCasts_S1_S_ : (Proc.devRef .tc main_while0b_v27 : DevRef τ sig).ty.Contents (Elt F)) = Cert.LruRefIdeal.Step.b7 j s := by
  unfold Cert.LruRefIdeal.Step.b7
  rw [← al_6 h]
  try rfl
set_option maxRecDepth 8192 in
theorem al_8 (h : Holds V0 s j) : (constantI S_ 32 0#32 : (Proc.devRef .tc main_while0b_call8_c : DevRef τ sig).ty.Contents (Elt F)) = Cert.LruRefIdeal.Step.b8 j s := by
  unfold Cert.LruRefIdeal.Step.b8
  rfl
set_option maxRecDepth 8192 in
theorem al_9 (h : Holds V0 s j) : (Host.dynamicSlice S1x512 (V0 (Proc.devRef .tc main_v23_3)) (fun k => (((![V0 (Proc.devRef .tc main_v23_6), constantI S_ 32 0#32] : Fin 2 → (⟨S_, .i32⟩ : BufTy).Contents (Elt F))) k (Shape.Idx.first h_S_)).toInt) sliceFits_S49152x512_S1x512 : (Proc.devRef .tc main_while0b_call8_v0 : DevRef τ sig).ty.Contents (Elt F)) = Cert.LruRefIdeal.Step.b9 j s := by
  unfold Cert.LruRefIdeal.Step.b9
  rw [← al_8 h, h.f_3, h.n_6]
  try rfl
set_option maxRecDepth 8192 in
theorem al_10 (h : Holds V0 s j) : (shapeCast S512 (Host.dynamicSlice S1x512 (V0 (Proc.devRef .tc main_v23_3)) (fun k => (((![V0 (Proc.devRef .tc main_v23_6), constantI S_ 32 0#32] : Fin 2 → (⟨S_, .i32⟩ : BufTy).Contents (Elt F))) k (Shape.Idx.first h_S_)).toInt) sliceFits_S49152x512_S1x512) shapeCasts_S1x512_S512 : (Proc.devRef .tc main_while0b_v28 : DevRef τ sig).ty.Contents (Elt F)) = Cert.LruRefIdeal.Step.b10 j s := by
  unfold Cert.LruRefIdeal.Step.b10
  rw [← al_9 h]
  try rfl
set_option maxRecDepth 8192 in
theorem al_11 (h : Holds V0 s j) : (constantI S_ 32 0#32 : (Proc.devRef .tc main_while0b_call9_c : DevRef τ sig).ty.Contents (Elt F)) = Cert.LruRefIdeal.Step.b11 j s := by
  unfold Cert.LruRefIdeal.Step.b11
  rfl
set_option maxRecDepth 8192 in
theorem al_12 (h : Holds V0 s j) : (Host.dynamicSlice S1x512 (V0 (Proc.devRef .tc main_v23_4)) (fun k => (((![V0 (Proc.devRef .tc main_v23_6), constantI S_ 32 0#32] : Fin 2 → (⟨S_, .i32⟩ : BufTy).Contents (Elt F))) k (Shape.Idx.first h_S_)).toInt) sliceFits_S49152x512_S1x512 : (Proc.devRef .tc main_while0b_call9_v0 : DevRef τ sig).ty.Contents (Elt F)) = Cert.LruRefIdeal.Step.b12 j s := by
  unfold Cert.LruRefIdeal.Step.b12
  rw [← al_11 h, h.f_4, h.n_6]
  try rfl
set_option maxRecDepth 8192 in
theorem al_13 (h : Holds V0 s j) : (shapeCast S512 (Host.dynamicSlice S1x512 (V0 (Proc.devRef .tc main_v23_4)) (fun k => (((![V0 (Proc.devRef .tc main_v23_6), constantI S_ 32 0#32] : Fin 2 → (⟨S_, .i32⟩ : BufTy).Contents (Elt F))) k (Shape.Idx.first h_S_)).toInt) sliceFits_S49152x512_S1x512) shapeCasts_S1x512_S512 : (Proc.devRef .tc main_while0b_v29 : DevRef τ sig).ty.Contents (Elt F)) = Cert.LruRefIdeal.Step.b13 j s := by
  unfold Cert.LruRefIdeal.Step.b13
  rw [← al_12 h]
  try rfl
set_option maxRecDepth 8192 in
theorem al_14 (h : Holds V0 s j) : (Host.dynamicSlice S1 (V0 (Proc.devRef .tc main_v23_5)) (fun k => (((![V0 (Proc.devRef .tc main_v23_6)] : Fin 1 → (⟨S_, .i32⟩ : BufTy).Contents (Elt F))) k (Shape.Idx.first h_S_)).toInt) sliceFits_S49152_S1 : (Proc.devRef .tc main_while0b_call10_v0 : DevRef τ sig).ty.Contents (Elt F)) = Cert.LruRefIdeal.Step.b14 j s := by
  unfold Cert.LruRefIdeal.Step.b14
  rw [h.k_5, h.n_6]
  try rfl
set_option maxRecDepth 8192 in
theorem al_15 (h : Holds V0 s j) : (shapeCast S_ (Host.dynamicSlice S1 (V0 (Proc.devRef .tc main_v23_5)) (fun k => (((![V0 (Proc.devRef .tc main_v23_6)] : Fin 1 → (⟨S_, .i32⟩ : BufTy).Contents (Elt F))) k (Shape.Idx.first h_S_)).toInt) sliceFits_S49152_S1) shapeCasts_S1_S_ : (Proc.devRef .tc main_while0b_v30 : DevRef τ sig).ty.Contents (Elt F)) = Cert.LruRefIdeal.Step.b15 j s := by
  unfold Cert.LruRefIdeal.Step.b15
  rw [← al_14 h]
  try rfl
set_option maxRecDepth 8192 in
theorem al_16 (h : Holds V0 s j) : (constant S_ .f32 0x00000000#32 : (Proc.devRef .tc main_while0b_cst_20 : DevRef τ sig).ty.Contents (Elt F)) = Cert.LruRefIdeal.Step.b16 j s := by
  unfold Cert.LruRefIdeal.Step.b16
  rfl
set_option maxRecDepth 8192 in
theorem al_17 (h : Holds V0 s j) : (id (constant S_ .f32 0x00000000#32) : (Proc.devRef .tc main_while0b_call11_v0 : DevRef τ sig).ty.Contents (Elt F)) = Cert.LruRefIdeal.Step.b17 j s := by
  unfold Cert.LruRefIdeal.Step.b17
  rw [← al_16 h]
  try rfl
set_option maxRecDepth 8192 in
theorem al_18 (h : Holds V0 s j) : (broadcastInDim S512 ![] bcast_S_S512 (id (constant S_ .f32 0x00000000#32)) : (Proc.devRef .tc main_while0b_call11_v1 : DevRef τ sig).ty.Contents (Elt F)) = Cert.LruRefIdeal.Step.b18 j s := by
  unfold Cert.LruRefIdeal.Step.b18
  rw [← al_17 h]
  try rfl
set_option maxRecDepth 8192 in
theorem al_19 (h : Holds V0 s j) : (select (broadcastInDim S512 ![] bcast_S_S512 (shapeCast S_ (Host.dynamicSlice S1 (V0 (Proc.devRef .tc main_v23_2)) (fun k => (((![V0 (Proc.devRef .tc main_v23_6)] : Fin 1 → (⟨S_, .i32⟩ : BufTy).Contents (Elt F))) k (Shape.Idx.first h_S_)).toInt) sliceFits_S49152_S1) shapeCasts_S1_S_)) (broadcastInDim S512 ![] bcast_S_S512 (id (constant S_ .f32 0x00000000#32))) (V0 (Proc.devRef .tc main_v23_7)) : (Proc.devRef .tc main_while0b_v31 : DevRef τ sig).ty.Contents (Elt F)) = Cert.LruRefIdeal.Step.b19 j s := by
  unfold Cert.LruRefIdeal.Step.b19
  rw [← al_7 h, ← al_18 h, h.f_7]
  try rfl
set_option maxRecDepth 8192 in
theorem al_20 (h : Holds V0 s j) : (mulf (shapeCast S512 (Host.dynamicSlice S1x512 (V0 (Proc.devRef .tc main_v23_0)) (fun k => (((![V0 (Proc.devRef .tc main_v23_6), constantI S_ 32 0#32] : Fin 2 → (⟨S_, .i32⟩ : BufTy).Contents (Elt F))) k (Shape.Idx.first h_S_)).toInt) sliceFits_S49152x512_S1x512) shapeCasts_S1x512_S512) (select (broadcastInDim S512 ![] bcast_S_S512 (shapeCast S_ (Host.dynamicSlice S1 (V0 (Proc.devRef .tc main_v23_2)) (fun k => (((![V0 (Proc.devRef .tc main_v23_6)] : Fin 1 → (⟨S_, .i32⟩ : BufTy).Contents (Elt F))) k (Shape.Idx.first h_S_)).toInt) sliceFits_S49152_S1) shapeCasts_S1_S_)) (broadcastInDim S512 ![] bcast_S_S512 (id (constant S_ .f32 0x00000000#32))) (V0 (Proc.devRef .tc main_v23_7))) : (Proc.devRef .tc main_while0b_v32 : DevRef τ sig).ty.Contents (Elt F)) = Cert.LruRefIdeal.Step.b20 j s := by
  unfold Cert.LruRefIdeal.Step.b20
  rw [← al_2 h, ← al_19 h]
  try rfl
set_option maxRecDepth 8192 in
theorem al_21 (h : Holds V0 s j) : (res_main_while0b_v33 V0 : (Proc.devRef .tc main_while0b_v33 : DevRef τ sig).ty.Contents (Elt F)) = Cert.LruRefIdeal.Step.b21 j s := by
  unfold res_main_while0b_v33 Cert.LruRefIdeal.Step.b21
  rw [← al_20 h, ← al_5 h]
  try rfl
set_option maxRecDepth 8192 in
theorem al_22 (h : Holds V0 s j) : (constant S_ .f32 0x00000000#32 : (Proc.devRef .tc main_while0b_cst_21 : DevRef τ sig).ty.Contents (Elt F)) = Cert.LruRefIdeal.Step.b22 j s := by
  unfold Cert.LruRefIdeal.Step.b22
  rfl
set_option maxRecDepth 8192 in
theorem al_23 (h : Holds V0 s j) : (id (constant S_ .f32 0x00000000#32) : (Proc.devRef .tc main_while0b_call12_v0 : DevRef τ sig).ty.Contents (Elt F)) = Cert.LruRefIdeal.Step.b23 j s := by
  unfold Cert.LruRefIdeal.Step.b23
  rw [← al_22 h]
  try rfl
set_option maxRecDepth 8192 in
theorem al_24 (h : Holds V0 s j) : (broadcastInDim S512 ![] bcast_S_S512 (id (constant S_ .f32 0x00000000#32)) : (Proc.devRef .tc main_while0b_call12_v1 : DevRef τ sig).ty.Contents (Elt F)) = Cert.LruRefIdeal.Step.b24 j s := by
  unfold Cert.LruRefIdeal.Step.b24
  rw [← al_23 h]
  try rfl
set_option maxRecDepth 8192 in
theorem al_25 (h : Holds V0 s j) : (select (broadcastInDim S512 ![] bcast_S_S512 (shapeCast S_ (Host.dynamicSlice S1 (V0 (Proc.devRef .tc main_v23_5)) (fun k => (((![V0 (Proc.devRef .tc main_v23_6)] : Fin 1 → (⟨S_, .i32⟩ : BufTy).Contents (Elt F))) k (Shape.Idx.first h_S_)).toInt) sliceFits_S49152_S1) shapeCasts_S1_S_)) (broadcastInDim S512 ![] bcast_S_S512 (id (constant S_ .f32 0x00000000#32))) (V0 (Proc.devRef .tc main_v23_8)) : (Proc.devRef .tc main_while0b_v34 : DevRef τ sig).ty.Contents (Elt F)) = Cert.LruRefIdeal.Step.b25 j s := by
  unfold Cert.LruRefIdeal.Step.b25
  rw [← al_15 h, ← al_24 h, h.f_8]
  try rfl
set_option maxRecDepth 8192 in
theorem al_26 (h : Holds V0 s j) : (mulf (shapeCast S512 (Host.dynamicSlice S1x512 (V0 (Proc.devRef .tc main_v23_3)) (fun k => (((![V0 (Proc.devRef .tc main_v23_6), constantI S_ 32 0#32] : Fin 2 → (⟨S_, .i32⟩ : BufTy).Contents (Elt F))) k (Shape.Idx.first h_S_)).toInt) sliceFits_S49152x512_S1x512) shapeCasts_S1x512_S512) (select (broadcastInDim S512 ![] bcast_S_S512 (shapeCast S_ (Host.dynamicSlice S1 (V0 (Proc.devRef .tc main_v23_5)) (fun k => (((![V0 (Proc.devRef .tc main_v23_6)] : Fin 1 → (⟨S_, .i32⟩ : BufTy).Contents (Elt F))) k (Shape.Idx.first h_S_)).toInt) sliceFits_S49152_S1) shapeCasts_S1_S_)) (broadcastInDim S512 ![] bcast_S_S512 (id (constant S_ .f32 0x00000000#32))) (V0 (Proc.devRef .tc main_v23_8))) : (Proc.devRef .tc main_while0b_v35 : DevRef τ sig).ty.Contents (Elt F)) = Cert.LruRefIdeal.Step.b26 j s := by
  unfold Cert.LruRefIdeal.Step.b26
  rw [← al_10 h, ← al_25 h]
  try rfl
set_option maxRecDepth 8192 in
theorem al_27 (h : Holds V0 s j) : (res_main_while0b_v36 V0 : (Proc.devRef .tc main_while0b_v36 : DevRef τ sig).ty.Contents (Elt F)) = Cert.LruRefIdeal.Step.b27 j s := by
  unfold res_main_while0b_v36 Cert.LruRefIdeal.Step.b27
  rw [← al_26 h, ← al_13 h]
  try rfl
set_option maxRecDepth 8192 in
theorem al_28 (h : Holds V0 s j) : (broadcastInDim S1x512 ![1] bcast_S512_S1x512_1 (res_main_while0b_v33 V0) : (Proc.devRef .tc main_while0b_call13_v0 : DevRef τ sig).ty.Contents (Elt F)) = Cert.LruRefIdeal.Step.b28 j s := by
  unfold Cert.LruRefIdeal.Step.b28
  rw [← al_21 h]
  try rfl
set_option maxRecDepth 8192 in
theorem al_29 (h : Holds V0 s j) : (constantI S_ 32 0#32 : (Proc.devRef .tc main_while0b_call13_c : DevRef τ sig).ty.Contents (Elt F)) = Cert.LruRefIdeal.Step.b29 j s := by
  unfold Cert.LruRefIdeal.Step.b29
  rfl
set_option maxRecDepth 8192 in
theorem al_30 (h : Holds V0 s j) : (Host.dynamicUpdateSlice (V0 (Proc.devRef .tc main_v23_9)) (broadcastInDim S1x512 ![1] bcast_S512_S1x512_1 (res_main_while0b_v33 V0)) (fun k => (((![V0 (Proc.devRef .tc main_v23_6), constantI S_ 32 0#32] : Fin 2 → (⟨S_, .i32⟩ : BufTy).Contents (Elt F))) k (Shape.Idx.first h_S_)).toInt) updateFits_S49152x512_S1x512 : (Proc.devRef .tc main_while0b_v37 : DevRef τ sig).ty.Contents (Elt F)) = Cert.LruRefIdeal.Step.b30 j s := by
  unfold Cert.LruRefIdeal.Step.b30
  rw [← al_28 h, ← al_29 h, h.f_9, h.n_6]
  try rfl
set_option maxRecDepth 8192 in
theorem al_31 (h : Holds V0 s j) : (broadcastInDim S1x512 ![1] bcast_S512_S1x512_1 (res_main_while0b_v36 V0) : (Proc.devRef .tc main_while0b_call14_v0 : DevRef τ sig).ty.Contents (Elt F)) = Cert.LruRefIdeal.Step.b31 j s := by
  unfold Cert.LruRefIdeal.Step.b31
  rw [← al_27 h]
  try rfl
set_option maxRecDepth 8192 in
theorem al_32 (h : Holds V0 s j) : (constantI S_ 32 0#32 : (Proc.devRef .tc main_while0b_call14_c : DevRef τ sig).ty.Contents (Elt F)) = Cert.LruRefIdeal.Step.b32 j s := by
  unfold Cert.LruRefIdeal.Step.b32
  rfl
set_option maxRecDepth 8192 in
theorem al_33 (h : Holds V0 s j) : (Host.dynamicUpdateSlice (V0 (Proc.devRef .tc main_v23_10)) (broadcastInDim S1x512 ![1] bcast_S512_S1x512_1 (res_main_while0b_v36 V0)) (fun k => (((![V0 (Proc.devRef .tc main_v23_6), constantI S_ 32 0#32] : Fin 2 → (⟨S_, .i32⟩ : BufTy).Contents (Elt F))) k (Shape.Idx.first h_S_)).toInt) updateFits_S49152x512_S1x512 : (Proc.devRef .tc main_while0b_v38 : DevRef τ sig).ty.Contents (Elt F)) = Cert.LruRefIdeal.Step.b33 j s := by
  unfold Cert.LruRefIdeal.Step.b33
  rw [← al_31 h, ← al_32 h, h.f_10, h.n_6]
  try rfl

/-! One trip's step of the carried values is `step`, field by field; a counter steps to the next number. -/

theorem step_7 (h : Holds V0 s j) : step_main_v23_7 V0 = (step j s).main_v23_7 := by
  unfold step_main_v23_7 Cert.LruRefIdeal.Step.step
  show id (res_main_while0b_v33 V0) = _
  rw [al_21 h]
  try rfl
theorem step_8 (h : Holds V0 s j) : step_main_v23_8 V0 = (step j s).main_v23_8 := by
  unfold step_main_v23_8 Cert.LruRefIdeal.Step.step
  show id (res_main_while0b_v36 V0) = _
  rw [al_27 h]
  try rfl
theorem step_9 (h : Holds V0 s j) : step_main_v23_9 V0 = (step j s).main_v23_9 := by
  unfold step_main_v23_9 Cert.LruRefIdeal.Step.step
  show id (Host.dynamicUpdateSlice (V0 (Proc.devRef .tc main_v23_9)) (broadcastInDim S1x512 ![1] bcast_S512_S1x512_1 (res_main_while0b_v33 V0)) (fun k => (((![V0 (Proc.devRef .tc main_v23_6), constantI S_ 32 0#32] : Fin 2 → (⟨S_, .i32⟩ : BufTy).Contents (Elt F))) k (Shape.Idx.first h_S_)).toInt) updateFits_S49152x512_S1x512) = _
  exact al_30 h
theorem step_10 (h : Holds V0 s j) : step_main_v23_10 V0 = (step j s).main_v23_10 := by
  unfold step_main_v23_10 Cert.LruRefIdeal.Step.step
  show id (Host.dynamicUpdateSlice (V0 (Proc.devRef .tc main_v23_10)) (broadcastInDim S1x512 ![1] bcast_S512_S1x512_1 (res_main_while0b_v36 V0)) (fun k => (((![V0 (Proc.devRef .tc main_v23_6), constantI S_ 32 0#32] : Fin 2 → (⟨S_, .i32⟩ : BufTy).Contents (Elt F))) k (Shape.Idx.first h_S_)).toInt) updateFits_S49152x512_S1x512) = _
  exact al_33 h
theorem step_6 (h : Holds V0 s j) : step_main_v23_6 V0 = constantI S_ 32 (BitVec.ofNat 32 (j + 1)) := by
  unfold step_main_v23_6
  rw [h.n_6]
  funext i
  show BitVec.ofNat 32 j + 1#32 = BitVec.ofNat 32 (j + 1)
  simp only [BitVec.ofNat_add]

set_option maxRecDepth 8192 in
theorem out_main_v24_holds (h : Holds V0 s j) : out_main_v24 V0 = Cert.LruRefIdeal.Step.R_main_v24 s := by
  unfold out_main_v24 Cert.LruRefIdeal.Step.R_main_v24
  rw [h.f_10]
  try rfl

/-- One trip keeps the valuation holding: `step` of the state, the same set-up values, the next number. -/
theorem holds_step (h : Holds V0 s j) : Holds (STEP V0) (step j s) (j + 1) where
  f_7 := (STEP_main_v23_7 V0).trans (step_7 h)
  f_8 := (STEP_main_v23_8 V0).trans (step_8 h)
  f_9 := (STEP_main_v23_9 V0).trans (step_9 h)
  f_10 := (STEP_main_v23_10 V0).trans (step_10 h)
  n_6 := (STEP_main_v23_6 V0).trans (step_6 h)
  k_2 := (STEP_main_v23_2 V0).trans h.k_2
  k_5 := (STEP_main_v23_5 V0).trans h.k_5
  f_0 := (STEP_main_v23_0 V0).trans h.f_0
  f_1 := (STEP_main_v23_1 V0).trans h.f_1
  f_3 := (STEP_main_v23_3 V0).trans h.f_3
  f_4 := (STEP_main_v23_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `LruRefIdeal` terminates with each result at its field of state
    number 49152 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v23_9) = (it c 49152).main_v23_9
      ∧ r.2.mem ((c.tc : Thread nD τ).loc main_v24) = Cert.LruRefIdeal.Step.R_main_v24 (it c 49152)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 49152
    ⟨(h c).1.trans hk.f_9, (h c).2.1.trans (out_main_v24_holds hk), (h c).2.2.1, (h c).2.2.2.1, (h c).2.2.2.2.1, (h c).2.2.2.2.2⟩) (Value.run m ρ)

end Cert.LruRefIdeal.Trips

end
-- ==== Proof.LruArray.lean ====
module

public import proofs.«01_k».proof.Proof.LruValue
public import proofs.«01_k».proof.Proof.LruRef
public import proofs.«01_k».proof.Proof.LruRefRun
public import proofs.«01_k».proof.Proof.Gen.Pre_decays
public import proofs.«01_k».proof.Defs

/-! The RG-LRU scan: the precondition read entry by entry, and the equation of the kernel with the reference. -/

@[expose] public section

set_option maxRecDepth 16384

noncomputable section

open Idealize.ShloMosaic Idealize.ShloMosaic.TcCoe Idealize.SL.Sem

namespace Cert.LruProof

open Cert.LruMath

/-- The two comparisons and their conjunction hold of an entry: it is nonnegative and finite. -/
theorem decay_of_bit (x b : EReal) (h : IntOp.andi (BitVec.ofBool (decide (0 ≤ x))) (BitVec.ofBool (decide (x < b))) = 1#1) : Decay x := by
  by_cases h0 : 0 ≤ x
  · by_cases h1 : x < b
    · exact ⟨h0, ne_top_of_lt h1⟩
    · rw [decide_eq_false h1, decide_eq_true h0] at h; exact absurd h (by decide)
  · rw [decide_eq_false h0] at h
    exact absurd h (by cases decide (x < b) <;> decide)

/-- Under the precondition every decay of the kernel's arguments is nonnegative and finite. -/
theorem decays_of_pre [Cert.Pre_decays.Facts] (m : (ℓ : Loc Cert.LruIdeal.nD Cert.LruIdeal.τ Cert.LruIdeal.sig) → Buf (Elt Ideal) ℓ)
    (h : Cert.Pre_LruIdeal_decays m) (c : Dev Cert.LruIdeal.nD) : Cert.LruIdeal.Scan.Decays m c := by
  obtain ⟨h1, h2⟩ := h c
  constructor
  · intro n j
    have h := congrFun h1 (ix2 n j)
    unfold Cert.Pre_decays.fn at h
    pointwise at h
    exact decay_of_bit _ _ h
  · intro n j
    have h := congrFun h2 (ix2 n j)
    unfold Cert.Pre_decays.fn at h
    pointwise at h
    exact decay_of_bit _ _ h

/-- The RG-LRU scan: at the extended reals, under the precondition, the kernel leaves what the reference computes. -/
theorem algebraic : Cert.algebraic_LruIdeal_LruRefIdeal_pre_decays := fun m g m' g' hpre hag =>
  ⟨fun c => Cert.LruIdeal.Scan.goalF m c, fun c => Cert.LruIdeal.Scan.goalB m c,
    (θ_run _ _ _).mono (fun r h c => ⟨(h.1 c).1.trans (Cert.LruIdeal.Scan.final4 (decays_of_pre m hpre c)),
        (h.1 c).2.trans (Cert.LruIdeal.Scan.final5 (decays_of_pre m hpre c)), h.2.1 c⟩)
      (θ_run_and (Cert.LruIdeal.Scan.run_outs m g) (Cert.LruIdeal.Scan.frame_all m g)),
    (θ_run _ _ _).mono (fun r h c => ⟨(h c).1.trans (by
          rw [Cert.LruRefIdeal.Scan.result_f, (hag c).1, (hag c).2.1]; rfl),
        (h c).2.1.trans (by rw [Cert.LruRefIdeal.Scan.result_b, (hag c).2.2.1, (hag c).2.2.2]; rfl), (h c).2.2⟩)
      (Cert.LruRefIdeal.Trips.run_iter m' g' (fun c => Cert.LruRefIdeal.Scan.it _ _ _ _) (fun c => rfl) (fun c n => rfl))⟩

/-- The reference runs to its end from any memory, leaves its arguments and every counter as they were. -/
theorem ref_frame (m : (ℓ : Loc Cert.LruRefIdeal.nD Cert.LruRefIdeal.τ Cert.LruRefIdeal.sig) → Buf (Elt Ideal) ℓ) (ρ : Dev Cert.LruRefIdeal.nD → PrngReg) :
    θ_run (Cert.LruRefIdeal.defs (F := Ideal)) (onTc (τ := Cert.LruRefIdeal.τ) (Cert.LruRefIdeal.main (F := Ideal))) ⟨m, fun _ => 0, ρ⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3))
      ∧ r.2.sem = fun _ => 0) :=
  (θ_run _ _ _).mono (fun r h => ⟨fun c => (h c).2.2, sem_eq_zero_of_no_sems (by decide) r.2⟩)
    (Cert.LruRefIdeal.Trips.run_iter m ρ (fun c => Cert.LruRefIdeal.Scan.it _ _ _ _) (fun c => rfl) (fun c n => rfl))

end Cert.LruProof

end
-- ==== Proof.LruWords.lean ====
module

public import proofs.«01_k».proof.Proof.LruFrame
public import proofs.«01_k».proof.Proof.Gen.Lru.Frame
public import proofs.«01_k».proof.Defs

/-! The RG-LRU scan as printed for machine words. It is the idealized program at another float type, so its frame is that
    program's, which is proved for every float type. -/

@[expose] public section

set_option maxRecDepth 16384

noncomputable section

namespace Cert.LruProof

open Idealize.ShloMosaic Idealize.ShloMosaic.TcCoe Idealize.SL.Sem

variable {F : FTy → Type} [FloatOps F] [Cert.Lru.Facts] [Cert.LruIdeal.Facts]

/-- Both programs run the same function under the kernel's label, -/
theorem bodies_eq : @Cert.Lru.defs₀ F _ _ = @Cert.LruIdeal.defs₀ F _ _ := by
  unfold Cert.Lru.defs₀ Cert.LruIdeal.defs₀
  refine congrArg Defs.onTc (funext fun l => funext fun a => ?_)
  obtain ⟨_ | n, h⟩ := l
  · rfl
  · exact absurd h (by omega)

/-- so they have the same table of bodies. -/
theorem tables_eq : @Cert.Lru.defs F _ _ = @Cert.LruIdeal.defs F _ _ :=
  congrArg (Pipeline.defs (Cert.LruIdeal.pcfgs (F := F))) bodies_eq

/-- The kernel runs to its end from any memory, leaves its arguments and every counter as they were. -/
theorem frame_words : Cert.quiescent_Lru := fun m ρ _ => by
  rw [tables_eq]
  exact Cert.LruIdeal.Scan.frame_all m ρ

end Cert.LruProof

end
-- ==== Proof.ProjEvenRow.lean ====
module

public import proofs.«01_k».proof.Proof.Gen.ProjEvenIdeal.Value
public import proofs.«01_k».proof.Proof.Gen.ProjEvenRefIdeal.Read
public import proofs.«01_k».proof.Proof.FfnRef
public import Idealize.ShloMosaic.Lib.KernelVsHost
public import proofs.«01_k».proof.Proof.Rows
public import Idealize.ShloMosaic.Lib.Pointwise

/-! The projection of the even layers: one block of the kernel, and the reference, read at a token and a column. -/

@[expose] public section

set_option maxRecDepth 16384

noncomputable section

open Idealize.ShloMosaic Idealize.ShloMosaic.TcCoe

namespace Cert.ProjEvenIdeal.Block

open Cert.ProjEvenIdeal Cert.ProjEvenIdeal.Gen Cert.FfnMath Cert.Rows

variable (v0 : Vec Ideal S512x1024 .f32) (v1 : Vec Ideal S1x1x1024 .f32)

/-- Row `r` of a block of tokens. -/
abbrev tok (v0 : Vec Ideal S512x1024 .f32) (r : Fin 512) : Fin 1024 → EReal := fun k => v0 (ix2 r k)
/-- The gains. -/
abbrev gain (v1 : Vec Ideal S1x1x1024 .f32) : Fin 1024 → EReal := fun k => v1 (ix3 0 0 k)

/-- The body's result for row `r` of its block is the projection of the normalised row. -/
theorem out_apply (x2 : Vec Ideal S1x1024x2304 .bf16) (r : Fin 512) (f : Fin 2304) :
    out0_3 v0 v1 x2 (ix2 r f) = proj (tok v0 r) (gain v1) (fun k f => x2 (ix3 0 k f)) f := by
  unfold out0_3
  rw [View.canon_unit_zero hz2, View.ld_unit_zero hz2, View.ld_unit_zero hz3, View.ld_unit_zero hz3]
  pointwise [k0_pay1]
  rfl

end Cert.ProjEvenIdeal.Block

namespace Cert.ProjEvenRefIdeal.Row

open Cert.ProjEvenRefIdeal Cert.ProjEvenRefIdeal.Gen Cert.ProjEvenRefIdeal.Read Cert.FfnMath

variable (x0 : FVec Ideal S49152x1024 .f32) (x1 : FVec Ideal S4x1024 .f32) (x2 : FVec Ideal S2x1024x2208 .f32)

/-- The weights of the first layer with 96 zero columns after theirs. -/
def wide (k : Fin 1024) (f : Fin 2304) : EReal := if h : f.val < 2208 then x2 (ix3 0 k ⟨f.val, h⟩) else 0

/-- The whole result as one function of the arguments: row `r`, entry `f` is the projection of row `r`, normalised with
    layer 0's gains, onto column `f` of those weights. -/
def whole : FVec Ideal S49152x2304 .f32 := fun j =>
  proj (fun k => x0 (ix2 (j 0) k)) (fun k => x1 (ix2 0 k)) (wide x2) (j 1)

/-- The reference's normalised rows. -/
theorem v14_apply (r : Fin 49152) (k : Fin 1024) :
    val_main_v14 (F := Ideal) x0 x1 (ix2 r k) = normed (fun k => x0 (ix2 r k)) (fun k => x1 (ix2 0 k)) k :=
  Cert.FfnRefIdeal.Row.v14_apply x0 x1 r k

/-- The reference's projection. -/
theorem v17_apply (r : Fin 49152) (f : Fin 2208) :
    val_main_v17 (F := Ideal) x0 x1 x2 (ix2 r f)
      = proj (fun k => x0 (ix2 r k)) (fun k => x1 (ix2 0 k)) (fun k f => x2 (ix3 0 k f)) f := by
  pointwise [val_main_v17, val_main_v16, val_main_v15]
  simp only [v14_apply]
  rfl

/-- A projection onto a column of zeros is zero; onto the other columns it is the reference's. -/
theorem whole_eq : val_main_v18 (F := Ideal) x0 x1 x2 = whole x0 x1 x2 := by
  funext j
  obtain ⟨r, f, rfl⟩ := Cert.Rows.exists_ix2 (a := 49152) (b := 2304) j
  show _ = proj _ _ (wide x2) f
  unfold proj wide
  by_cases h : f.val < 2208
  · refine (pad_apply_of_inside _ _ _ _ _ _ _ _ (ix2 r ⟨f.val, h⟩ : S49152x2208.Idx) fun a => ?_).trans ?_
    · fin_cases a
      · show r.val = 0 + r.val * 1; omega
      · show f.val = 0 + f.val * 1; omega
    · rw [v17_apply]; simp only [dif_pos h]; rfl
  · refine (pad_apply_of_not_inside _ _ _ _ _ _ _ _ 1 fun hin => h ?_).trans ?_
    · have := hin.2.2
      simpa using this
    · simp only [dif_neg h, mul_zero, Finset.sum_const_zero]
      unfold val_main_call0_v0 val_main_c
      exact sitofp_zero (φ := .f32)

end Cert.ProjEvenRefIdeal.Row

end
-- ==== Proof.ProjEvenArray.lean ====
module

public import proofs.«01_k».proof.Proof.ProjEvenRow
public import proofs.«01_k».proof.Defs

/-! The projection of the even layers: the kernel's whole result array, and the equation with the reference. -/

@[expose] public section

set_option maxRecDepth 16384

noncomputable section

open Idealize.ShloMosaic Idealize.ShloMosaic.TcCoe Idealize.SL.Sem
open Idealize.ShloMosaic.Pipeline (Dat)

namespace Cert.ProjEvenIdeal.Block

open Cert.ProjEvenIdeal Cert.ProjEvenIdeal.Gen Cert.FfnMath Cert.Rows

variable (m : (ℓ : Loc nD τ sig) → Buf (Elt Ideal) ℓ) (ρ : Dev nD → PrngReg) (c : Dev nD)

/-! ### The arrays the region finds -/

theorem V_v2 : V m c main_v2
    = broadcastInDim S4x1x1024 ![0, 2] bcast_S4x1024_S4x1x1024_0_2 (m ((c : Thread nD τ).loc main_arg1)) := by
  show StableHlo.after (List.flatten [hostOps0, hostOps0_1, hostOps0_2]) (fun b => m (c, b)) main_v2 = _
  simp only [hostOps0, hostOps0_1, hostOps0_2, List.flatten_cons, List.flatten_nil, List.append_nil, List.cons_append, List.nil_append]
  after_results

/-- The weights with the columns of zeros after theirs. -/
abbrev hostW : FVec Ideal S2x1024x2304 .f32 :=
  pad S2x1024x2304 ![0, 0, 0] ![0, 0, 96] ![0, 0, 0] (m ((c : Thread nD τ).loc main_arg2) : FVec Ideal S2x1024x2208 .f32)
    (sitofp (F := Ideal) .f32 (constantI S_ 32 0#32)) pads_S2x1024x2208_S2x1024x2304_000_000_0960 h_S_

theorem V_v1 : V m c main_v1 = (truncf (F := Ideal) .bf16 (hostW m c) bitsLt_bf16_f32 : FVec Ideal S2x1024x2304 .bf16) := by
  show StableHlo.after (List.flatten [hostOps0, hostOps0_1, hostOps0_2]) (fun b => m (c, b)) main_v1 = _
  simp only [hostOps0, hostOps0_1, hostOps0_2, List.flatten_cons, List.flatten_nil, List.append_nil, List.cons_append, List.nil_append]
  after_results
  rfl

/-! ### The index maps, decided over the grid, and where each block lies in its array -/

/-- Which block of its array each window takes at each point. -/
theorem idx : ∀ t : Fin cfg0.N, win0_0.index t = ![t.val, 0] ∧ win0_1.index t = ![0, 0, 0]
    ∧ win0_2.index t = ![0, 0, 0] ∧ win0_3.index t = ![t.val, 0] :=
  (by decide +kernel : ∀ t : Fin grid0.N, _)

theorem emb0 (t : Fin cfg0.N) (r : Fin 512) (k : Fin 1024) :
    ((cfg0.win 0).blk t).view.emb (ix2 r k) = ix2 (row t r) k := by blk_ext [(idx t).1]

theorem emb1 (t : Fin cfg0.N) (k : Fin 1024) :
    ((cfg0.win 1).blk t).view.emb (ix3 0 0 k) = (ix3 0 0 k : S4x1x1024.Idx) := by blk_ext [(idx t).2.1]

theorem emb2 (t : Fin cfg0.N) (k : Fin 1024) (f : Fin 2304) :
    ((cfg0.win 2).blk t).view.emb (ix3 0 k f) = (ix3 0 k f : S2x1024x2304.Idx) := by blk_ext [(idx t).2.2.1]

theorem emb3 (t : Fin cfg0.N) (r : Fin 512) (k : Fin 2304) :
    ((cfg0.win 3).blk t).view.emb (ix2 r k) = ix2 (row t r) k := by blk_ext [(idx t).2.2.2]

/-! ### The blocks, read off the arguments -/

theorem iblk0_apply (t : Fin cfg0.N) (r : Fin 512) (k : Fin 1024) :
    iblk m c 0 t (ix2 r k) = m ((c : Thread nD τ).loc main_arg0) (ix2 (row t r) k) := by
  show V m c main_arg0 (((cfg0.win 0).blk t).view.emb (ix2 r k)) = _
  rw [emb0, V_main_arg0]

theorem iblk1_apply (t : Fin cfg0.N) (k : Fin 1024) :
    iblk m c 1 t (ix3 0 0 k) = m ((c : Thread nD τ).loc main_arg1) (ix2 0 k) := by
  show V m c main_v2 (((cfg0.win 1).blk t).view.emb (ix3 0 0 k)) = _
  rw [emb1, V_v2]
  pointwise

theorem iblk2_apply (t : Fin cfg0.N) (k : Fin 1024) (f : Fin 2304) :
    iblk m c 2 t (ix3 0 k f) = Cert.ProjEvenRefIdeal.Row.wide (m ((c : Thread nD τ).loc main_arg2)) k f := by
  show V m c main_v1 (((cfg0.win 2).blk t).view.emb (ix3 0 k f)) = _
  rw [emb2, V_v1]
  show hostW m c (ix3 0 k f) = _
  unfold Cert.ProjEvenRefIdeal.Row.wide
  by_cases h : f.val < 2208
  · rw [dif_pos h]
    refine pad_apply_of_inside _ _ _ _ _ _ _ _ (ix3 0 k ⟨f.val, h⟩ : S2x1024x2208.Idx) fun a => ?_
    fin_cases a
    · rfl
    · show k.val = 0 + k.val * 1; omega
    · show f.val = 0 + f.val * 1; omega
  · rw [dif_neg h]
    refine (pad_apply_of_not_inside _ _ _ _ _ _ _ _ 2 fun hin => h ?_).trans (sitofp_zero (φ := .f32))
    have h' := hin.2.2
    simp at h'
    exact h'

/-! ### The result array -/

/-- The array of projections of the three arguments on device `c`. -/
abbrev goal : FVec Ideal S49152x2304 .f32 :=
  Cert.ProjEvenRefIdeal.Row.whole (m ((c : Thread nD τ).loc main_arg0)) (m ((c : Thread nD τ).loc main_arg1))
    (m ((c : Thread nD τ).loc main_arg2))

/-- What point `t` writes back is its block of that array. -/
theorem flushed_eq (t : Fin cfg0.N) :
    (dats m 0 c).flushed 3 t = ((cfg0.win 3).blk t).view.read (Elt Ideal) (goal m c) := by
  rw [Value.flushed3]
  funext y
  obtain ⟨r, k, rfl⟩ := exists_ix2 (a := 512) (b := 2304) y
  show (out0_3 (F := Ideal) _ _ _ (ix2 r k) : Ideal .f32) = goal m c (((cfg0.win 3).blk t).view.emb (ix2 r k))
  rw [out_apply, emb3]
  unfold tok gain
  simp only [iblk0_apply, iblk1_apply, iblk2_apply]
  rfl

/-- The blocks cover the array. -/
theorem covers : (cfg0.win 3).Covers := by decide +kernel

/-- After the run the result array is that array. -/
theorem final : (dats m 0 c).arrAt 3 cfg0.N = goal m c :=
  (dats m 0 c).arrAt_eq_of_cover 3 (goal m c) (fun t _ => flushed_eq m c t)
    (covers.cover _ (Memref.isWhole_whole _))

end Cert.ProjEvenIdeal.Block

namespace Cert.ProjEvenProof

/-- At the extended reals the kernel leaves what the reference computes, for all arguments. -/
theorem algebraic : Cert.algebraic_ProjEvenIdeal_ProjEvenRefIdeal := fun m g m' g' _ hag =>
  ⟨fun c => Cert.ProjEvenIdeal.Block.goal m c,
    (θ_run _ _ _).mono (fun _ h c => ⟨(h c).1.trans (Cert.ProjEvenIdeal.Block.final m c), (h c).2⟩) (Cert.ProjEvenIdeal.Value.run_blocks m g),
    (θ_run _ _ _).mono (fun _ h c => ⟨(h c).1.trans (by
        rw [Cert.ProjEvenRefIdeal.Read.val_main_v18_eq, Cert.ProjEvenRefIdeal.Row.whole_eq, (hag c).1, (hag c).2.1, (hag c).2.2]), (h c).2⟩)
      (Cert.ProjEvenRefIdeal.Value.run m' g')⟩

/-- The reference runs to its end from any memory, leaves its arguments and every counter as they were. -/
theorem frame_ref : Cert.quiescent_ProjEvenRefIdeal := fun m ρ _ =>
  (θ_run _ _ _).mono (fun r h => ⟨fun c => (h c).2, sem_eq_zero_of_no_sems (by decide) r.2⟩)
    (Cert.ProjEvenRefIdeal.Value.run (F := Ideal) m ρ)

end Cert.ProjEvenProof

end
-- ==== Proof.ProjOddRow.lean ====
module

public import proofs.«01_k».proof.Proof.Gen.ProjOddIdeal.Value
public import proofs.«01_k».proof.Proof.Gen.ProjOddRefIdeal.Read
public import proofs.«01_k».proof.Proof.FfnMath
public import proofs.«01_k».proof.Proof.Rows
public import Idealize.ShloMosaic.Lib.Pointwise

/-! The projection of the odd layers: one block of the kernel, and the reference, read at a token and a column. -/

@[expose] public section

set_option maxRecDepth 16384

noncomputable section

open Idealize.ShloMosaic Idealize.ShloMosaic.TcCoe

namespace Cert.ProjOddIdeal.Block

open Cert.ProjOddIdeal Cert.ProjOddIdeal.Gen Cert.FfnMath Cert.Rows

variable (v0 : Vec Ideal S512x1024 .f32) (v1 : Vec Ideal S1x1x1024 .f32)

/-- Row `r` of a block of tokens. -/
abbrev tok (v0 : Vec Ideal S512x1024 .f32) (r : Fin 512) : Fin 1024 → EReal := fun k => v0 (ix2 r k)
/-- The gains. -/
abbrev gain (v1 : Vec Ideal S1x1x1024 .f32) : Fin 1024 → EReal := fun k => v1 (ix3 0 0 k)

/-- The body's result for row `r` of its block is the projection of the normalised row. -/
theorem out_apply (x2 : Vec Ideal S1x1024x2560 .bf16) (r : Fin 512) (f : Fin 2560) :
    out0_3 v0 v1 x2 (ix2 r f) = proj (tok v0 r) (gain v1) (fun k f => x2 (ix3 0 k f)) f := by
  unfold out0_3
  rw [View.canon_unit_zero hz2, View.ld_unit_zero hz2, View.ld_unit_zero hz3, View.ld_unit_zero hz3]
  pointwise [k0_pay1]
  rfl

end Cert.ProjOddIdeal.Block

namespace Cert.ProjOddRefIdeal.Row

open Cert.ProjOddRefIdeal Cert.ProjOddRefIdeal.Gen Cert.ProjOddRefIdeal.Read Cert.FfnMath

variable (x0 : FVec Ideal S49152x1024 .f32) (x1 : FVec Ideal S4x1024 .f32) (x2 : FVec Ideal S2x1024x2560 .f32)

/-- The weights of the first odd layer, the columns after 1024 first. -/
def wide (k : Fin 1024) (f : Fin 2560) : EReal :=
  if h : f.val < 1536 then x2 (ix3 0 k ⟨1024 + f.val, by omega⟩) else x2 (ix3 0 k ⟨f.val - 1536, by omega⟩)

/-- The whole result as one function of the arguments: row `r`, entry `f` is the projection of row `r`, normalised with
    layer 1's gains, onto column `f` of those weights. -/
def whole : FVec Ideal S49152x2560 .f32 := fun j =>
  proj (fun k => x0 (ix2 (j 0) k)) (fun k => x1 (ix2 1 k)) (wide x2) (j 1)

/-- The reference's normalised rows. -/
theorem v14_apply (r : Fin 49152) (k : Fin 1024) :
    val_main_v14 (F := Ideal) x0 x1 (ix2 r k) = normed (fun k => x0 (ix2 r k)) (fun k => x1 (ix2 1 k)) k := by
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]
  rfl

/-- The reference's projection. -/
theorem v17_apply (r : Fin 49152) (f : Fin 2560) :
    val_main_v17 (F := Ideal) x0 x1 x2 (ix2 r f)
      = proj (fun k => x0 (ix2 r k)) (fun k => x1 (ix2 1 k)) (fun k f => x2 (ix3 0 k f)) f := by
  pointwise [val_main_v17, val_main_v16, val_main_v15]
  simp only [v14_apply]
  rfl

/-- The reference's columns, taken in the other order, are the projections onto the columns so taken. -/
theorem whole_eq : val_main_v20 (F := Ideal) x0 x1 x2 = whole x0 x1 x2 := by
  funext j
  obtain ⟨r, f, rfl⟩ := Cert.Rows.exists_ix2 (a := 49152) (b := 2560) j
  show _ = proj _ _ (wide x2) f
  unfold proj wide val_main_v20
  by_cases h : f.val < 1536
  · refine (concatenate_pair_apply_left (t := S49152x2560) (s₁ := S49152x1536) (s₂ := S49152x1024) (1 : Fin 2) _ _ _ _ rfl (ix2 r ⟨f.val, h⟩ : S49152x1536.Idx) fun b => ?_).trans ?_
    · fin_cases b <;> rfl
    · pointwise [val_main_v18]
      rw [v17_apply]; simp only [dif_pos h]; rfl
  · refine (concatenate_pair_apply_right (t := S49152x2560) (s₁ := S49152x1536) (s₂ := S49152x1024) (1 : Fin 2) _ _ _ _ rfl rfl (ix2 r ⟨f.val - 1536, by omega⟩ : S49152x1024.Idx) (fun b hb => ?_) ?_).trans ?_
    · fin_cases b
      · rfl
      · exact absurd rfl hb
    · show f.val - 1536 + 1536 = f.val; omega
    · pointwise [val_main_v19]
      rw [v17_apply]; simp only [dif_neg h]; rfl

end Cert.ProjOddRefIdeal.Row

end
-- ==== Proof.ProjOddArray.lean ====
module

public import proofs.«01_k».proof.Proof.ProjOddRow
public import proofs.«01_k».proof.Defs

/-! The projection of the odd layers: the kernel's whole result array, and the equation with the reference. -/

@[expose] public section

set_option maxRecDepth 16384

noncomputable section

open Idealize.ShloMosaic Idealize.ShloMosaic.TcCoe Idealize.SL.Sem
open Idealize.ShloMosaic.Pipeline (Dat)

namespace Cert.ProjOddIdeal.Block

open Cert.ProjOddIdeal Cert.ProjOddIdeal.Gen Cert.FfnMath Cert.Rows

variable (m : (ℓ : Loc nD τ sig) → Buf (Elt Ideal) ℓ) (ρ : Dev nD → PrngReg) (c : Dev nD)

/-! ### The arrays the region finds -/

theorem V_v4 : V m c main_v4
    = broadcastInDim S4x1x1024 ![0, 2] bcast_S4x1024_S4x1x1024_0_2 (m ((c : Thread nD τ).loc main_arg1)) := by
  show StableHlo.after hostOps0 (fun b => m (c, b)) main_v4 = _
  after_results

/-- The weights with the columns after 1024 first. -/
abbrev hostW : FVec Ideal S2x1024x2560 .f32 :=
  concatenate S2x1024x2560 2
    [⟨S2x1024x1536, extractStridedSlice S2x1024x1536 ![0, 0, 1024] (m ((c : Thread nD τ).loc main_arg2) : FVec Ideal S2x1024x2560 .f32) slices_S2x1024x2560_S2x1024x1536_0_0_1024⟩,
     ⟨S2x1024x1024, extractStridedSlice S2x1024x1024 ![0, 0, 0] (m ((c : Thread nD τ).loc main_arg2) : FVec Ideal S2x1024x2560 .f32) slices_S2x1024x2560_S2x1024x1024_0_0_0⟩]
    concatenates_S2x1024x1536_S2x1024x1024_S2x1024x2560_d2

theorem V_v3 : V m c main_v3 = (truncf (F := Ideal) .bf16 (hostW m c) bitsLt_bf16_f32 : FVec Ideal S2x1024x2560 .bf16) := by
  show StableHlo.after hostOps0 (fun b => m (c, b)) main_v3 = _
  after_results

/-! ### The index maps, decided over the grid, and where each block lies in its array -/

/-- Which block of its array each window takes at each point. -/
theorem idx : ∀ t : Fin cfg0.N, win0_0.index t = ![t.val, 0] ∧ win0_1.index t = ![1, 0, 0]
    ∧ win0_2.index t = ![0, 0, 0] ∧ win0_3.index t = ![t.val, 0] :=
  (by decide +kernel : ∀ t : Fin grid0.N, _)

theorem emb0 (t : Fin cfg0.N) (r : Fin 512) (k : Fin 1024) :
    ((cfg0.win 0).blk t).view.emb (ix2 r k) = ix2 (row t r) k := by blk_ext [(idx t).1]

theorem emb1 (t : Fin cfg0.N) (k : Fin 1024) :
    ((cfg0.win 1).blk t).view.emb (ix3 0 0 k) = (ix3 1 0 k : S4x1x1024.Idx) := by blk_ext [(idx t).2.1]

theorem emb2 (t : Fin cfg0.N) (k : Fin 1024) (f : Fin 2560) :
    ((cfg0.win 2).blk t).view.emb (ix3 0 k f) = (ix3 0 k f : S2x1024x2560.Idx) := by blk_ext [(idx t).2.2.1]

theorem emb3 (t : Fin cfg0.N) (r : Fin 512) (k : Fin 2560) :
    ((cfg0.win 3).blk t).view.emb (ix2 r k) = ix2 (row t r) k := by blk_ext [(idx t).2.2.2]

/-! ### The blocks, read off the arguments -/

theorem iblk0_apply (t : Fin cfg0.N) (r : Fin 512) (k : Fin 1024) :
    iblk m c 0 t (ix2 r k) = m ((c : Thread nD τ).loc main_arg0) (ix2 (row t r) k) := by
  show V m c main_arg0 (((cfg0.win 0).blk t).view.emb (ix2 r k)) = _
  rw [emb0, V_main_arg0]

theorem iblk1_apply (t : Fin cfg0.N) (k : Fin 1024) :
    iblk m c 1 t (ix3 0 0 k) = m ((c : Thread nD τ).loc main_arg1) (ix2 1 k) := by
  show V m c main_v4 (((cfg0.win 1).blk t).view.emb (ix3 0 0 k)) = _
  rw [emb1, V_v4]
  pointwise

theorem iblk2_apply (t : Fin cfg0.N) (k : Fin 1024) (f : Fin 2560) :
    iblk m c 2 t (ix3 0 k f) = Cert.ProjOddRefIdeal.Row.wide (m ((c : Thread nD τ).loc main_arg2)) k f := by
  show V m c main_v3 (((cfg0.win 2).blk t).view.emb (ix3 0 k f)) = _
  rw [emb2, V_v3]
  show hostW m c (ix3 0 k f) = _
  unfold Cert.ProjOddRefIdeal.Row.wide
  by_cases h : f.val < 1536
  · rw [dif_pos h]
    refine (concatenate_pair_apply_left (t := S2x1024x2560) (s₁ := S2x1024x1536) (s₂ := S2x1024x1024) (2 : Fin 3) _ _ _ _ rfl (ix3 0 k ⟨f.val, h⟩ : S2x1024x1536.Idx) fun b => ?_).trans ?_
    · fin_cases b <;> rfl
    · pointwise
  · rw [dif_neg h]
    refine (concatenate_pair_apply_right (t := S2x1024x2560) (s₁ := S2x1024x1536) (s₂ := S2x1024x1024) (2 : Fin 3) _ _ _ _ rfl rfl (ix3 0 k ⟨f.val - 1536, by omega⟩ : S2x1024x1024.Idx) (fun b hb => ?_) ?_).trans ?_
    · fin_cases b
      · rfl
      · rfl
      · exact absurd rfl hb
    · show f.val - 1536 + 1536 = f.val; omega
    · pointwise

/-! ### The result array -/

/-- The array of projections of the three arguments on device `c`. -/
abbrev goal : FVec Ideal S49152x2560 .f32 :=
  Cert.ProjOddRefIdeal.Row.whole (m ((c : Thread nD τ).loc main_arg0)) (m ((c : Thread nD τ).loc main_arg1))
    (m ((c : Thread nD τ).loc main_arg2))

/-- What point `t` writes back is its block of that array. -/
theorem flushed_eq (t : Fin cfg0.N) :
    (dats m 0 c).flushed 3 t = ((cfg0.win 3).blk t).view.read (Elt Ideal) (goal m c) := by
  rw [Value.flushed3]
  funext y
  obtain ⟨r, k, rfl⟩ := exists_ix2 (a := 512) (b := 2560) y
  show (out0_3 (F := Ideal) _ _ _ (ix2 r k) : Ideal .f32) = goal m c (((cfg0.win 3).blk t).view.emb (ix2 r k))
  rw [out_apply, emb3]
  unfold tok gain
  simp only [iblk0_apply, iblk1_apply, iblk2_apply]
  rfl

/-- The blocks cover the array. -/
theorem covers : (cfg0.win 3).Covers := by decide +kernel

/-- After the run the result array is that array. -/
theorem final : (dats m 0 c).arrAt 3 cfg0.N = goal m c :=
  (dats m 0 c).arrAt_eq_of_cover 3 (goal m c) (fun t _ => flushed_eq m c t)
    (covers.cover _ (Memref.isWhole_whole _))

end Cert.ProjOddIdeal.Block

namespace Cert.ProjOddProof

/-- At the extended reals the kernel leaves what the reference computes, for all arguments. -/
theorem algebraic : Cert.algebraic_ProjOddIdeal_ProjOddRefIdeal := fun m g m' g' _ hag =>
  ⟨fun c => Cert.ProjOddIdeal.Block.goal m c,
    (θ_run _ _ _).mono (fun _ h c => ⟨(h c).1.trans (Cert.ProjOddIdeal.Block.final m c), (h c).2⟩) (Cert.ProjOddIdeal.Value.run_blocks m g),
    (θ_run _ _ _).mono (fun _ h c => ⟨(h c).1.trans (by
        rw [Cert.ProjOddRefIdeal.Read.val_main_v20_eq, Cert.ProjOddRefIdeal.Row.whole_eq, (hag c).1, (hag c).2.1, (hag c).2.2]), (h c).2⟩)
      (Cert.ProjOddRefIdeal.Value.run m' g')⟩

/-- The reference runs to its end from any memory, leaves its arguments and every counter as they were. -/
theorem frame_ref : Cert.quiescent_ProjOddRefIdeal := fun m ρ _ =>
  (θ_run _ _ _).mono (fun r h => ⟨fun c => (h c).2, sem_eq_zero_of_no_sems (by decide) r.2⟩)
    (Cert.ProjOddRefIdeal.Value.run (F := Ideal) m ρ)

end Cert.ProjOddProof

end
-- ==== Proof.OutMath.lean ====
module

public import Idealize.ShloMosaic.PureOps.Ideal
public import Idealize.ShloMosaic.Lib.Pointwise
public import Idealize.ShloMosaic.Lib.Pipeline.ValueKit

/-! The parts shared by the output projections and the state-space read-out: the smooth gate `gelu`, and a product
    with a matrix whose rows are taken in two halves. -/

@[expose] public section

noncomputable section

namespace Cert.OutMath

open Idealize.ShloMosaic
open scoped BigOperators

/-- `gelu` by its hyperbolic-tangent form, the cube as the value times its square. -/
def gelu (y : EReal) : EReal :=
  y * (Ideal.ofBits .f32 0x3F000000#32 * (1
    + Ideal.tanh (Ideal.ofBits .f32 0x3F4C422A#32 * (y + Ideal.ofBits .f32 0x3D372713#32 * (y * (y * y))))))

/-- The lower 512 of the 1024 rows, -/
abbrev lo (k : Fin 512) : Fin 1024 := ⟨k.val, by omega⟩
/-- and the upper 512. -/
abbrev hi (k : Fin 512) : Fin 1024 := ⟨512 + k.val, by omega⟩

/-- One output entry: the residual, plus the two halves' products with their rows of the weights. -/
def twoHalves (x : EReal) (a b : Fin 512 → EReal) (w : Fin 1024 → EReal) : EReal :=
  x + (∑ k, a k * w (lo k) + ∑ k, b k * w (hi k))

/-- Two rows of 512 side by side. -/
def beside (a b : Fin 512 → EReal) (k : Fin 1024) : EReal :=
  if h : k.val < 512 then a ⟨k.val, h⟩ else b ⟨k.val - 512, by omega⟩

/-- The product of the two rows side by side with the whole weights is the sum of the two halves' products. -/
theorem sum_beside (a b : Fin 512 → EReal) (w : Fin 1024 → EReal) :
    ∑ k, beside a b k * w k = ∑ k, a k * w (lo k) + ∑ k, b k * w (hi k) := by
  rw [Fin.sum_univ_add (a := 512) (b := 512)]
  refine congrArg₂ (· + ·) (Finset.sum_congr rfl fun k _ => ?_) (Finset.sum_congr rfl fun k _ => ?_)
  · have h : (Fin.castAdd 512 k : Fin 1024).val < 512 := k.isLt
    unfold beside; rw [dif_pos h]; rfl
  · have h : ¬ (Fin.natAdd 512 k : Fin 1024).val < 512 := by show ¬ 512 + k.val < 512; omega
    unfold beside; rw [dif_neg h]
    refine congrArg₂ (· * ·) (congrArg b (Fin.ext ?_)) rfl
    show 512 + k.val - 512 = k.val; omega

/-- So an output entry is the residual plus the product of the two rows side by side. -/
theorem twoHalves_eq (x : EReal) (a b : Fin 512 → EReal) (w : Fin 1024 → EReal) :
    twoHalves x a b w = x + ∑ k, beside a b k * w k := by
  rw [sum_beside]; rfl

/-- The lower 512 of the 1024 rows of a block of weights, as a body loads them, -/
theorem ld_lo (x : Vec Ideal ⟨3, ![1, 1024, 1024]⟩ .bf16) (h) (k : Fin 512) (c : Fin 1024) :
    (View.ld x (Rect.unit ![0, 0, 0] ![1, 512, 1024] h) : Vec Ideal ⟨3, ![1, 512, 1024]⟩ .bf16) (ix3 0 k c) = x (ix3 0 (lo k) c) :=
  congrArg x (by funext a; apply Fin.ext; fin_cases a
                 · rfl
                 · show 0 + 1 * k.val = k.val; omega
                 · show 0 + 1 * c.val = c.val; omega)

/-- and the upper 512. -/
theorem ld_hi (x : Vec Ideal ⟨3, ![1, 1024, 1024]⟩ .bf16) (h) (k : Fin 512) (c : Fin 1024) :
    (View.ld x (Rect.unit ![0, 512, 0] ![1, 512, 1024] h) : Vec Ideal ⟨3, ![1, 512, 1024]⟩ .bf16) (ix3 0 k c) = x (ix3 0 (hi k) c) :=
  congrArg x (by funext a; apply Fin.ext; fin_cases a
                 · rfl
                 · show 512 + 1 * k.val = 512 + k.val; omega
                 · show 0 + 1 * c.val = c.val; omega)

/-- A body that adds to the residual the products of two halves with the rows it loads leaves the output entry. -/
theorem halves_of_loads (x : EReal) (a b : Fin 512 → EReal) (w : Vec Ideal ⟨3, ![1, 1024, 1024]⟩ .bf16) (h h') (c : Fin 1024) :
    x + (∑ k, a k * (View.ld w (Rect.unit ![0, 0, 0] ![1, 512, 1024] h) : Vec Ideal ⟨3, ![1, 512, 1024]⟩ .bf16) (ix3 0 k c)
      + ∑ k, b k * (View.ld w (Rect.unit ![0, 512, 0] ![1, 512, 1024] h') : Vec Ideal ⟨3, ![1, 512, 1024]⟩ .bf16) (ix3 0 k c))
      = twoHalves x a b (fun k => w (ix3 0 k c)) := by
  exact congrArg (x + ·) (congrArg₂ (· + ·)
    (Finset.sum_congr rfl fun k _ => congrArg (a k * ·) (ld_lo w h k c))
    (Finset.sum_congr rfl fun k _ => congrArg (b k * ·) (ld_hi w h' k c)))

/-- Two arrays of rows of 512 joined along the columns: every row is the two rows side by side. -/
theorem joined_apply (a b : FVec Ideal ⟨2, ![49152, 512]⟩ .f32) (h) (r : Fin 49152) (k : Fin 1024) :
    concatenate (⟨2, ![49152, 1024]⟩ : Shape) 1 [⟨⟨2, ![49152, 512]⟩, a⟩, ⟨⟨2, ![49152, 512]⟩, b⟩] h (ix2 r k)
      = beside (fun k => a (ix2 r k)) (fun k => b (ix2 r k)) k := by
  unfold beside
  by_cases h : k.val < 512
  · rw [dif_pos h]
    refine concatenate_pair_apply_left (t := ⟨2, ![49152, 1024]⟩) (s₁ := ⟨2, ![49152, 512]⟩) (s₂ := ⟨2, ![49152, 512]⟩)
      (1 : Fin 2) _ _ _ _ rfl (ix2 r ⟨k.val, h⟩) fun b => ?_
    fin_cases b <;> rfl
  · rw [dif_neg h]
    refine concatenate_pair_apply_right (t := ⟨2, ![49152, 1024]⟩) (s₁ := ⟨2, ![49152, 512]⟩) (s₂ := ⟨2, ![49152, 512]⟩)
      (1 : Fin 2) _ _ _ _ rfl rfl (ix2 r ⟨k.val - 512, by omega⟩) (fun b hb => ?_) ?_
    · fin_cases b
      · rfl
      · exact absurd rfl hb
    · show k.val - 512 + 512 = k.val; omega

/-- The state-space branch before its gate: the two directions' outputs plus the skip of the input by its gain. -/
def skipped (yf yb u d : Fin 512 → EReal) (k : Fin 512) : EReal := yf k + yb k + d k * u k

/-- The read-out's entry `f`: the gated state times the logistic of its product with the weights plus the bias. -/
def readOut (yf yb u d : Fin 512 → EReal) (w : Fin 512 → Fin 512 → EReal) (b : Fin 512 → EReal) (f : Fin 512) : EReal :=
  gelu (skipped yf yb u d f) * Ideal.logistic (∑ k, gelu (skipped yf yb u d k) * w k f + b f)

end Cert.OutMath

end
-- ==== Proof.OutEvenRow.lean ====
module

public import proofs.«01_k».proof.Proof.Gen.OutEvenIdeal.Value
public import proofs.«01_k».proof.Proof.Gen.OutEvenRefIdeal.Read
public import proofs.«01_k».proof.Proof.OutMath
public import proofs.«01_k».proof.Proof.Rows
public import Idealize.ShloMosaic.Lib.Pointwise

/-! The output projection of the even layers: one block of the kernel, and the reference, read at a token and a column. -/

@[expose] public section

set_option maxRecDepth 16384

noncomputable section

open Idealize.ShloMosaic Idealize.ShloMosaic.TcCoe

namespace Cert.OutEvenIdeal.Block

open Cert.OutEvenIdeal Cert.OutEvenIdeal.Gen Cert.OutMath Cert.Rows

/-- The body's arithmetic on what it loads. -/
theorem pay_apply (v0 v5 : Vec Ideal S512x512 .f32) (v2 v7 : Vec Ideal S1x512x1024 .bf16) (v11 : Vec Ideal S512x1024 .f32) (r : Fin 512) (c : Fin 1024) :
    k0_pay1 v0 v2 v5 v7 v11 (ix2 r c)
      = (v11 (ix2 r c) + (∑ k, v0 (ix2 r k) * v2 (ix3 0 k c) + ∑ k, v5 (ix2 r k) * v7 (ix3 0 k c)) : EReal) := by
  pointwise [k0_pay1]

variable (x0 : Vec Ideal S512x1024 .f32) (x1 x2 : Vec Ideal S512x512 .f32) (x3 : Vec Ideal S1x1024x1024 .bf16)

/-- The body's result for row `r` and column `c` of its block: the residual, and each half's product with its rows of the
    weights. -/
theorem out_apply (r : Fin 512) (c : Fin 1024) :
    out0_4 x0 x1 x2 x3 (ix2 r c) = twoHalves (x0 (ix2 r c)) (fun k => x1 (ix2 r k)) (fun k => x2 (ix2 r k))
      (fun k => x3 (ix3 0 k c)) := by
  unfold out0_4
  rw [View.canon_unit_zero hz2]
  repeat rw [View.ld_unit_zero hz2]
  rw [pay_apply]
  exact halves_of_loads _ _ _ _ _ _ c

end Cert.OutEvenIdeal.Block

namespace Cert.OutEvenRefIdeal.Row

open Cert.OutEvenRefIdeal Cert.OutEvenRefIdeal.Gen Cert.OutEvenRefIdeal.Read Cert.OutMath

variable (x0 : FVec Ideal S49152x1024 .f32) (x1 x2 : FVec Ideal S49152x512 .f32) (x3 : FVec Ideal S2x1024x1024 .f32)

/-- The whole result as one function of the arguments: row `r`, entry `c` is the residual plus each half's product with its
    rows of the first layer's weights. -/
def whole : FVec Ideal S49152x1024 .f32 := fun j =>
  twoHalves (x0 j) (fun k => x1 (ix2 (j 0) k))
    (fun k => x2 (ix2 (j 0) k)) (fun k => x3 (ix3 0 k (j 1)))

/-- The reference's two halves side by side. -/
theorem beside_apply (r : Fin 49152) (k : Fin 1024) :
    val_main_v0 (F := Ideal) x1 x2 (ix2 r k) = beside (fun k => x1 (ix2 r k))
      (fun k => x2 (ix2 r k)) k :=
  joined_apply _ _ _ r k

/-- The reference's result is that function: its sum over the 1024 rows cut in two. -/
theorem whole_eq : val_main_v4 (F := Ideal) x0 x1 x2 x3 = whole x0 x1 x2 x3 := by
  funext j
  obtain ⟨r, c, rfl⟩ := Cert.Rows.exists_ix2 (a := 49152) (b := 1024) j
  show _ = twoHalves (x0 (ix2 r c)) (fun k => x1 (ix2 r k))
    (fun k => x2 (ix2 r k)) (fun k => x3 (ix3 0 k c))
  rw [twoHalves_eq]
  pointwise [val_main_v4, val_main_v3, val_main_v2, val_main_v1]
  simp only [beside_apply]

end Cert.OutEvenRefIdeal.Row

end
-- ==== Proof.OutEvenArray.lean ====
module

public import proofs.«01_k».proof.Proof.OutEvenRow
public import proofs.«01_k».proof.Defs

/-! The output projection of the even layers: the kernel's whole result array, and the equation with the reference. -/

@[expose] public section

set_option maxRecDepth 16384

noncomputable section

open Idealize.ShloMosaic Idealize.ShloMosaic.TcCoe Idealize.SL.Sem
open Idealize.ShloMosaic.Pipeline (Dat)

namespace Cert.OutEvenIdeal.Block

open Cert.OutEvenIdeal Cert.OutEvenIdeal.Gen Cert.OutMath Cert.Rows

variable (m : (ℓ : Loc nD τ sig) → Buf (Elt Ideal) ℓ) (ρ : Dev nD → PrngReg) (c : Dev nD)

/-! ### The arrays the region finds -/

theorem V_v0 : V m c main_v0
    = (truncf (F := Ideal) .bf16 (m ((c : Thread nD τ).loc main_arg3) : FVec Ideal S2x1024x1024 .f32) bitsLt_bf16_f32 : FVec Ideal S2x1024x1024 .bf16) := by
  show StableHlo.after hostOps0 (fun b => m (c, b)) main_v0 = _
  after_results

/-! ### The index maps, decided over the grid, and where each block lies in its array -/

/-- Which block of its array each window takes at each point. -/
theorem idx : ∀ t : Fin cfg0.N, win0_0.index t = ![t.val, 0] ∧ win0_1.index t = ![t.val, 0]
    ∧ win0_2.index t = ![t.val, 0] ∧ win0_3.index t = ![0, 0, 0]
    ∧ win0_4.index t = ![t.val, 0] :=
  (by decide +kernel : ∀ t : Fin grid0.N, _)

theorem emb0 (t : Fin cfg0.N) (r : Fin 512) (k : Fin 1024) :
    ((cfg0.win 0).blk t).view.emb (ix2 r k) = ix2 (row t r) k := by blk_ext [(idx t).1]

theorem emb1 (t : Fin cfg0.N) (r : Fin 512) (k : Fin 512) :
    ((cfg0.win 1).blk t).view.emb (ix2 r k) = ix2 (row t r) k := by blk_ext [(idx t).2.1]

theorem emb2 (t : Fin cfg0.N) (r : Fin 512) (k : Fin 512) :
    ((cfg0.win 2).blk t).view.emb (ix2 r k) = ix2 (row t r) k := by blk_ext [(idx t).2.2.1]

theorem emb3 (t : Fin cfg0.N) (k : Fin 1024) (f : Fin 1024) :
    ((cfg0.win 3).blk t).view.emb (ix3 0 k f) = (ix3 0 k f : S2x1024x1024.Idx) := by blk_ext [(idx t).2.2.2.1]

theorem emb4 (t : Fin cfg0.N) (r : Fin 512) (k : Fin 1024) :
    ((cfg0.win 4).blk t).view.emb (ix2 r k) = ix2 (row t r) k := by blk_ext [(idx t).2.2.2.2]

/-! ### The blocks, read off the arguments -/

theorem iblk0_apply (t : Fin cfg0.N) (r : Fin 512) (k : Fin 1024) :
    iblk m c 0 t (ix2 r k) = m ((c : Thread nD τ).loc main_arg0) (ix2 (row t r) k) := by
  show V m c main_arg0 (((cfg0.win 0).blk t).view.emb (ix2 r k)) = _
  rw [emb0, V_main_arg0]

theorem iblk1_apply (t : Fin cfg0.N) (r : Fin 512) (k : Fin 512) :
    iblk m c 1 t (ix2 r k) = m ((c : Thread nD τ).loc main_arg1) (ix2 (row t r) k) := by
  show V m c main_arg1 (((cfg0.win 1).blk t).view.emb (ix2 r k)) = _
  rw [emb1, V_main_arg1]

theorem iblk2_apply (t : Fin cfg0.N) (r : Fin 512) (k : Fin 512) :
    iblk m c 2 t (ix2 r k) = m ((c : Thread nD τ).loc main_arg2) (ix2 (row t r) k) := by
  show V m c main_arg2 (((cfg0.win 2).blk t).view.emb (ix2 r k)) = _
  rw [emb2, V_main_arg2]

theorem iblk3_apply (t : Fin cfg0.N) (k f : Fin 1024) :
    iblk m c 3 t (ix3 0 k f) = m ((c : Thread nD τ).loc main_arg3) (ix3 0 k f) := by
  show V m c main_v0 (((cfg0.win 3).blk t).view.emb (ix3 0 k f)) = _
  rw [emb3, V_v0]
  rfl

/-! ### The result array -/

/-- The array of output projections of the arguments on device `c`. -/
abbrev goal : FVec Ideal S49152x1024 .f32 :=
  Cert.OutEvenRefIdeal.Row.whole (m ((c : Thread nD τ).loc main_arg0)) (m ((c : Thread nD τ).loc main_arg1)) (m ((c : Thread nD τ).loc main_arg2)) (m ((c : Thread nD τ).loc main_arg3))

/-- What point `t` writes back is its block of that array. -/
theorem flushed_eq (t : Fin cfg0.N) :
    (dats m 0 c).flushed 4 t = ((cfg0.win 4).blk t).view.read (Elt Ideal) (goal m c) := by
  rw [Value.flushed4]
  funext y
  obtain ⟨r, k, rfl⟩ := exists_ix2 (a := 512) (b := 1024) y
  show (out0_4 (F := Ideal) _ _ _ _ (ix2 r k) : Ideal .f32) = goal m c (((cfg0.win 4).blk t).view.emb (ix2 r k))
  rw [out_apply, emb4]
  simp only [iblk0_apply, iblk1_apply, iblk2_apply, iblk3_apply]
  rfl

/-- The blocks cover the array. -/
theorem covers : (cfg0.win 4).Covers := by decide +kernel

/-- After the run the result array is that array. -/
theorem final : (dats m 0 c).arrAt 4 cfg0.N = goal m c :=
  (dats m 0 c).arrAt_eq_of_cover 4 (goal m c) (fun t _ => flushed_eq m c t)
    (covers.cover _ (Memref.isWhole_whole _))

end Cert.OutEvenIdeal.Block

namespace Cert.OutEvenProof

/-- At the extended reals the kernel leaves what the reference computes, for all arguments. -/
theorem algebraic : Cert.algebraic_OutEvenIdeal_OutEvenRefIdeal := fun m g m' g' _ hag =>
  ⟨fun c => Cert.OutEvenIdeal.Block.goal m c,
    (θ_run _ _ _).mono (fun _ h c => ⟨(h c).1.trans (Cert.OutEvenIdeal.Block.final m c), (h c).2⟩) (Cert.OutEvenIdeal.Value.run_blocks m g),
    (θ_run _ _ _).mono (fun _ h c => ⟨(h c).1.trans (by
        rw [Cert.OutEvenRefIdeal.Read.val_main_v4_eq, Cert.OutEvenRefIdeal.Row.whole_eq, (hag c).1, (hag c).2.1, (hag c).2.2.1, (hag c).2.2.2]), (h c).2⟩)
      (Cert.OutEvenRefIdeal.Value.run m' g')⟩

/-- The reference runs to its end from any memory, leaves its arguments and every counter as they were. -/
theorem frame_ref : Cert.quiescent_OutEvenRefIdeal := fun m ρ _ =>
  (θ_run _ _ _).mono (fun r h => ⟨fun c => (h c).2, sem_eq_zero_of_no_sems (by decide) r.2⟩)
    (Cert.OutEvenRefIdeal.Value.run (F := Ideal) m ρ)

end Cert.OutEvenProof

end
-- ==== Proof.OutOddRow.lean ====
module

public import proofs.«01_k».proof.Proof.Gen.OutOddIdeal.Value
public import proofs.«01_k».proof.Proof.Gen.OutOddRefIdeal.Read
public import proofs.«01_k».proof.Proof.OutMath
public import proofs.«01_k».proof.Proof.Rows
public import Idealize.ShloMosaic.Lib.Pointwise

/-! The output projection of the odd layers: one block of the kernel, and the reference, read at a token and a column. -/

@[expose] public section

set_option maxRecDepth 16384

noncomputable section

open Idealize.ShloMosaic Idealize.ShloMosaic.TcCoe

namespace Cert.OutOddIdeal.Block

open Cert.OutOddIdeal Cert.OutOddIdeal.Gen Cert.OutMath Cert.Rows

/-- The body's arithmetic on what it loads. -/
theorem pay_apply (v0 v1 v3 v22 : Vec Ideal S512x512 .f32) (v19 v24 : Vec Ideal S1x512x1024 .bf16) (v28 : Vec Ideal S512x1024 .f32) (r : Fin 512) (c : Fin 1024) :
    k0_pay1 v0 v1 v3 v19 v22 v24 v28 (ix2 r c)
      = (v28 (ix2 r c) + (∑ k, (v0 (ix2 r k) + v1 (ix2 r k)) * gelu (v3 (ix2 r k)) * v19 (ix3 0 k c) + ∑ k, v22 (ix2 r k) * v24 (ix3 0 k c)) : EReal) := by
  pointwise [k0_pay1]
  rfl

variable (x0 : Vec Ideal S512x1024 .f32) (x1 x2 x3 x4 : Vec Ideal S512x512 .f32) (x5 : Vec Ideal S1x1024x1024 .bf16)

/-- The body's result for row `r` and column `c` of its block: the residual, and each half's product with its rows of the
    weights. -/
theorem out_apply (r : Fin 512) (c : Fin 1024) :
    out0_6 x0 x1 x2 x3 x4 x5 (ix2 r c) = twoHalves (x0 (ix2 r c)) (fun k => (x1 (ix2 r k) + x2 (ix2 r k)) * gelu (x3 (ix2 r k))) (fun k => x4 (ix2 r k))
      (fun k => x5 (ix3 0 k c)) := by
  unfold out0_6
  rw [View.canon_unit_zero hz2]
  repeat rw [View.ld_unit_zero hz2]
  rw [pay_apply]
  exact halves_of_loads _ _ _ _ _ _ c

end Cert.OutOddIdeal.Block

namespace Cert.OutOddRefIdeal.Row

open Cert.OutOddRefIdeal Cert.OutOddRefIdeal.Gen Cert.OutOddRefIdeal.Read Cert.OutMath

variable (x0 : FVec Ideal S49152x1024 .f32) (x1 x2 : FVec Ideal S49152x512 .f32) (x3 : FVec Ideal S49152x2560 .f32) (x4 : FVec Ideal S49152x512 .f32) (x5 : FVec Ideal S2x1024x1024 .f32)

/-- The whole result as one function of the arguments: row `r`, entry `c` is the residual plus each half's product with its
    rows of the first layer's weights. -/
def whole : FVec Ideal S49152x1024 .f32 := fun j =>
  twoHalves (x0 j) (fun k => (x1 (ix2 (j 0) k) + x2 (ix2 (j 0) k)) * gelu (x3 (ix2 (j 0) ⟨2048 + k.val, by omega⟩)))
    (fun k => x4 (ix2 (j 0) k)) (fun k => x5 (ix3 0 k (j 1)))

/-- The reference's gated sum. -/
theorem gated_apply (r : Fin 49152) (k : Fin 512) :
    val_main_v15 (F := Ideal) x1 x2 x3 (ix2 r k)
      = (x1 (ix2 r k) + x2 (ix2 r k)) * gelu (x3 (ix2 r ⟨2048 + k.val, by omega⟩)) := by
  pointwise [val_main_v15, val_main_v14, val_main_v13, val_main_v12, val_main_cst_2, val_main_v11, val_main_v10, val_main_cst_1, val_main_v9, val_main_v8, val_main_v7, val_main_cst_0, val_main_v6, val_main_v5, val_main_v4, val_main_cst, val_main_v3, val_main_v2, val_main_v1, val_main_v0]
  unfold gelu
  rw [mul_comm (x3 _) (x3 _ * x3 _)]

/-- The reference's two halves side by side. -/
theorem beside_apply (r : Fin 49152) (k : Fin 1024) :
    val_main_v16 (F := Ideal) x1 x2 x3 x4 (ix2 r k) = beside (fun k => (x1 (ix2 r k) + x2 (ix2 r k)) * gelu (x3 (ix2 r ⟨2048 + k.val, by omega⟩)))
      (fun k => x4 (ix2 r k)) k := by
  refine (joined_apply _ _ _ r k).trans ?_
  simp only [gated_apply]

/-- The reference's result is that function: its sum over the 1024 rows cut in two. -/
theorem whole_eq : val_main_v20 (F := Ideal) x0 x1 x2 x3 x4 x5 = whole x0 x1 x2 x3 x4 x5 := by
  funext j
  obtain ⟨r, c, rfl⟩ := Cert.Rows.exists_ix2 (a := 49152) (b := 1024) j
  show _ = twoHalves (x0 (ix2 r c)) (fun k => (x1 (ix2 r k) + x2 (ix2 r k)) * gelu (x3 (ix2 r ⟨2048 + k.val, by omega⟩)))
    (fun k => x4 (ix2 r k)) (fun k => x5 (ix3 0 k c))
  rw [twoHalves_eq]
  pointwise [val_main_v20, val_main_v19, val_main_v18, val_main_v17]
  simp only [beside_apply]

end Cert.OutOddRefIdeal.Row

end
-- ==== Proof.OutOddArray.lean ====
module

public import proofs.«01_k».proof.Proof.OutOddRow
public import proofs.«01_k».proof.Defs

/-! The output projection of the odd layers: the kernel's whole result array, and the equation with the reference. -/

@[expose] public section

set_option maxRecDepth 16384

noncomputable section

open Idealize.ShloMosaic Idealize.ShloMosaic.TcCoe Idealize.SL.Sem
open Idealize.ShloMosaic.Pipeline (Dat)

namespace Cert.OutOddIdeal.Block

open Cert.OutOddIdeal Cert.OutOddIdeal.Gen Cert.OutMath Cert.Rows

variable (m : (ℓ : Loc nD τ sig) → Buf (Elt Ideal) ℓ) (ρ : Dev nD → PrngReg) (c : Dev nD)

/-! ### The arrays the region finds -/

theorem V_v0 : V m c main_v0
    = (truncf (F := Ideal) .bf16 (m ((c : Thread nD τ).loc main_arg5) : FVec Ideal S2x1024x1024 .f32) bitsLt_bf16_f32 : FVec Ideal S2x1024x1024 .bf16) := by
  show StableHlo.after hostOps0 (fun b => m (c, b)) main_v0 = _
  after_results

/-! ### The index maps, decided over the grid, and where each block lies in its array -/

/-- Which block of its array each window takes at each point. -/
theorem idx : ∀ t : Fin cfg0.N, win0_0.index t = ![t.val, 0] ∧ win0_1.index t = ![t.val, 0]
    ∧ win0_2.index t = ![t.val, 0] ∧ win0_3.index t = ![t.val, 4]
    ∧ win0_4.index t = ![t.val, 0] ∧ win0_5.index t = ![0, 0, 0]
    ∧ win0_6.index t = ![t.val, 0] :=
  (by decide +kernel : ∀ t : Fin grid0.N, _)

theorem emb0 (t : Fin cfg0.N) (r : Fin 512) (k : Fin 1024) :
    ((cfg0.win 0).blk t).view.emb (ix2 r k) = ix2 (row t r) k := by blk_ext [(idx t).1]

theorem emb1 (t : Fin cfg0.N) (r : Fin 512) (k : Fin 512) :
    ((cfg0.win 1).blk t).view.emb (ix2 r k) = ix2 (row t r) k := by blk_ext [(idx t).2.1]

theorem emb2 (t : Fin cfg0.N) (r : Fin 512) (k : Fin 512) :
    ((cfg0.win 2).blk t).view.emb (ix2 r k) = ix2 (row t r) k := by blk_ext [(idx t).2.2.1]

theorem emb3 (t : Fin cfg0.N) (r : Fin 512) (k : Fin 512) :
    ((cfg0.win 3).blk t).view.emb (ix2 r k) = (ix2 (row t r) ⟨2048 + k.val, by omega⟩ : S49152x2560.Idx) := by blk_ext [(idx t).2.2.2.1]

theorem emb4 (t : Fin cfg0.N) (r : Fin 512) (k : Fin 512) :
    ((cfg0.win 4).blk t).view.emb (ix2 r k) = ix2 (row t r) k := by blk_ext [(idx t).2.2.2.2.1]

theorem emb5 (t : Fin cfg0.N) (k : Fin 1024) (f : Fin 1024) :
    ((cfg0.win 5).blk t).view.emb (ix3 0 k f) = (ix3 0 k f : S2x1024x1024.Idx) := by blk_ext [(idx t).2.2.2.2.2.1]

theorem emb6 (t : Fin cfg0.N) (r : Fin 512) (k : Fin 1024) :
    ((cfg0.win 6).blk t).view.emb (ix2 r k) = ix2 (row t r) k := by blk_ext [(idx t).2.2.2.2.2.2]

/-! ### The blocks, read off the arguments -/

theorem iblk0_apply (t : Fin cfg0.N) (r : Fin 512) (k : Fin 1024) :
    iblk m c 0 t (ix2 r k) = m ((c : Thread nD τ).loc main_arg0) (ix2 (row t r) k) := by
  show V m c main_arg0 (((cfg0.win 0).blk t).view.emb (ix2 r k)) = _
  rw [emb0, V_main_arg0]

theorem iblk1_apply (t : Fin cfg0.N) (r : Fin 512) (k : Fin 512) :
    iblk m c 1 t (ix2 r k) = m ((c : Thread nD τ).loc main_arg1) (ix2 (row t r) k) := by
  show V m c main_arg1 (((cfg0.win 1).blk t).view.emb (ix2 r k)) = _
  rw [emb1, V_main_arg1]

theorem iblk2_apply (t : Fin cfg0.N) (r : Fin 512) (k : Fin 512) :
    iblk m c 2 t (ix2 r k) = m ((c : Thread nD τ).loc main_arg2) (ix2 (row t r) k) := by
  show V m c main_arg2 (((cfg0.win 2).blk t).view.emb (ix2 r k)) = _
  rw [emb2, V_main_arg2]

theorem iblk3_apply (t : Fin cfg0.N) (r : Fin 512) (k : Fin 512) :
    iblk m c 3 t (ix2 r k) = m ((c : Thread nD τ).loc main_arg3) (ix2 (row t r) ⟨2048 + k.val, by omega⟩) := by
  show V m c main_arg3 (((cfg0.win 3).blk t).view.emb (ix2 r k)) = _
  rw [emb3, V_main_arg3]

theorem iblk4_apply (t : Fin cfg0.N) (r : Fin 512) (k : Fin 512) :
    iblk m c 4 t (ix2 r k) = m ((c : Thread nD τ).loc main_arg4) (ix2 (row t r) k) := by
  show V m c main_arg4 (((cfg0.win 4).blk t).view.emb (ix2 r k)) = _
  rw [emb4, V_main_arg4]

theorem iblk5_apply (t : Fin cfg0.N) (k f : Fin 1024) :
    iblk m c 5 t (ix3 0 k f) = m ((c : Thread nD τ).loc main_arg5) (ix3 0 k f) := by
  show V m c main_v0 (((cfg0.win 5).blk t).view.emb (ix3 0 k f)) = _
  rw [emb5, V_v0]
  rfl

/-! ### The result array -/

/-- The array of output projections of the arguments on device `c`. -/
abbrev goal : FVec Ideal S49152x1024 .f32 :=
  Cert.OutOddRefIdeal.Row.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What point `t` writes back is its block of that array. -/
theorem flushed_eq (t : Fin cfg0.N) :
    (dats m 0 c).flushed 6 t = ((cfg0.win 6).blk t).view.read (Elt Ideal) (goal m c) := by
  rw [Value.flushed6]
  funext y
  obtain ⟨r, k, rfl⟩ := exists_ix2 (a := 512) (b := 1024) y
  show (out0_6 (F := Ideal) _ _ _ _ _ _ (ix2 r k) : Ideal .f32) = goal m c (((cfg0.win 6).blk t).view.emb (ix2 r k))
  rw [out_apply, emb6]
  simp only [iblk0_apply, iblk1_apply, iblk2_apply, iblk3_apply, iblk4_apply, iblk5_apply]
  rfl

/-- The blocks cover the array. -/
theorem covers : (cfg0.win 6).Covers := by decide +kernel

/-- After the run the result array is that array. -/
theorem final : (dats m 0 c).arrAt 6 cfg0.N = goal m c :=
  (dats m 0 c).arrAt_eq_of_cover 6 (goal m c) (fun t _ => flushed_eq m c t)
    (covers.cover _ (Memref.isWhole_whole _))

end Cert.OutOddIdeal.Block

namespace Cert.OutOddProof

/-- At the extended reals the kernel leaves what the reference computes, for all arguments. -/
theorem algebraic : Cert.algebraic_OutOddIdeal_OutOddRefIdeal := fun m g m' g' _ hag =>
  ⟨fun c => Cert.OutOddIdeal.Block.goal m c,
    (θ_run _ _ _).mono (fun _ h c => ⟨(h c).1.trans (Cert.OutOddIdeal.Block.final m c), (h c).2⟩) (Cert.OutOddIdeal.Value.run_blocks m g),
    (θ_run _ _ _).mono (fun _ h c => ⟨(h c).1.trans (by
        rw [Cert.OutOddRefIdeal.Read.val_main_v20_eq, Cert.OutOddRefIdeal.Row.whole_eq, (hag c).1, (hag c).2.1, (hag c).2.2.1, (hag c).2.2.2.1, (hag c).2.2.2.2.1, (hag c).2.2.2.2.2]), (h c).2⟩)
      (Cert.OutOddRefIdeal.Value.run m' g')⟩

/-- The reference runs to its end from any memory, leaves its arguments and every counter as they were. -/
theorem frame_ref : Cert.quiescent_OutOddRefIdeal := fun m ρ _ =>
  (θ_run _ _ _).mono (fun r h => ⟨fun c => (h c).2, sem_eq_zero_of_no_sems (by decide) r.2⟩)
    (Cert.OutOddRefIdeal.Value.run (F := Ideal) m ρ)

end Cert.OutOddProof

end
-- ==== Proof.SFiveRow.lean ====
module

public import proofs.«01_k».proof.Proof.Gen.SFiveIdeal.Value
public import proofs.«01_k».proof.Proof.Gen.SFiveRefIdeal.Read
public import proofs.«01_k».proof.Proof.OutMath
public import proofs.«01_k».proof.Proof.Rows
public import Idealize.ShloMosaic.Lib.Pointwise

/-! The read-out of the state-space branch: one block of the kernel, and the reference, read at a token and a column. -/

@[expose] public section

set_option maxRecDepth 16384

noncomputable section

open Idealize.ShloMosaic Idealize.ShloMosaic.TcCoe

namespace Cert.SFiveIdeal.Block

open Cert.SFiveIdeal Cert.SFiveIdeal.Gen Cert.OutMath Cert.Rows

/-- What the body leaves in its result's buffer is its arithmetic on the six blocks. -/
theorem out_eq (c : Dev nD) (i : grid0.Coords) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (a4 : Memref sig .tc .vmem S1x1x512 .f32) (h4 : a4.IsWhole) (a5 : Memref sig .tc .vmem S1x512x512 .bf16) (h5 : a5.IsWhole)
    (a6 : Memref sig .tc .vmem S1x1x512 .f32) (h6 : a6.IsWhole) (a7 : Memref sig .tc .vmem S512x512 .f32) (h7 : a7.IsWhole)
    (x0 x1 x2 : Vec Ideal S512x512 .f32) (x3 : Vec Ideal S1x1x512 .f32) (x4 : Vec Ideal S1x512x512 .bf16) (x5 : Vec Ideal S1x1x512 .f32) :
    out0_A_6 c i a1 h1 a2 h2 a3 h3 a4 h4 a5 h5 a6 h6 a7 h7 x0 x1 x2 x3 x4 x5 = k0_pay1 x1 x2 x3 x0 x4 x5 := by
  unfold out0_A_6
  rw [View.read_writes_junk_eq_canon]
  unfold kernelRun0_A
  dsimp only
  rw [View.canon_unit_zero hz2]
  simp only [View.readAt_eq_ld, Memref.IsWhole.read_unread]
  rw [View.ld_unit_zero (S := S512x512) hz2, View.ld_unit_zero (S := S512x512) hz2, View.ld_unit_zero (S := S1x1x512) hz3,
    View.ld_unit_zero (S := S512x512) hz2, View.ld_unit_zero (S := S1x512x512) hz3, View.ld_unit_zero (S := S1x1x512) hz3]

/-- The body's arithmetic at row `r` and column `f` is the read-out of row `r`. -/
theorem pay_apply (yf yb u : Vec Ideal S512x512 .f32) (d b : Vec Ideal S1x1x512 .f32) (w : Vec Ideal S1x512x512 .bf16)
    (r f : Fin 512) :
    k0_pay1 yf yb d u w b (ix2 r f) = readOut (fun k => yf (ix2 r k)) (fun k => yb (ix2 r k)) (fun k => u (ix2 r k))
      (fun k => d (ix3 0 0 k)) (fun k f => w (ix3 0 k f)) (fun k => b (ix3 0 0 k)) f := by
  pointwise [k0_pay1]
  rfl

end Cert.SFiveIdeal.Block

namespace Cert.SFiveRefIdeal.Row

open Cert.SFiveRefIdeal Cert.SFiveRefIdeal.Gen Cert.SFiveRefIdeal.Read Cert.OutMath

variable (x0 : FVec Ideal S49152x2304 .f32) (x1 x2 : FVec Ideal S49152x512 .f32) (x3 : FVec Ideal S2x512 .f32) (x4 : FVec Ideal S2x512x512 .f32) (x5 : FVec Ideal S2x512 .f32)

/-- The whole result as one function of the arguments: row `n` is the read-out of row `n` with the first layer's weights. -/
def whole : FVec Ideal S49152x512 .f32 := fun j =>
  readOut (fun k => x1 (ix2 (j 0) k)) (fun k => x2 (ix2 (j 0) k)) (fun k => x0 (ix2 (j 0) ⟨k.val, by omega⟩))
    (fun k => x3 (ix2 0 k)) (fun k f => x4 (ix3 0 k f)) (fun k => x5 (ix2 0 k)) (j 1)

/-- The reference's gated state. -/
theorem gated_apply (r : Fin 49152) (k : Fin 512) :
    val_main_v20 (F := Ideal) x0 x1 x2 x3 (ix2 r k)
      = gelu (skipped (fun k => x1 (ix2 r k)) (fun k => x2 (ix2 r k)) (fun k => x0 (ix2 r ⟨k.val, by omega⟩)) (fun k => x3 (ix2 0 k)) k) := by
  have h : ∀ k, val_main_v7 (F := Ideal) x0 x1 x2 x3 (ix2 r k)
      = skipped (fun k => x1 (ix2 r k)) (fun k => x2 (ix2 r k)) (fun k => x0 (ix2 r ⟨k.val, by omega⟩)) (fun k => x3 (ix2 0 k)) k := by
    intro k
    pointwise [val_main_v7, val_main_v6, val_main_v5, val_main_v4, val_main_v3, val_main_v2, val_main_v1, val_main_v0]
    rfl
  pointwise [val_main_v20, val_main_v19, val_main_v18, val_main_cst_2, val_main_v17, val_main_v16, val_main_cst_1,
    val_main_v15, val_main_v14, val_main_v13, val_main_cst_0, val_main_v12, val_main_v11, val_main_v10, val_main_cst,
    val_main_v9, val_main_v8]
  simp only [h]
  unfold gelu
  rw [mul_comm (skipped _ _ _ _ k) (skipped _ _ _ _ k * skipped _ _ _ _ k)]

/-- The reference's result is that function. -/
theorem whole_eq : val_main_v35 (F := Ideal) x0 x1 x2 x3 x4 x5 = whole x0 x1 x2 x3 x4 x5 := by
  funext j
  obtain ⟨r, f, rfl⟩ := Cert.Rows.exists_ix2 (a := 49152) (b := 512) j
  pointwise [val_main_v35, val_main_v34, val_main_v33, val_main_cst_4, val_main_v32, val_main_v31, val_main_cst_3,
    val_main_v30, val_main_v29, val_main_v28, val_main_v27, val_main_v26, val_main_v25, val_main_v24, val_main_v23,
    val_main_v22, val_main_v21]
  simp only [gated_apply]
  rfl

end Cert.SFiveRefIdeal.Row

end
-- ==== Proof.SFiveArray.lean ====
module

public import proofs.«01_k».proof.Proof.SFiveRow
public import proofs.«01_k».proof.Defs

/-! The read-out of the state-space branch: the kernel's whole result array, and the equation with the reference. -/

@[expose] public section

set_option maxRecDepth 16384

noncomputable section

open Idealize.ShloMosaic Idealize.ShloMosaic.TcCoe Idealize.SL.Sem
open Idealize.ShloMosaic.Pipeline (Dat)

namespace Cert.SFiveIdeal.Block

open Cert.SFiveIdeal Cert.SFiveIdeal.Gen Cert.OutMath Cert.Rows

variable (m : (ℓ : Loc nD τ sig) → Buf (Elt Ideal) ℓ) (ρ : Dev nD → PrngReg) (c : Dev nD)

/-! ### The arrays the region finds -/

theorem V_v0 : V m c main_v0
    = broadcastInDim S2x1x512 ![0, 2] bcast_S2x512_S2x1x512_0_2 (m ((c : Thread nD τ).loc main_arg3)) := by
  show StableHlo.after hostOps0 (fun b => m (c, b)) main_v0 = _
  after_results

theorem V_v1 : V m c main_v1
    = (truncf (F := Ideal) .bf16 (m ((c : Thread nD τ).loc main_arg4) : FVec Ideal S2x512x512 .f32) bitsLt_bf16_f32 : FVec Ideal S2x512x512 .bf16) := by
  show StableHlo.after hostOps0 (fun b => m (c, b)) main_v1 = _
  after_results

theorem V_v2 : V m c main_v2
    = broadcastInDim S2x1x512 ![0, 2] bcast_S2x512_S2x1x512_0_2 (m ((c : Thread nD τ).loc main_arg5)) := by
  show StableHlo.after hostOps0 (fun b => m (c, b)) main_v2 = _
  after_results

/-! ### The index maps, decided over the grid, and where each block lies in its array -/

/-- Which block of its array each window takes at each point. -/
theorem idx : ∀ t : Fin cfg0.N, win0_0.index t = ![t.val, 0] ∧ win0_1.index t = ![t.val, 0]
    ∧ win0_2.index t = ![t.val, 0] ∧ win0_3.index t = ![0, 0, 0]
    ∧ win0_4.index t = ![0, 0, 0] ∧ win0_5.index t = ![0, 0, 0]
    ∧ win0_6.index t = ![t.val, 0] :=
  (by decide +kernel : ∀ t : Fin grid0.N, _)

/-- The read branch's input is a column block of a wider array: where entry `y` of it lies there. -/
theorem emb0 (t : Fin cfg0.N) (y : ((cfg0.win 0).xblock (grid0.coords t)).Idx) (a : Fin 2) :
    (((cfg0.win 0).blk t).view.emb y a : Nat) = win0_0.index t a * S512x512.size a + (y a : Nat) := by
  show ((win0_0.rect t).emb y a : Nat) = _
  rw [win0_0.rect_emb_val]

theorem emb1 (t : Fin cfg0.N) (r : Fin 512) (k : Fin 512) :
    ((cfg0.win 1).blk t).view.emb (ix2 r k) = ix2 (row t r) k := by blk_ext [(idx t).2.1]

theorem emb2 (t : Fin cfg0.N) (r : Fin 512) (k : Fin 512) :
    ((cfg0.win 2).blk t).view.emb (ix2 r k) = ix2 (row t r) k := by blk_ext [(idx t).2.2.1]

theorem emb3 (t : Fin cfg0.N) (k : Fin 512) :
    ((cfg0.win 3).blk t).view.emb (ix3 0 0 k) = (ix3 0 0 k : S2x1x512.Idx) := by blk_ext [(idx t).2.2.2.1]

theorem emb4 (t : Fin cfg0.N) (k : Fin 512) (f : Fin 512) :
    ((cfg0.win 4).blk t).view.emb (ix3 0 k f) = (ix3 0 k f : S2x512x512.Idx) := by blk_ext [(idx t).2.2.2.2.1]

theorem emb5 (t : Fin cfg0.N) (k : Fin 512) :
    ((cfg0.win 5).blk t).view.emb (ix3 0 0 k) = (ix3 0 0 k : S2x1x512.Idx) := by blk_ext [(idx t).2.2.2.2.2.1]

theorem emb6 (t : Fin cfg0.N) (r : Fin 512) (k : Fin 512) :
    ((cfg0.win 6).blk t).view.emb (ix2 r k) = ix2 (row t r) k := by blk_ext [(idx t).2.2.2.2.2.2]

/-! ### The blocks, read off the arguments -/

theorem x0_apply (t : Fin cfg0.N) (r k : Fin 512) :
    X0_0 m c t (ix2 r k) = m ((c : Thread nD τ).loc main_arg0) (ix2 (row t r) ⟨k.val, by omega⟩ : S49152x2304.Idx) := by
  unfold X0_0 Pipeline.Window.fill
  rw [dif_pos (moved0_0 t _)]
  show V m c main_arg0 (((cfg0.win 0).blk t).view.emb _) = _
  rw [V_main_arg0]
  refine congrArg _ (funext fun a => Fin.ext ((emb0 t _ a).trans ?_))
  fin_cases a
  · show win0_0.index t 0 * 512 + r.val = _; rw [(idx t).1]; rfl
  · show win0_0.index t 1 * 512 + k.val = _; rw [(idx t).1]; show 0 * 512 + k.val = k.val; omega

theorem iblk1_apply (t : Fin cfg0.N) (r k : Fin 512) :
    iblk m c 1 t (ix2 r k) = m ((c : Thread nD τ).loc main_arg1) (ix2 (row t r) k) := by
  show V m c main_arg1 (((cfg0.win 1).blk t).view.emb (ix2 r k)) = _
  rw [emb1, V_main_arg1]

theorem iblk2_apply (t : Fin cfg0.N) (r k : Fin 512) :
    iblk m c 2 t (ix2 r k) = m ((c : Thread nD τ).loc main_arg2) (ix2 (row t r) k) := by
  show V m c main_arg2 (((cfg0.win 2).blk t).view.emb (ix2 r k)) = _
  rw [emb2, V_main_arg2]

theorem iblk3_apply (t : Fin cfg0.N) (k : Fin 512) :
    iblk m c 3 t (ix3 0 0 k) = m ((c : Thread nD τ).loc main_arg3) (ix2 0 k) := by
  show V m c main_v0 (((cfg0.win 3).blk t).view.emb (ix3 0 0 k)) = _
  rw [emb3, V_v0]
  pointwise

theorem iblk4_apply (t : Fin cfg0.N) (k f : Fin 512) :
    iblk m c 4 t (ix3 0 k f) = m ((c : Thread nD τ).loc main_arg4) (ix3 0 k f) := by
  show V m c main_v1 (((cfg0.win 4).blk t).view.emb (ix3 0 k f)) = _
  rw [emb4, V_v1]
  rfl

theorem iblk5_apply (t : Fin cfg0.N) (k : Fin 512) :
    iblk m c 5 t (ix3 0 0 k) = m ((c : Thread nD τ).loc main_arg5) (ix2 0 k) := by
  show V m c main_v2 (((cfg0.win 5).blk t).view.emb (ix3 0 0 k)) = _
  rw [emb5, V_v2]
  pointwise

/-! ### The result array -/

/-- The array of read-outs of the arguments on device `c`. -/
abbrev goal : FVec Ideal S49152x512 .f32 :=
  Cert.SFiveRefIdeal.Row.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What point `t` writes back is its block of that array. -/
theorem flushed_eq (t : Fin cfg0.N) :
    (dats m 0 c).flushed 6 t = ((cfg0.win 6).blk t).view.read (Elt Ideal) (goal m c) := by
  rw [Value.flushed6_A, out_eq]
  funext y
  obtain ⟨r, k, rfl⟩ := exists_ix2 (a := 512) (b := 512) y
  show (k0_pay1 (F := Ideal) _ _ _ _ _ _ (ix2 r k) : Ideal .f32) = goal m c (((cfg0.win 6).blk t).view.emb (ix2 r k))
  rw [pay_apply, emb6]
  simp only [x0_apply, iblk1_apply, iblk2_apply, iblk3_apply, iblk4_apply, iblk5_apply]
  rfl

/-- The blocks cover the array. -/
theorem covers : (cfg0.win 6).Covers := by decide +kernel

/-- After the run the result array is that array. -/
theorem final : (dats m 0 c).arrAt 6 cfg0.N = goal m c :=
  (dats m 0 c).arrAt_eq_of_cover 6 (goal m c) (fun t _ => flushed_eq m c t)
    (covers.cover _ (Memref.isWhole_whole _))

end Cert.SFiveIdeal.Block

namespace Cert.SFiveProof

/-- At the extended reals the kernel leaves what the reference computes, for all arguments. -/
theorem algebraic : Cert.algebraic_SFiveIdeal_SFiveRefIdeal := fun m g m' g' _ hag =>
  ⟨fun c => Cert.SFiveIdeal.Block.goal m c,
    (θ_run _ _ _).mono (fun _ h c => ⟨(h c).1.trans (Cert.SFiveIdeal.Block.final m c), (h c).2⟩) (Cert.SFiveIdeal.Value.run_blocks m g),
    (θ_run _ _ _).mono (fun _ h c => ⟨(h c).1.trans (by
        rw [Cert.SFiveRefIdeal.Read.val_main_v35_eq, Cert.SFiveRefIdeal.Row.whole_eq, (hag c).1, (hag c).2.1, (hag c).2.2.1, (hag c).2.2.2.1, (hag c).2.2.2.2.1, (hag c).2.2.2.2.2]), (h c).2⟩)
      (Cert.SFiveRefIdeal.Value.run m' g')⟩

/-- The reference runs to its end from any memory, leaves its arguments and every counter as they were. -/
theorem frame_ref : Cert.quiescent_SFiveRefIdeal := fun m ρ _ =>
  (θ_run _ _ _).mono (fun r h => ⟨fun c => (h c).2, sem_eq_zero_of_no_sems (by decide) r.2⟩)
    (Cert.SFiveRefIdeal.Value.run (F := Ideal) m ρ)

end Cert.SFiveProof

end
-- ==== Proof.NormRow.lean ====
module

public import proofs.«01_k».proof.Proof.Gen.NormIdeal.Frame
public import proofs.«01_k».proof.Proof.Gen.NormRefIdeal.Read
public import proofs.«01_k».proof.Proof.FfnMath
public import proofs.«01_k».proof.Proof.Rows
public import Idealize.ShloMosaic.Lib.Pointwise

/-! The final normalisation: one block of the kernel, and the reference, read at a token and an entry. -/

@[expose] public section

set_option maxRecDepth 16384

noncomputable section

open Idealize.ShloMosaic Idealize.ShloMosaic.TcCoe

namespace Cert.NormIdeal.Block

open Cert.NormIdeal Cert.NormIdeal.Gen Cert.FfnMath Cert.Rows

/-- The body's result for row `r` of its block is the normalised row. -/
theorem out_apply (v0 : Vec Ideal S512x1024 .f32) (v1 : Vec Ideal S1x1024 .f32) (r : Fin 512) (k : Fin 1024) :
    out0_2 v0 v1 (ix2 r k) = normed (fun k => v0 (ix2 r k)) (fun k => v1 (ix2 0 k)) k := by
  unfold out0_2
  rw [View.canon_unit_zero hz2, View.ld_unit_zero hz2, View.ld_unit_zero hz2]
  pointwise [k0_pay1]
  rfl

/-- The two batches' tokens as one array of rows: the first batch's 8 × 4096, then the second's 2 × 8192. -/
abbrev rows (x0 : FVec Ideal S8x4096x1024 .f32) (x1 : FVec Ideal S2x8192x1024 .f32) : FVec Ideal S49152x1024 .f32 :=
  concatenate S49152x1024 0 [⟨S32768x1024, (shapeCast S32768x1024 x0 shapeCasts_S8x4096x1024_S32768x1024 : FVec Ideal S32768x1024 .f32)⟩,
    ⟨S16384x1024, (shapeCast S16384x1024 x1 shapeCasts_S2x8192x1024_S16384x1024 : FVec Ideal S16384x1024 .f32)⟩]
    concatenates_S32768x1024_S16384x1024_S49152x1024_d0

/-- Row `4096 b + s` is the first batch's token `s` of sequence `b`. -/
theorem rows_fst (x0 : FVec Ideal S8x4096x1024 .f32) (x1 : FVec Ideal S2x8192x1024 .f32) (b : Fin 8) (s : Fin 4096) (k : Fin 1024) :
    rows x0 x1 (ix2 (⟨b.val * 4096 + s.val, by omega⟩ : Fin 49152) k) = x0 (ix3 b s k) := by
  refine (concatenate_pair_apply_left (t := S49152x1024) (s₁ := S32768x1024) (s₂ := S16384x1024) (0 : Fin 2) _ _ _ _ rfl
      (ix2 (⟨b.val * 4096 + s.val, by omega⟩ : Fin 32768) k : S32768x1024.Idx) fun a => ?_).trans ?_
  · fin_cases a <;> rfl
  · pointwise

/-- Row `32768 + 8192 b + s` is the second batch's token `s` of sequence `b`. -/
theorem rows_snd (x0 : FVec Ideal S8x4096x1024 .f32) (x1 : FVec Ideal S2x8192x1024 .f32) (b : Fin 2) (s : Fin 8192) (k : Fin 1024) :
    rows x0 x1 (ix2 (⟨32768 + (b.val * 8192 + s.val), by omega⟩ : Fin 49152) k) = x1 (ix3 b s k) := by
  refine (concatenate_pair_apply_right (t := S49152x1024) (s₁ := S32768x1024) (s₂ := S16384x1024) (0 : Fin 2) _ _ _ _ rfl rfl
      (ix2 (⟨b.val * 8192 + s.val, by omega⟩ : Fin 16384) k : S16384x1024.Idx) (fun a ha => ?_) ?_).trans ?_
  · fin_cases a
    · exact absurd rfl ha
    · rfl
  · show b.val * 8192 + s.val + 32768 = 32768 + (b.val * 8192 + s.val); omega
  · pointwise

end Cert.NormIdeal.Block

namespace Cert.NormRefIdeal.Row

open Cert.NormRefIdeal Cert.NormRefIdeal.Gen Cert.NormRefIdeal.Read Cert.FfnMath

variable (x0 : FVec Ideal S8x4096x1024 .f32) (x1 : FVec Ideal S2x8192x1024 .f32) (x2 : FVec Ideal S1024 .f32)

/-- The reference's first result at token `s` of sequence `b`. -/
theorem fst_apply (b : Fin 8) (s : Fin 4096) (k : Fin 1024) :
    val_main_v12 (F := Ideal) x0 x2 (ix3 b s k) = normed (fun k => x0 (ix3 b s k)) (fun k => x2 (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The reference's second result at token `s` of sequence `b`. -/
theorem snd_apply (b : Fin 2) (s : Fin 8192) (k : Fin 1024) :
    val_main_v25 (F := Ideal) x1 x2 (ix3 b s k) = normed (fun k => x1 (ix3 b s k)) (fun k => x2 (ix1 k)) k := by
  pointwise [val_main_v25, val_main_v24, val_main_v23, val_main_v22, val_main_v21, val_main_v20, val_main_v19, val_main_v18,
    val_main_v17, val_main_v16, val_main_v15, val_main_v14, val_main_v13, val_main_cst_2, val_main_cst_3, val_main_cst_4]
  rfl

end Cert.NormRefIdeal.Row

end
-- ==== Proof.NormArray.lean ====
module

public import proofs.«01_k».proof.Proof.NormRow
public import proofs.«01_k».proof.Defs

/-! The final normalisation: the kernel's array, the two results cut from it, and the equation with the reference. -/

@[expose] public section

set_option maxRecDepth 16384

noncomputable section

open Idealize.ShloMosaic Idealize.ShloMosaic.TcCoe Idealize.SL.Sem
open Idealize.ShloMosaic.Pipeline (Dat)

namespace Cert.NormIdeal.Block

open Cert.NormIdeal Cert.NormIdeal.Gen Cert.FfnMath Cert.Rows

variable (m : (ℓ : Loc nD τ sig) → Buf (Elt Ideal) ℓ) (ρ : Dev nD → PrngReg) (c : Dev nD)

/-! ### The arrays the region finds -/

theorem V_v2 : V m c main_v2 = rows (m ((c : Thread nD τ).loc main_arg0)) (m ((c : Thread nD τ).loc main_arg1)) := by
  show StableHlo.after hostOps0 (fun b => m (c, b)) main_v2 = _
  after_results
  try rfl

theorem V_v3 : V m c main_v3 = broadcastInDim S1x1024 ![1] bcast_S1024_S1x1024_1 (m ((c : Thread nD τ).loc main_arg2)) := by
  show StableHlo.after hostOps0 (fun b => m (c, b)) main_v3 = _
  after_results

/-! ### The index maps, decided over the grid, and where each block lies in its array -/

/-- Which block of its array each window takes at each point. -/
theorem idx : ∀ t : Fin cfg0.N, win0_0.index t = ![t.val, 0] ∧ win0_1.index t = ![0, 0]
    ∧ win0_2.index t = ![t.val, 0] :=
  (by decide +kernel : ∀ t : Fin grid0.N, _)

theorem emb0 (t : Fin cfg0.N) (r : Fin 512) (k : Fin 1024) :
    ((cfg0.win 0).blk t).view.emb (ix2 r k) = ix2 (row t r) k := by blk_ext [(idx t).1]

theorem emb1 (t : Fin cfg0.N) (k : Fin 1024) :
    ((cfg0.win 1).blk t).view.emb (ix2 0 k) = (ix2 0 k : S1x1024.Idx) := by blk_ext [(idx t).2.1]

theorem emb2 (t : Fin cfg0.N) (r : Fin 512) (k : Fin 1024) :
    ((cfg0.win 2).blk t).view.emb (ix2 r k) = ix2 (row t r) k := by blk_ext [(idx t).2.2]

/-! ### The blocks, read off the arguments -/

theorem iblk0_apply (t : Fin cfg0.N) (r : Fin 512) (k : Fin 1024) :
    iblk m c 0 t (ix2 r k)
      = rows (m ((c : Thread nD τ).loc main_arg0)) (m ((c : Thread nD τ).loc main_arg1)) (ix2 (row t r) k) := by
  show V m c main_v2 (((cfg0.win 0).blk t).view.emb (ix2 r k)) = _
  rw [emb0, V_v2]

theorem iblk1_apply (t : Fin cfg0.N) (k : Fin 1024) :
    iblk m c 1 t (ix2 0 k) = m ((c : Thread nD τ).loc main_arg2) (ix1 k) := by
  show V m c main_v3 (((cfg0.win 1).blk t).view.emb (ix2 0 k)) = _
  rw [emb1, V_v3]
  pointwise

/-! ### The result array -/

/-- The array of normalised rows of both batches on device `c`. -/
abbrev goal : FVec Ideal S49152x1024 .f32 := fun j =>
  normed (fun k => rows (m ((c : Thread nD τ).loc main_arg0)) (m ((c : Thread nD τ).loc main_arg1)) (ix2 (j 0) k))
    (fun k => m ((c : Thread nD τ).loc main_arg2) (ix1 k)) (j 1)

/-- What point `t` writes back is its block of that array. -/
theorem flushed_eq (t : Fin cfg0.N) :
    (dats m 0 c).flushed 2 t = ((cfg0.win 2).blk t).view.read (Elt Ideal) (goal m c) := by
  show (cfg0.win 2).cut (grid0.coords t) ((dats m 0 c).after 2 t) = _
  rw [after0_2]
  funext y
  obtain ⟨r, k, rfl⟩ := exists_ix2 (a := 512) (b := 1024) y
  show (out0_2 (F := Ideal) _ _ (ix2 r k) : Ideal .f32) = goal m c (((cfg0.win 2).blk t).view.emb (ix2 r k))
  rw [out_apply, emb2]
  simp only [iblk0_apply, iblk1_apply]
  rfl

/-- The blocks cover the array. -/
theorem covers : (cfg0.win 2).Covers := by decide +kernel

/-- After the run the result array is that array. -/
theorem final : (dats m 0 c).arrAt 2 cfg0.N = goal m c :=
  (dats m 0 c).arrAt_eq_of_cover 2 (goal m c) (fun t _ => flushed_eq m c t)
    (covers.cover _ (Memref.isWhole_whole _))

/-! ### The two results, cut from that array after the region -/

/-- What the lines after the region leave in the first result: the first batch's rows of the region's array, -/
theorem tail_fst : Pipeline.afterTail₀ cfgs (dats m) 0 (V0 m) [hostOps1] c main_v6
    = (shapeCast S8x4096x1024 (extractStridedSlice S32768x1024 ![0, 0] (goal m c) slices_S49152x1024_S32768x1024_0_0 :
        FVec Ideal S32768x1024 .f32) shapeCasts_S32768x1024_S8x4096x1024 : FVec Ideal S8x4096x1024 .f32) := by
  have e := Pipeline.withArrays_arr spec0 (by exact (by decide : Function.Injective (Pipeline.arrRef spec0))) c (V0 m c) (fun w => (dats m 0 c).arrAt w cfg0.N) 2
  rw [final] at e
  rw [← e]
  show StableHlo.after hostOps1 _ main_v6 = _
  after_results
  try rfl

/-- and in the second: the second batch's. -/
theorem tail_snd : Pipeline.afterTail₀ cfgs (dats m) 0 (V0 m) [hostOps1] c main_v8
    = (shapeCast S2x8192x1024 (extractStridedSlice S16384x1024 ![32768, 0] (goal m c) slices_S49152x1024_S16384x1024_32768_0 :
        FVec Ideal S16384x1024 .f32) shapeCasts_S16384x1024_S2x8192x1024 : FVec Ideal S2x8192x1024 .f32) := by
  have e := Pipeline.withArrays_arr spec0 (by exact (by decide : Function.Injective (Pipeline.arrRef spec0))) c (V0 m c) (fun w => (dats m 0 c).arrAt w cfg0.N) 2
  rw [final] at e
  rw [← e]
  show StableHlo.after hostOps1 _ main_v8 = _
  after_results
  try rfl

/-- The first result is the reference's first, -/
theorem fst_eq : Pipeline.afterTail₀ cfgs (dats m) 0 (V0 m) [hostOps1] c main_v6
    = Cert.NormRefIdeal.Read.val_main_v12 (F := Ideal) (m ((c : Thread nD τ).loc main_arg0)) (m ((c : Thread nD τ).loc main_arg2)) := by
  rw [tail_fst]
  funext j
  obtain ⟨b, s, k, rfl⟩ : ∃ (b : Fin 8) (s : Fin 4096) (k : Fin 1024), j = ix3 b s k :=
    ⟨j 0, j 1, j 2, by funext a; fin_cases a <;> rfl⟩
  refine Eq.trans ?_ (Cert.NormRefIdeal.Row.fst_apply _ _ b s k).symm
  have h : (shapeCast S8x4096x1024 (extractStridedSlice S32768x1024 ![0, 0] (goal m c) slices_S49152x1024_S32768x1024_0_0 :
      FVec Ideal S32768x1024 .f32) shapeCasts_S32768x1024_S8x4096x1024 : FVec Ideal S8x4096x1024 .f32) (ix3 b s k)
      = goal m c (ix2 ⟨b.val * 4096 + s.val, by omega⟩ k) := by
    generalize goal m c = G
    pointwise
  rw [h]
  show normed (fun k => rows _ _ (ix2 (⟨b.val * 4096 + s.val, _⟩ : Fin 49152) k)) _ k = _
  simp only [rows_fst]

/-- and the second its second. -/
theorem snd_eq : Pipeline.afterTail₀ cfgs (dats m) 0 (V0 m) [hostOps1] c main_v8
    = Cert.NormRefIdeal.Read.val_main_v25 (F := Ideal) (m ((c : Thread nD τ).loc main_arg1)) (m ((c : Thread nD τ).loc main_arg2)) := by
  rw [tail_snd]
  funext j
  obtain ⟨b, s, k, rfl⟩ : ∃ (b : Fin 2) (s : Fin 8192) (k : Fin 1024), j = ix3 b s k :=
    ⟨j 0, j 1, j 2, by funext a; fin_cases a <;> rfl⟩
  refine Eq.trans ?_ (Cert.NormRefIdeal.Row.snd_apply _ _ b s k).symm
  have h : (shapeCast S2x8192x1024 (extractStridedSlice S16384x1024 ![32768, 0] (goal m c) slices_S49152x1024_S16384x1024_32768_0 :
      FVec Ideal S16384x1024 .f32) shapeCasts_S16384x1024_S2x8192x1024 : FVec Ideal S2x8192x1024 .f32) (ix3 b s k)
      = goal m c (ix2 ⟨32768 + (b.val * 8192 + s.val), by omega⟩ k) := by
    generalize goal m c = G
    pointwise
  rw [h]
  show normed (fun k => rows _ _ (ix2 (⟨32768 + (b.val * 8192 + s.val), _⟩ : Fin 49152) k)) _ k = _
  simp only [rows_snd]

end Cert.NormIdeal.Block

namespace Cert.NormProof

open Cert.NormIdeal Cert.NormIdeal.Gen

/-- At the extended reals the kernel leaves in each of its two results what the reference computes, for all arguments. -/
theorem algebraic : Cert.algebraic_NormIdeal_NormRefIdeal := fun m g m' g' _ hag =>
  ⟨fun c => Cert.NormRefIdeal.Read.val_main_v12 (F := Ideal) (m ((c : Thread nD τ).loc main_arg0)) (m ((c : Thread nD τ).loc main_arg2)),
    fun c => Cert.NormRefIdeal.Read.val_main_v25 (F := Ideal) (m ((c : Thread nD τ).loc main_arg1)) (m ((c : Thread nD τ).loc main_arg2)),
    (θ_run _ _ _).mono (fun _ h c =>
      ⟨((h c).2 main_v6 (Pipeline.mem_restRefs_of main_v6 (by decide) (by decide))).trans (Cert.NormIdeal.Block.fst_eq m c),
        ((h c).2 main_v8 (Pipeline.mem_restRefs_of main_v8 (by decide) (by decide))).trans (Cert.NormIdeal.Block.snd_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
      (run_main m g),
    (θ_run _ _ _).mono (fun _ h c =>
      ⟨(h c).1.trans (by rw [Cert.NormRefIdeal.Read.val_main_v12_eq, (hag c).1, (hag c).2.2]),
        (h c).2.1.trans (by rw [Cert.NormRefIdeal.Read.val_main_v25_eq, (hag c).2.1, (hag c).2.2]), (h c).2.2⟩)
      (Cert.NormRefIdeal.Value.run m' g')⟩

/-- The reference runs to its end from any memory, leaves its arguments and every counter as they were. -/
theorem frame_ref : Cert.quiescent_NormRefIdeal := fun m ρ _ =>
  (θ_run _ _ _).mono (fun r h => ⟨fun c => (h c).2.2, sem_eq_zero_of_no_sems (by decide) r.2⟩)
    (Cert.NormRefIdeal.Value.run (F := Ideal) m ρ)

end Cert.NormProof

end
-- ==== Proof.Shift.lean ====
module

public import proofs.«01_k».proof.Proof.Rows
public import proofs.«01_k».proof.Proof.LruRefMask
public import Idealize.ShloMosaic.Lib.KernelVsHost

/-! A token's neighbours within its own sequence: how the reference reads them, by a mask over the flat token axis and a padded copy, and
    how a block of the kernel reads them, by rotating its rows and taking those beyond its ends from the eight rows before or after. -/

@[expose] public section

set_option maxRecDepth 16384

noncomputable section

namespace Cert.Shift

open Idealize.ShloMosaic Idealize.ShloMosaic.WordCmp Cert.Rows Cert.LruMath
open Cert.LruRefIdeal.Scan (posW posW_toNat)

/-- The length of the sequence that token `n` belongs to: the prompts are 4096 tokens long, the samples 8192. -/
def len (n : ℕ) : ℕ := if n < 32768 then 4096 else 8192

/-- Entry `n + o` of token `n`'s sequence, zero beyond the sequence's ends. -/
def near (x : Fin 49152 → EReal) (o : ℤ) (n : ℕ) : EReal :=
  if 0 ≤ ((n % len n : ℕ) : ℤ) + o ∧ ((n % len n : ℕ) : ℤ) + o < len n then tok x ((n : ℤ) + o).toNat else 0

/-! ### In the reference -/

/-- The length of token `n`'s sequence as a word. -/
def lenW (n : ℕ) : BitVec 32 := Scalar.select (IntOp.cmpi .slt (BitVec.ofNat 32 n) 32768#32) 4096#32 8192#32

/-- The reference's mask: is the neighbour at offset `w` inside the sequence? -/
def insideW (w : BitVec 32) (n : ℕ) : BitVec 1 :=
  IntOp.andi (IntOp.cmpi .sge (IntOp.addi (posW n) w) 0#32) (IntOp.cmpi .slt (IntOp.addi (posW n) w) (lenW n))

theorem lenW_eq (n : ℕ) (hn : n < 49152) : lenW n = BitVec.ofNat 32 (len n) := by
  unfold lenW len
  rw [cmpi_slt_ofNat (by omega) (by omega), select_ofBool]
  by_cases h : n < 32768
  · rw [if_pos (by simpa using h), if_pos h]
  · rw [if_neg (by simpa using h), if_neg h]

theorem posW_eq (n : ℕ) (hn : n < 49152) : posW n = BitVec.ofNat 32 (n % len n) := by
  apply BitVec.eq_of_toNat_eq
  rw [posW_toNat n hn, BitVec.toNat_ofNat]
  unfold len
  split <;> omega

/-- The mask, in integers. -/
theorem insideW_eq (w : BitVec 32) (o : ℤ) (hw : w.toInt = o) (ho : -8 ≤ o ∧ o ≤ 8) (n : ℕ) (hn : n < 49152) :
    insideW w n = BitVec.ofBool (decide (0 ≤ ((n % len n : ℕ) : ℤ) + o ∧ ((n % len n : ℕ) : ℤ) + o < len n)) := by
  have hp : n % len n < 8192 := by unfold len; split <;> omega
  have hl : len n ≤ 8192 := by unfold len; split <;> omega
  have e : ∀ k : ℕ, k ≤ 8192 → (BitVec.ofNat 32 k).toInt = k := fun k hk => by
    rw [BitVec.toInt_eq_toNat_of_lt (by rw [BitVec.toNat_ofNat]; omega), BitVec.toNat_ofNat]; omega
  have a : (IntOp.addi (posW n) w).toInt = ((n % len n : ℕ) : ℤ) + o := by
    show (posW n + w).toInt = _
    rw [BitVec.toInt_add, posW_eq n hn, e _ hp.le, hw, Int.bmod_eq_of_le (by omega) (by omega)]
  have z : (0#32).toInt = 0 := rfl
  unfold insideW
  rw [cmpi_sge_eq]
  show IntOp.andi _ (BitVec.ofBool (BitVec.slt _ _)) = _
  rw [BitVec.slt_eq_decide, a, z, lenW_eq n hn, e _ hl, andi_ofBool]
  congr 1
  simp

/-- Row `n` of the copy padded by two rows on either side, read `o` rows further, masked: the neighbour at offset `o - 2`. -/
theorem masked_apply {C : ℕ} (x : FVec Ideal ⟨2, ![49152, C]⟩ .f32) (v : FVec Ideal ⟨0, ![]⟩ .f32) (w : BitVec 32) (o : ℕ) (ho : o ≤ 4)
    (hw : w.toInt = (o : ℤ) - 2)
    (hp : (⟨2, ![49152, C]⟩ : Shape).Pads ![2, 0] ![2, 0] ![0, 0] ⟨2, ![49156, C]⟩) (hu)
    (hs : (⟨2, ![49156, C]⟩ : Shape).Slices ![o, 0] ⟨2, ![49152, C]⟩) (n : Fin 49152) (k : Fin C) :
    Scalar.select (insideW w n.val)
      (extractStridedSlice ⟨2, ![49152, C]⟩ ![o, 0] (pad ⟨2, ![49156, C]⟩ ![2, 0] ![2, 0] ![0, 0] x v hp hu) hs (ix2 n k)) (0 : EReal)
      = near (fun r => x (ix2 r k)) ((o : ℤ) - 2) n.val := by
  rw [insideW_eq w _ hw (by omega) n.val n.isLt, select_ofBool]
  unfold near
  by_cases h : 0 ≤ ((n.val % len n.val : ℕ) : ℤ) + ((o : ℤ) - 2) ∧ ((n.val % len n.val : ℕ) : ℤ) + ((o : ℤ) - 2) < len n.val
  · rw [if_pos (by simpa using h), if_pos h]
    have hb : 2 ≤ n.val + o ∧ n.val + o - 2 < 49152 := by
      have := n.isLt
      unfold len at h
      split at h <;> omega
    rw [extractStridedSlice_apply ![o, 0] _ hs (ix2 n k) (ix2 (⟨o + n.val, by omega⟩ : Fin 49156) k) (by
      intro a; fin_cases a
      · rfl
      · show k.val = 0 + k.val; omega)]
    rw [pad_apply_of_inside _ _ _ x v hp hu _ (ix2 (⟨n.val + o - 2, hb.2⟩ : Fin 49152) k) (by
      intro a; fin_cases a
      · show o + n.val = 2 + (n.val + o - 2) * (0 + 1); omega
      · show k.val = 0 + k.val * (0 + 1); omega)]
    unfold tok
    refine congrArg (fun r => x (ix2 r k)) (Fin.ext ?_)
    show n.val + o - 2 = ((n.val : ℤ) + ((o : ℤ) - 2)).toNat % 49152
    omega
  · rw [if_neg (by simpa using h), if_neg h]

/-! ### In a block of the kernel -/

/-- Does block `t` begin a sequence? -/
def first (t : ℕ) : Bool := decide (t % (if t < 64 then 8 else 16) = 0)

/-- Does it end one? -/
def last (t : ℕ) : Bool := decide ((t + 1) % (if t < 64 then 8 else 16) = 0)

/-- Block `n`'s flag "begins a sequence", as the kernel computes it from its grid coordinate. -/
theorem first_word : ∀ n : Fin 96,
    Scalar.ori
      (Scalar.andi (Scalar.andi (Scalar.cmpi .sge (Scalar.subi (BitVec.ofNat 32 n.val) 0#32) 0#32) (Scalar.cmpi .slt (Scalar.subi (BitVec.ofNat 32 n.val) 0#32) 64#32))
        (Scalar.cmpi .eq (Scalar.remsi (Scalar.maxsi (Scalar.subi (BitVec.ofNat 32 n.val) 0#32) 0#32) 8#32) 0#32))
      (Scalar.andi (Scalar.andi (Scalar.cmpi .sge (Scalar.subi (BitVec.ofNat 32 n.val) 64#32) 0#32) (Scalar.cmpi .slt (Scalar.subi (BitVec.ofNat 32 n.val) 64#32) 32#32))
        (Scalar.cmpi .eq (Scalar.remsi (Scalar.maxsi (Scalar.subi (BitVec.ofNat 32 n.val) 64#32) 0#32) 16#32) 0#32))
      = BitVec.ofBool (first n.val) := by decide +kernel

/-- Its flag "ends a sequence". -/
theorem last_word : ∀ n : Fin 96,
    Scalar.ori
      (Scalar.andi (Scalar.andi (Scalar.cmpi .sge (Scalar.subi (BitVec.ofNat 32 n.val) 0#32) 0#32) (Scalar.cmpi .slt (Scalar.subi (BitVec.ofNat 32 n.val) 0#32) 64#32))
        (Scalar.cmpi .eq (Scalar.remsi (Scalar.maxsi (Scalar.subi (BitVec.ofNat 32 n.val) 0#32) 0#32) 8#32) 7#32))
      (Scalar.andi (Scalar.andi (Scalar.cmpi .sge (Scalar.subi (BitVec.ofNat 32 n.val) 64#32) 0#32) (Scalar.cmpi .slt (Scalar.subi (BitVec.ofNat 32 n.val) 64#32) 32#32))
        (Scalar.cmpi .eq (Scalar.remsi (Scalar.maxsi (Scalar.subi (BitVec.ofNat 32 n.val) 64#32) 0#32) 16#32) 15#32))
      = BitVec.ofBool (last n.val) := by decide +kernel

/-- The neighbour `d` rows above row `y` of block `t`: inside the block, or in the eight rows before it, -/
theorem near_above (x : Fin 49152 → EReal) (d : ℕ) (hd : 1 ≤ d ∧ d ≤ 8) (t : Fin 96) (y : Fin 512) :
    near x (-(d : ℤ)) (row t y).val
      = if y.val < d then (if first t.val then 0 else tok x (((64 * t.val - 1) * 8) + (8 - d + y.val))) else tok x (row t (⟨(y.val + 512 - d) % 512, by omega⟩)).val := by
  have ht := t.isLt
  have hy := y.isLt
  unfold near
  have hl : len (row t y).val = 512 * (if t.val < 64 then 8 else 16) := by
    unfold len; show (if t.val * 512 + y.val < 32768 then _ else _) = _
    split <;> split <;> omega
  have hm : (row t y).val % len (row t y).val = 512 * (t.val % (if t.val < 64 then 8 else 16)) + y.val := by
    rw [hl]; show (t.val * 512 + y.val) % _ = _; split <;> omega
  have hlt : t.val % (if t.val < 64 then 8 else 16) < (if t.val < 64 then 8 else 16) := Nat.mod_lt _ (by split <;> omega)
  rw [hm, hl]
  by_cases h : y.val < d
  · rw [if_pos h]
    by_cases hf : first t.val
    · have hf' := of_decide_eq_true hf
      rw [if_pos hf, if_neg]; omega
    · have hf' : ¬ t.val % (if t.val < 64 then 8 else 16) = 0 := fun e => hf (decide_eq_true e)
      have h0 : t.val ≠ 0 := fun e => hf' (by rw [e]; rfl)
      rw [if_neg hf, if_pos (by omega)]
      congr 1
      show ((t.val * 512 + y.val : ℕ) + -(d : ℤ)).toNat = _
      omega
  · rw [if_neg h, if_pos (by omega)]
    congr 1
    show ((t.val * 512 + y.val : ℕ) + -(d : ℤ)).toNat = t.val * 512 + (y.val + 512 - d) % 512
    omega

/-- and the neighbour one row below: inside the block, or the first of the eight rows after it. -/
theorem near_below (x : Fin 49152 → EReal) (t : Fin 96) (y : Fin 512) :
    near x 1 (row t y).val
      = if y.val = 511 then (if last t.val then 0 else tok x (min (64 * (t.val + 1)) 6143 * 8)) else tok x (row t (⟨(y.val + 512 - 511) % 512, by omega⟩)).val := by
  have ht := t.isLt
  have hy := y.isLt
  unfold near
  have hl : len (row t y).val = 512 * (if t.val < 64 then 8 else 16) := by
    unfold len; show (if t.val * 512 + y.val < 32768 then _ else _) = _
    split <;> split <;> omega
  have hm : (row t y).val % len (row t y).val = 512 * (t.val % (if t.val < 64 then 8 else 16)) + y.val := by
    rw [hl]; show (t.val * 512 + y.val) % _ = _; split <;> omega
  have hq : last t.val = true ↔ t.val % (if t.val < 64 then 8 else 16) + 1 = (if t.val < 64 then 8 else 16) := by
    unfold last; rw [decide_eq_true_iff]; split <;> omega
  have hlt : t.val % (if t.val < 64 then 8 else 16) < (if t.val < 64 then 8 else 16) := Nat.mod_lt _ (by split <;> omega)
  rw [hm, hl]
  by_cases h : y.val = 511
  · rw [if_pos h]
    by_cases hf : last t.val
    · have hf' := hq.1 hf
      rw [if_pos hf, if_neg]; omega
    · have hf' : ¬ _ := fun e => hf (hq.2 e)
      have h0 : t.val ≠ 95 := fun e => hf (by rw [e]; rfl)
      rw [if_neg hf, if_pos (by omega)]
      congr 1
      show ((t.val * 512 + y.val : ℕ) + (1 : ℤ)).toNat = _
      omega
  · rw [if_neg h, if_pos (by omega)]
    congr 1
    show ((t.val * 512 + y.val : ℕ) + (1 : ℤ)).toNat = t.val * 512 + (y.val + 512 - 511) % 512
    omega

/-- The lane test "is this row `d`?" of a block's row numbers. -/
theorem select_row (y : Fin 512) (d : ℕ) (hd : d < 512) (w : BitVec 32) (hw : w = BitVec.ofNat 32 d) (a b : EReal) :
    Scalar.select (IntOp.cmpi .eq (BitVec.ofNat 32 y.val) w) a b = if y.val = d then a else b := by
  subst hw
  rw [cmpi_eq_eq_toNat, BitVec.toNat_ofNat, BitVec.toNat_ofNat, Nat.mod_eq_of_lt (by omega), Nat.mod_eq_of_lt (by omega), select_ofBool]
  simp

section block

variable (x : Fin 49152 → EReal) (X : Fin 512 → EReal) (P Q : Fin 8 → EReal) (t : Fin 96)
  (hX : ∀ y, X y = x (row t y)) (hP : ∀ q : Fin 8, P q = tok x ((64 * t.val - 1) * 8 + q.val))
  (hQ : ∀ q : Fin 8, Q q = tok x (min (64 * (t.val + 1)) 6143 * 8 + q.val))

include hX in
/-- Entry `y` of a block read through the flat token axis. -/
theorem tok_row (y : Fin 512) : tok x (row t y).val = X y := by
  rw [hX]; exact congrArg x (Fin.ext (Nat.mod_eq_of_lt (row t y).isLt))

include hX hP in
/-- The row above, as a block of the kernel reads it, -/
theorem above_one (y : Fin 512) :
    Scalar.select (IntOp.cmpi .eq (BitVec.ofNat 32 y.val) 0#32) (Scalar.select (BitVec.ofBool (first t.val)) 0 (P 7))
      (X (⟨(y.val + 512 - 1) % 512, by omega⟩)) = near x (-1) (row t y).val := by
  rw [select_row y 0 (by omega) _ rfl, select_ofBool, hP, ← tok_row x X t hX]
  have e := near_above x 1 ⟨by omega, by omega⟩ t y
  rw [show (-1 : ℤ) = -((1 : ℕ) : ℤ) from rfl, e]
  by_cases h : y.val = 0
  · rw [if_pos h, if_pos (show y.val < 1 by omega), h]; rfl
  · rw [if_neg h, if_neg (show ¬ y.val < 1 by omega)]

include hX hP in
/-- the row two above, -/
theorem above_two (y : Fin 512) :
    Scalar.select (IntOp.cmpi .eq (BitVec.ofNat 32 y.val) 1#32) (Scalar.select (BitVec.ofBool (first t.val)) 0 (P 7))
      (Scalar.select (IntOp.cmpi .eq (BitVec.ofNat 32 y.val) 0#32) (Scalar.select (BitVec.ofBool (first t.val)) 0 (P 6))
        (X (⟨(y.val + 512 - 2) % 512, by omega⟩))) = near x (-2) (row t y).val := by
  rw [select_row y 1 (by omega) _ rfl, select_row y 0 (by omega) _ rfl, select_ofBool, select_ofBool, hP, hP, ← tok_row x X t hX]
  have e := near_above x 2 ⟨by omega, by omega⟩ t y
  rw [show (-2 : ℤ) = -((2 : ℕ) : ℤ) from rfl, e]
  by_cases h : y.val = 1
  · rw [if_pos h, if_pos (show y.val < 2 by omega), h]; rfl
  · rw [if_neg h]
    by_cases h' : y.val = 0
    · rw [if_pos h', if_pos (show y.val < 2 by omega), h']; rfl
    · rw [if_neg h', if_neg (show ¬ y.val < 2 by omega)]

include hX hQ in
/-- and the row below. -/
theorem below_one (y : Fin 512) :
    Scalar.select (IntOp.cmpi .eq (BitVec.ofNat 32 y.val) 511#32) (Scalar.select (BitVec.ofBool (last t.val)) 0 (Q 0))
      (X (⟨(y.val + 512 - 511) % 512, by omega⟩)) = near x 1 (row t y).val := by
  rw [select_row y 511 (by omega) _ rfl, select_ofBool, hQ, ← tok_row x X t hX, near_below]
  rfl

end block

end Cert.Shift

end
-- ==== Proof.HyConvRow.lean ====
module

public import proofs.«01_k».proof.Proof.Gen.HyConvIdeal.Value
public import proofs.«01_k».proof.Proof.Gen.HyConvRefIdeal.Read
public import proofs.«01_k».proof.Proof.Shift
public import Idealize.ShloMosaic.Lib.Pointwise

/-! The short convolution over the tokens: one block of the kernel, and the reference, read at a token and a column. -/

@[expose] public section

set_option maxRecDepth 16384

noncomputable section

open Idealize.ShloMosaic Idealize.ShloMosaic.TcCoe

namespace Cert.HyConvRefIdeal.Row

open Cert.HyConvRefIdeal Cert.HyConvRefIdeal.Gen Cert.HyConvRefIdeal.Read Cert.Shift
open Cert.LruRefIdeal.Scan (posW)

/-- The convolution of a column of tokens at token `n`: the token before, the token itself and the token after, and the bias. -/
def short (x : Fin 49152 → EReal) (w : Fin 3 → EReal) (b : EReal) (n : Fin 49152) : EReal :=
  w 0 * near x (-1) n.val + w 1 * x n + w 2 * near x 1 n.val + b

variable (x0 : FVec Ideal S49152x2560 .f32) (x1 : FVec Ideal S2x3x1536 .f32) (x2 : FVec Ideal S2x1536 .f32)

/-- The whole result as one function of the arguments: the first columns of the projection, convolved with the first layer's weights. -/
def whole : FVec Ideal S49152x1536 .f32 := fun j =>
  short (fun n => x0 (ix2 n ⟨(j 1).val, lt_of_lt_of_le (j 1).isLt (by decide)⟩)) (fun i => x1 (ix3 0 i (j 1))) (x2 (ix2 0 (j 1))) (j 0)

/-- The convolved columns. -/
theorem v0_apply (r : Fin 49152) (f : Fin 1536) : val_main_v0 (F := Ideal) x0 (ix2 r f) = x0 (ix2 r ⟨f.val, by omega⟩) := by
  pointwise [val_main_v0]

/-- The token before, -/
theorem v27_apply (r : Fin 49152) (f : Fin 1536) :
    val_main_v27 (F := Ideal) x0 (ix2 r f) = near (fun n => x0 (ix2 n ⟨f.val, by omega⟩)) (-1) r.val := by
  have e := masked_apply (val_main_v0 (F := Ideal) x0) (val_main_call2_v0 (F := Ideal)) 4294967295#32 1 (by omega) rfl
    pads_S49152x1536_S49156x1536_220_000 h_S_ slices_S49156x1536_S49152x1536_1_0 r f
  simp only [v0_apply] at e
  refine Eq.trans ?_ e
  show Scalar.select (val_main_call3_v1 (F := Ideal) (ix2 r f)) (val_main_v26 (F := Ideal) x0 (ix2 r f)) (val_main_call3_v2 (F := Ideal) (ix2 r f)) = _
  congr 1
  pointwise [val_main_call3_v2, val_main_call3_v0, val_main_cst]
  show constant (F := Ideal) S_ .f32 0x00000000#32 ix0 = 0
  pointwise

/-- and the token after. -/
theorem v48_apply (r : Fin 49152) (f : Fin 1536) :
    val_main_v48 (F := Ideal) x0 (ix2 r f) = near (fun n => x0 (ix2 n ⟨f.val, by omega⟩)) 1 r.val := by
  have e := masked_apply (val_main_v0 (F := Ideal) x0) (val_main_call4_v0 (F := Ideal)) 1#32 3 (by omega) rfl
    pads_S49152x1536_S49156x1536_220_000 h_S_ slices_S49156x1536_S49152x1536_3_0 r f
  simp only [v0_apply] at e
  refine Eq.trans ?_ e
  show Scalar.select (val_main_call5_v1 (F := Ideal) (ix2 r f)) (val_main_v47 (F := Ideal) x0 (ix2 r f)) (val_main_call5_v2 (F := Ideal) (ix2 r f)) = _
  congr 1
  pointwise [val_main_call5_v2, val_main_call5_v0, val_main_cst_11]
  show constant (F := Ideal) S_ .f32 0x00000000#32 ix0 = 0
  pointwise

/-- The reference's result is that function. -/
theorem whole_eq : val_main_v55 (F := Ideal) x0 x1 x2 = whole x0 x1 x2 := by
  funext j
  obtain ⟨r, f, rfl⟩ := Cert.Rows.exists_ix2 (a := 49152) (b := 1536) j
  pointwise [val_main_v55, val_main_v54, val_main_v53, val_main_v52, val_main_v51, val_main_v50, val_main_v49, val_main_v38, val_main_v37,
    val_main_v36, val_main_v35, val_main_v34, val_main_v33, val_main_v32, val_main_v31, val_main_v30, val_main_v29, val_main_v28, val_main_v17,
    val_main_v16, val_main_v4, val_main_v3, val_main_v2, val_main_v1]
  simp only [v27_apply, v48_apply, v0_apply]
  rfl

end Cert.HyConvRefIdeal.Row

namespace Cert.HyConvIdeal.Block

open Cert.HyConvIdeal Cert.HyConvIdeal.Gen Cert.Rows Cert.Shift Cert.LruMath
open Cert.HyConvRefIdeal.Row (short)

/-- What the body leaves in its result's buffer, at row `r` and column `f`: the convolution of the block's tokens, when its buffers hold a block
    of the column `x` and the eight rows before and after it. -/
theorem out_apply (c : Dev nD) (i : grid0.Coords) (t : Fin 96) (hi : (i 0).val = t.val) (a1 : Memref sig .tc .vmem S512x1536 .f32) (h1 : a1.IsWhole)
    (a2 : Memref sig .tc .vmem S8x1536 .f32) (h2 : a2.IsWhole) (a3 : Memref sig .tc .vmem S8x1536 .f32) (h3 : a3.IsWhole)
    (a4 : Memref sig .tc .vmem S1x3x1536 .f32) (h4 : a4.IsWhole) (a5 : Memref sig .tc .vmem S1x1x1536 .f32) (h5 : a5.IsWhole)
    (a6 : Memref sig .tc .vmem S512x1536 .f32) (h6 : a6.IsWhole)
    (X : Vec Ideal S512x1536 .f32) (P Q : Vec Ideal S8x1536 .f32) (w : Vec Ideal S1x3x1536 .f32) (b : Vec Ideal S1x1x1536 .f32)
    (r : Fin 512) (f : Fin 1536) (x : Fin 49152 → EReal)
    (hX : ∀ y, X (ix2 y f) = x (row t y)) (hP : ∀ q : Fin 8, P (ix2 q f) = tok x ((64 * t.val - 1) * 8 + q.val))
    (hQ : ∀ q : Fin 8, Q (ix2 q f) = tok x (min (64 * (t.val + 1)) 6143 * 8 + q.val)) :
    out0_A_5 c i a1 h1 a2 h2 a3 h3 a4 h4 a5 h5 a6 h6 X P Q w b (ix2 r f)
      = short x (fun j => w (ix3 0 j f)) (b (ix3 0 0 f)) (row t r) := by
  unfold out0_A_5
  rw [View.read_writes_junk_eq_canon]
  unfold kernelRun0_A
  dsimp only
  rw [View.canon_unit_zero hz2]
  unfold kernelRun0_A.sl.r_2 kernelRun0_A.sl.r_3 kernelRun0_A.sl.r_1 kernelRun0_A.sl.r
  simp only [View.readAt_eq_ld, Memref.IsWhole.read_unread]
  rw [View.ld_unit_zero (S := S512x1536) hz2, View.ld_unit_zero (S := S8x1536) hz2, View.ld_unit_zero (S := S8x1536) hz2,
    View.ld_unit_zero (S := S1x1x1536) hz3]
  pointwise [k0_pay1, k0_pay3, k0_pay2]
  unfold kernelRun0_A.sl.v28 kernelRun0_A.sl.v32 kernelRun0_A.sl.v24 kernelRun0_A.sl.v27 kernelRun0_A.sl.v30 kernelRun0_A.sl.v31
    kernelRun0_A.sl.v22 kernelRun0_A.sl.v23 kernelRun0_A.sl.v26 kernelRun0_A.sl.v25 kernelRun0_A.sl.v29 kernelRun0_A.sl.v21
  rw [hi, first_word t, last_word t, above_one x (fun y => X (ix2 y f)) (fun q => P (ix2 q f)) t hX hP r,
    below_one x (fun y => X (ix2 y f)) (fun q => Q (ix2 q f)) t hX hQ r, hX]
  rfl

end Cert.HyConvIdeal.Block

end
-- ==== Proof.HyConvArray.lean ====
module

public import proofs.«01_k».proof.Proof.HyConvRow
public import proofs.«01_k».proof.Defs

/-! The short convolution over the tokens: the kernel's whole result array, and the equation with the reference. -/

@[expose] public section

set_option maxRecDepth 16384

noncomputable section

open Idealize.ShloMosaic Idealize.ShloMosaic.TcCoe Idealize.SL.Sem
open Idealize.ShloMosaic.Pipeline (Dat)

namespace Cert.HyConvIdeal.Block

open Cert.HyConvIdeal Cert.HyConvIdeal.Gen Cert.Rows Cert.LruMath

variable (m : (ℓ : Loc nD τ sig) → Buf (Elt Ideal) ℓ) (c : Dev nD)

/-! ### The arrays the region finds -/

theorem V_v0 : V m c main_v0
    = broadcastInDim S2x1x1536 ![0, 2] bcast_S2x1536_S2x1x1536_0_2 (m ((c : Thread nD τ).loc main_arg2)) := by
  show StableHlo.after hostOps0 (fun b => m (c, b)) main_v0 = _
  after_results

/-! ### The index maps, decided over the grid, and where each block lies in its array -/

/-- Which block of its array each window takes at each point: the block of tokens, the eight rows before it and the eight rows after it (the
    array's first and last where there are none), the first layer's weights and biases, and the block of the result. -/
theorem idx : ∀ t : Fin cfg0.N, win0_0.index t = ![t.val, 0] ∧ win0_1.index t = ![64 * t.val - 1, 0]
    ∧ win0_2.index t = ![min (64 * (t.val + 1)) 6143, 0] ∧ win0_3.index t = ![0, 0, 0]
    ∧ win0_4.index t = ![0, 0, 0] ∧ win0_5.index t = ![t.val, 0] :=
  (by decide +kernel : ∀ t : Fin grid0.N, _)

/-- The points of the grid are the blocks in order. -/
theorem coord : ∀ t : Fin cfg0.N, (grid0.coords t 0).val = t.val := (by decide +kernel : ∀ t : Fin grid0.N, _)

/-- Where an entry of a block of tokens lies in the projection, and where one of the eight rows before and after it. -/
theorem emb0 (t : Fin cfg0.N) (y : ((cfg0.win 0).xblock (grid0.coords t)).Idx) (a : Fin 2) :
    (((cfg0.win 0).blk t).view.emb y a : Nat) = win0_0.index t a * S512x1536.size a + (y a : Nat) := by
  show ((win0_0.rect t).emb y a : Nat) = _
  rw [win0_0.rect_emb_val]

theorem emb1 (t : Fin cfg0.N) (y : ((cfg0.win 1).xblock (grid0.coords t)).Idx) (a : Fin 2) :
    (((cfg0.win 1).blk t).view.emb y a : Nat) = win0_1.index t a * S8x1536.size a + (y a : Nat) := by
  show ((win0_1.rect t).emb y a : Nat) = _
  rw [win0_1.rect_emb_val]

theorem emb2 (t : Fin cfg0.N) (y : ((cfg0.win 2).xblock (grid0.coords t)).Idx) (a : Fin 2) :
    (((cfg0.win 2).blk t).view.emb y a : Nat) = win0_2.index t a * S8x1536.size a + (y a : Nat) := by
  show ((win0_2.rect t).emb y a : Nat) = _
  rw [win0_2.rect_emb_val]

theorem emb3 (t : Fin cfg0.N) (j : Fin 3) (k : Fin 1536) :
    ((cfg0.win 3).blk t).view.emb (ix3 0 j k) = (ix3 0 j k : S2x3x1536.Idx) := by blk_ext [(idx t).2.2.2.1]

theorem emb4 (t : Fin cfg0.N) (k : Fin 1536) :
    ((cfg0.win 4).blk t).view.emb (ix3 0 0 k) = (ix3 0 0 k : S2x1x1536.Idx) := by blk_ext [(idx t).2.2.2.2.1]

theorem emb5 (t : Fin cfg0.N) (r : Fin 512) (k : Fin 1536) :
    ((cfg0.win 5).blk t).view.emb (ix2 r k) = ix2 (row t r) k := by blk_ext [(idx t).2.2.2.2.2]

/-! ### The blocks, read off the arguments -/

/-- Column `k` of the projection on device `c`. -/
abbrev col (k : Fin 1536) : Fin 49152 → EReal := fun n => m ((c : Thread nD τ).loc main_arg0) (ix2 n ⟨k.val, by omega⟩ : S49152x2560.Idx)

theorem x0_apply (t : Fin cfg0.N) (r : Fin 512) (k : Fin 1536) : X0_0 m c t (ix2 r k) = col m c k (row t r) := by
  unfold X0_0 Pipeline.Window.fill
  rw [dif_pos (moved0_0 t _)]
  show V m c main_arg0 (((cfg0.win 0).blk t).view.emb _) = _
  rw [V_main_arg0]
  refine congrArg _ (funext fun a => Fin.ext ((emb0 t _ a).trans ?_))
  fin_cases a
  · show win0_0.index t 0 * 512 + r.val = _; rw [(idx t).1]; rfl
  · show win0_0.index t 1 * 1536 + k.val = _; rw [(idx t).1]; show 0 * 1536 + k.val = k.val; omega

theorem x1_apply (t : Fin cfg0.N) (q : Fin 8) (k : Fin 1536) :
    X0_1 m c t (ix2 q k) = tok (col m c k) ((64 * t.val - 1) * 8 + q.val) := by
  have ht : t.val < 96 := t.isLt
  unfold X0_1 Pipeline.Window.fill
  rw [dif_pos (moved0_1 t _)]
  show V m c main_arg0 (((cfg0.win 1).blk t).view.emb _) = _
  rw [V_main_arg0]
  refine congrArg _ (funext fun a => Fin.ext ((emb1 t _ a).trans ?_))
  fin_cases a
  · show win0_1.index t 0 * 8 + q.val = ((64 * t.val - 1) * 8 + q.val) % 49152; rw [(idx t).2.1]
    show (64 * t.val - 1) * 8 + q.val = _; omega
  · show win0_1.index t 1 * 1536 + k.val = _; rw [(idx t).2.1]; show 0 * 1536 + k.val = k.val; omega

theorem x2_apply (t : Fin cfg0.N) (q : Fin 8) (k : Fin 1536) :
    X0_2 m c t (ix2 q k) = tok (col m c k) (min (64 * (t.val + 1)) 6143 * 8 + q.val) := by
  have ht : t.val < 96 := t.isLt
  unfold X0_2 Pipeline.Window.fill
  rw [dif_pos (moved0_2 t _)]
  show V m c main_arg0 (((cfg0.win 2).blk t).view.emb _) = _
  rw [V_main_arg0]
  refine congrArg _ (funext fun a => Fin.ext ((emb2 t _ a).trans ?_))
  fin_cases a
  · show win0_2.index t 0 * 8 + q.val = (min (64 * (t.val + 1)) 6143 * 8 + q.val) % 49152; rw [(idx t).2.2.1]
    show min (64 * (t.val + 1)) 6143 * 8 + q.val = _; omega
  · show win0_2.index t 1 * 1536 + k.val = _; rw [(idx t).2.2.1]; show 0 * 1536 + k.val = k.val; omega

theorem iblk3_apply (t : Fin cfg0.N) (j : Fin 3) (k : Fin 1536) :
    iblk m c 3 t (ix3 0 j k) = m ((c : Thread nD τ).loc main_arg1) (ix3 0 j k) := by
  show V m c main_arg1 (((cfg0.win 3).blk t).view.emb (ix3 0 j k)) = _
  rw [emb3, V_main_arg1]

theorem iblk4_apply (t : Fin cfg0.N) (k : Fin 1536) :
    iblk m c 4 t (ix3 0 0 k) = m ((c : Thread nD τ).loc main_arg2) (ix2 0 k) := by
  show V m c main_v0 (((cfg0.win 4).blk t).view.emb (ix3 0 0 k)) = _
  rw [emb4, V_v0]
  pointwise

/-! ### The result array -/

/-- The convolved columns of the arguments on device `c`. -/
abbrev goal : FVec Ideal S49152x1536 .f32 :=
  Cert.HyConvRefIdeal.Row.whole (m ((c : Thread nD τ).loc main_arg0)) (m ((c : Thread nD τ).loc main_arg1)) (m ((c : Thread nD τ).loc main_arg2))

/-- What point `t` writes back is its block of that array. -/
theorem flushed_eq (t : Fin cfg0.N) :
    (dats m 0 c).flushed 5 t = ((cfg0.win 5).blk t).view.read (Elt Ideal) (goal m c) := by
  rw [Value.flushed5_A]
  funext y
  obtain ⟨r, k, rfl⟩ := exists_ix2 (a := 512) (b := 1536) y
  refine (out_apply c (grid0.coords t) t (coord t) _ _ _ _ _ _ _ _ _ _ _ _ _ _ _ _ _ r k (col m c k)
    (fun y => x0_apply m c t y k) (fun q => x1_apply m c t q k) (fun q => x2_apply m c t q k)).trans ?_
  show _ = goal m c (((cfg0.win 5).blk t).view.emb (ix2 r k))
  rw [emb5]
  simp only [iblk3_apply, iblk4_apply]
  rfl

/-- The blocks cover the array. -/
theorem covers : (cfg0.win 5).Covers := by decide +kernel

/-- After the run the result array is that array. -/
theorem final : (dats m 0 c).arrAt 5 cfg0.N = goal m c :=
  (dats m 0 c).arrAt_eq_of_cover 5 (goal m c) (fun t _ => flushed_eq m c t)
    (covers.cover _ (Memref.isWhole_whole _))

end Cert.HyConvIdeal.Block

namespace Cert.HyConvProof

/-- At the extended reals the kernel leaves what the reference computes, for all arguments. -/
theorem algebraic : Cert.algebraic_HyConvIdeal_HyConvRefIdeal := fun m g m' g' _ hag =>
  ⟨fun c => Cert.HyConvIdeal.Block.goal m c,
    (θ_run _ _ _).mono (fun _ h c => ⟨(h c).1.trans (Cert.HyConvIdeal.Block.final m c), (h c).2⟩) (Cert.HyConvIdeal.Value.run_blocks m g),
    (θ_run _ _ _).mono (fun _ h c => ⟨(h c).1.trans (by
        rw [Cert.HyConvRefIdeal.Read.val_main_v55_eq, Cert.HyConvRefIdeal.Row.whole_eq, (hag c).1, (hag c).2.1, (hag c).2.2]), (h c).2⟩)
      (Cert.HyConvRefIdeal.Value.run m' g')⟩

/-- The reference runs to its end from any memory, leaves its arguments and every counter as they were. -/
theorem frame_ref : Cert.quiescent_HyConvRefIdeal := fun m ρ _ =>
  (θ_run _ _ _).mono (fun r h => ⟨fun c => (h c).2, sem_eq_zero_of_no_sems (by decide) r.2⟩)
    (Cert.HyConvRefIdeal.Value.run (F := Ideal) m ρ)

end Cert.HyConvProof

end
-- ==== Proof.GatesMath.lean ====
module

public import Idealize.ShloMosaic.PureOps.Ideal.Laws
public import Idealize.ShloMosaic.Lib.IdealHost
public import Mathlib.Analysis.SpecialFunctions.Trigonometric.DerivHyp

/-! The gates of the RG-LRU over the extended reals: the decay and the input's factor from a gate and a learnt rate, and the product with a
block-diagonal matrix. -/

@[expose] public section

noncomputable section

namespace Cert.GatesMath

open Idealize.ShloMosaic

/-- `log (1 + e ^ (-l))`, by the larger of `-l` and zero. -/
def softplus (l : EReal) : EReal := max (-l) 0 + Ideal.log1p (Ideal.exp (-FloatOps.absf (F := Ideal) (φ := .f32) (-l)))

/-- The logarithm of the decay, of the gate `g` and the rate `l`. -/
def logDecay (g l : EReal) : EReal := Ideal.ofBits .f32 0xC1000000#32 * g * softplus l

/-- The input's factor `√(1 - a²)`, of the logarithm of the decay. -/
def factor (y : EReal) : EReal := Ideal.sqrt (-(Ideal.exp (Ideal.ofBits .f32 0x40000000#32 * y) - 1))

theorem exp_nonneg (z : EReal) : 0 ≤ Ideal.exp z := by
  induction z with
  | bot => exact le_refl _
  | top => exact le_top
  | coe r => rw [Ideal.exp_coe]; exact EReal.coe_nonneg.mpr (Real.exp_pos r).le

/-- A gate is not negative. -/
theorem logistic_nonneg (z : EReal) : 0 ≤ Ideal.logistic z := by
  have h : (0 : EReal) < 1 + Ideal.exp (-z) := lt_of_lt_of_le zero_lt_one (le_add_of_nonneg_right (exp_nonneg _))
  unfold Ideal.logistic Ideal.div
  rw [if_neg h.ne', one_mul]
  exact EReal.inv_nonneg_of_nonneg h.le

theorem log_coe (r : ℝ) : Ideal.log (r : EReal) = if r ≤ 0 then ⊥ else (Real.log r : EReal) := rfl

theorem softplus_nonneg (l : EReal) : 0 ≤ softplus l := by
  have e : ∀ z : EReal, 0 ≤ Ideal.log1p (Ideal.exp z) := fun z => by
    unfold Ideal.log1p
    induction z with
    | bot => rw [Ideal.exp_bot, add_zero, ← EReal.coe_one, log_coe, if_neg (by norm_num), Real.log_one]; exact le_refl _
    | top => rw [Ideal.exp_top, EReal.add_top_of_ne_bot (by decide)]; exact le_top
    | coe r =>
      have h := Real.exp_pos r
      rw [Ideal.exp_coe, ← EReal.coe_one, ← EReal.coe_add]
      rw [log_coe, if_neg (by linarith)]
      exact EReal.coe_nonneg.mpr (Real.log_nonneg (by linarith))
  exact add_nonneg (le_max_right _ _) (e _)

theorem eight : Ideal.ofBits .f32 0xC1000000#32 = ((-8 : ℝ) : EReal) := by
  simp [Ideal.ofBits, Ideal.ieee, -EReal.coe_mul, -EReal.coe_neg]; norm_num
theorem two : Ideal.ofBits .f32 0x40000000#32 = ((2 : ℝ) : EReal) := by
  simp [Ideal.ofBits, Ideal.ieee, -EReal.coe_mul, -EReal.coe_neg]; norm_num
theorem minus_two : Ideal.ofBits .f32 0xC0000000#32 = ((-2 : ℝ) : EReal) := by
  simp [Ideal.ofBits, Ideal.ieee, -EReal.coe_mul, -EReal.coe_neg]; norm_num

/-- The logarithm of a decay is not positive. -/
theorem logDecay_nonpos {g : EReal} (hg : 0 ≤ g) (l : EReal) : logDecay g l ≤ 0 := by
  unfold logDecay
  rw [eight, EReal.coe_neg, EReal.neg_mul, EReal.neg_mul, EReal.neg_le_zero]
  exact mul_nonneg (mul_nonneg (EReal.coe_nonneg.mpr (by norm_num)) hg) (softplus_nonneg l)

/-- `1 - e ^ (2 y)` from the hyperbolic tangent of `y`. -/
theorem factor_eq {y : EReal} (hy : y ≤ 0) :
    Ideal.sqrt (Ideal.div (Ideal.ofBits .f32 0xC0000000#32 * Ideal.tanh y) (1 - Ideal.tanh y)) = factor y := by
  unfold factor
  congr 1
  rw [two, minus_two]
  induction y with
  | top => exact absurd hy (by simp)
  | bot =>
    rw [EReal.coe_mul_bot_of_pos (by norm_num), Ideal.exp_bot]
    show Ideal.div (((-2 : ℝ) : EReal) * (-1)) (1 - (-1)) = -(0 - 1)
    rw [show ((-2 : ℝ) : EReal) * (-1) = ((2 : ℝ) : EReal) by rw [← EReal.coe_one, ← EReal.coe_neg, ← EReal.coe_mul]; norm_num,
      show (1 - (-1) : EReal) = ((2 : ℝ) : EReal) by rw [← EReal.coe_one, ← EReal.coe_neg, ← EReal.coe_sub]; norm_num]
    unfold Ideal.div
    rw [if_neg (by norm_num), ← EReal.coe_inv, ← EReal.coe_mul, zero_sub, neg_neg]
    norm_num
  | coe r =>
    have h1 := Real.exp_pos r
    have h2 := Real.exp_pos (-r)
    have hs : Real.exp r * Real.exp (-r) = 1 := by rw [← Real.exp_add]; simp
    have ht : Real.tanh r = (Real.exp r - Real.exp (-r)) / (Real.exp r + Real.exp (-r)) := Real.tanh_eq r
    have hd : 1 - Real.tanh r ≠ 0 := by
      rw [ht]; have : Real.exp r + Real.exp (-r) ≠ 0 := by positivity
      rw [one_sub_div this]; exact div_ne_zero (by linarith) this
    rw [← EReal.coe_mul, Ideal.exp_coe]
    show Ideal.div (((-2 : ℝ) : EReal) * ((Real.tanh r : ℝ) : EReal)) (1 - ((Real.tanh r : ℝ) : EReal)) = _
    rw [← EReal.coe_one, ← EReal.coe_sub, ← EReal.coe_mul, ← EReal.coe_sub, ← EReal.coe_neg]
    unfold Ideal.div
    rw [if_neg (by exact_mod_cast hd), ← EReal.coe_inv, ← EReal.coe_mul, EReal.coe_eq_coe_iff, ← div_eq_mul_inv, div_eq_iff hd, two_mul,
      Real.exp_add, ht]
    have hp : Real.exp r + Real.exp (-r) ≠ 0 := by positivity
    field_simp
    linear_combination (2 * Real.exp r) * hs

/-- A block's entry of a block-diagonal matrix, 8 blocks of 64: the product of a row with column `f` sums over the block of `f` alone. -/
theorem heads_sum (x : Fin 512 → EReal) (w : Fin 8 → Fin 64 → EReal) (h : Fin 8) :
    ∑ k : Fin 512, x k * (w ⟨k.val / 64, by omega⟩ ⟨k.val % 64, by omega⟩ * (if k.val / 64 = h.val then 1 else 0))
      = ∑ i : Fin 64, w h i * x ⟨h.val * 64 + i.val, by omega⟩ := by
  symm
  refine Fintype.sum_of_injective (fun i : Fin 64 => (⟨h.val * 64 + i.val, by omega⟩ : Fin 512)) (fun i j e => ?_) _ _ (fun k hk => ?_) (fun i => ?_)
  · have := congrArg Fin.val e; exact Fin.ext (by simpa using this)
  · rw [if_neg (fun e => hk ⟨⟨k.val % 64, by omega⟩, Fin.ext (by show h.val * 64 + k.val % 64 = k.val; omega)⟩), mul_zero, mul_zero]
  · have e1 : (h.val * 64 + i.val) / 64 = h.val := by omega
    have e2 : (h.val * 64 + i.val) % 64 = i.val := by omega
    show _ = x _ * (w ⟨(h.val * 64 + i.val) / 64, _⟩ ⟨(h.val * 64 + i.val) % 64, _⟩ * (if (h.val * 64 + i.val) / 64 = h.val then 1 else 0))
    rw [if_pos e1, mul_one, mul_comm]
    congr 2
    · exact Fin.ext e1.symm
    · exact Fin.ext e2.symm

end Cert.GatesMath

end
-- ==== Proof.GatesRow.lean ====
module

public import proofs.«01_k».proof.Proof.Gen.GatesIdeal.Value
public import proofs.«01_k».proof.Proof.Gen.GatesRefIdeal.Read
public import proofs.«01_k».proof.Proof.Shift
public import proofs.«01_k».proof.Proof.GatesMath
public import Idealize.ShloMosaic.Lib.Pointwise

/-! The RG-LRU's short convolution and gates: one block of the kernel, and the reference, read at a token and a channel. -/

@[expose] public section

set_option maxRecDepth 16384

noncomputable section

open Idealize.ShloMosaic Idealize.ShloMosaic.TcCoe

namespace Cert.GatesRefIdeal.Row

open Cert.GatesRefIdeal Cert.GatesRefIdeal.Gen Cert.GatesRefIdeal.Read Cert.Shift Cert.GatesMath

/-- The convolution of a channel's tokens at token `n`: the two tokens before, the token itself and the token after, and the bias. -/
def short (x : Fin 49152 → EReal) (w : Fin 4 → EReal) (b : EReal) (n : Fin 49152) : EReal :=
  w 0 * near x (-2) n.val + w 1 * near x (-1) n.val + w 2 * x n + w 3 * near x 1 n.val + b

/-- A gate at channel `f`, of a token's convolved channels: the heads' product, the bias and the logistic function. -/
def gate (v : Fin 512 → EReal) (w : Fin 8 → Fin 64 → Fin 64 → EReal) (b : EReal) (f : Fin 512) : EReal :=
  Ideal.logistic (∑ i : Fin 64, w ⟨f.val / 64, by omega⟩ i ⟨f.val % 64, by omega⟩ * v ⟨f.val / 64 * 64 + i.val, by omega⟩ + b)

/-- The decay at channel `f`. -/
def decayOf (v : Fin 512 → EReal) (w : Fin 8 → Fin 64 → Fin 64 → EReal) (b l : EReal) (f : Fin 512) : EReal :=
  Ideal.exp (logDecay (gate v w b f) l)

/-- The scaled input at channel `f`. -/
def inputOf (v : Fin 512 → EReal) (w u : Fin 8 → Fin 64 → Fin 64 → EReal) (b c l : EReal) (f : Fin 512) : EReal :=
  factor (logDecay (gate v w b f) l) * gate v u c f * v f

/-- Channel `k` of the projection's columns 1536 to 2047. -/
abbrev column (x0 : FVec Ideal S49152x2560 .f32) (k : Fin 512) : Fin 49152 → EReal := fun n => x0 (ix2 n ⟨1536 + k.val, by omega⟩)

variable (x0 : FVec Ideal S49152x2560 .f32) (x1 : FVec Ideal S2x4x512 .f32) (x2 : FVec Ideal S2x512 .f32) (x3 : FVec Ideal S2x2x512 .f32)
  (x4 : FVec Ideal S2x2x8x64x64 .f32) (x5 : FVec Ideal S2x2x512 .f32) (x6 : FVec Ideal S2x2x8x64x64 .f32) (x7 : FVec Ideal S2x2x512 .f32)

/-- The convolved channels of token `n`. -/
def mixed (n : Fin 49152) (k : Fin 512) : EReal := short (column x0 k) (fun i => x1 (ix3 0 i k)) (x2 (ix2 0 k)) n

/-- A gate of direction `d` at token `n` and channel `f`. -/
abbrev gateAt (d : Fin 2) (n : Fin 49152) (f : Fin 512) : EReal :=
  gate (mixed x0 x1 x2 n) (fun h i j => x4 (ix5 0 d h i j)) (x5 (ix3 0 d f)) f

/-- The decays of direction `d` as one function of the arguments, -/
def decays (d : Fin 2) : FVec Ideal S49152x512 .f32 := fun j =>
  decayOf (mixed x0 x1 x2 (j 0)) (fun h i k => x4 (ix5 0 d h i k)) (x5 (ix3 0 d (j 1))) (x3 (ix3 0 d (j 1))) (j 1)

/-- and the scaled inputs. -/
def inputs (d : Fin 2) : FVec Ideal S49152x512 .f32 := fun j =>
  inputOf (mixed x0 x1 x2 (j 0)) (fun h i k => x4 (ix5 0 d h i k)) (fun h i k => x6 (ix5 0 d h i k)) (x5 (ix3 0 d (j 1))) (x7 (ix3 0 d (j 1)))
    (x3 (ix3 0 d (j 1))) (j 1)

/-- The channels. -/
theorem v0_apply (r : Fin 49152) (f : Fin 512) : val_main_v0 (F := Ideal) x0 (ix2 r f) = column x0 f r := by
  pointwise [val_main_v0]

/-- The token two before, -/
theorem v27_apply (r : Fin 49152) (f : Fin 512) :
    val_main_v27 (F := Ideal) x0 (ix2 r f) = near (column x0 f) (-2) r.val := by
  have e := masked_apply (val_main_v0 (F := Ideal) x0) (val_main_call2_v0 (F := Ideal)) 4294967294#32 0 (by omega) rfl
    pads_S49152x512_S49156x512_220_000 h_S_ slices_S49156x512_S49152x512_0_0 r f
  simp only [v0_apply] at e
  refine Eq.trans ?_ e
  show Scalar.select (val_main_call3_v1 (F := Ideal) (ix2 r f)) (val_main_v26 (F := Ideal) x0 (ix2 r f)) (val_main_call3_v2 (F := Ideal) (ix2 r f)) = _
  congr 1
  pointwise [val_main_call3_v2, val_main_call3_v0, val_main_cst]
  show constant (F := Ideal) S_ .f32 0x00000000#32 ix0 = 0
  pointwise

/-- the token before, -/
theorem v42_apply (r : Fin 49152) (f : Fin 512) :
    val_main_v42 (F := Ideal) x0 (ix2 r f) = near (column x0 f) (-1) r.val := by
  have e := masked_apply (val_main_v0 (F := Ideal) x0) (val_main_call4_v0 (F := Ideal)) 4294967295#32 1 (by omega) rfl
    pads_S49152x512_S49156x512_220_000 h_S_ slices_S49156x512_S49152x512_1_0 r f
  simp only [v0_apply] at e
  refine Eq.trans ?_ e
  show Scalar.select (val_main_call5_v1 (F := Ideal) (ix2 r f)) (val_main_v41 (F := Ideal) x0 (ix2 r f)) (val_main_call5_v2 (F := Ideal) (ix2 r f)) = _
  congr 1
  pointwise [val_main_call5_v2, val_main_call5_v0, val_main_cst_11]
  show constant (F := Ideal) S_ .f32 0x00000000#32 ix0 = 0
  pointwise

/-- and the token after. -/
theorem v64_apply (r : Fin 49152) (f : Fin 512) :
    val_main_v64 (F := Ideal) x0 (ix2 r f) = near (column x0 f) (1) r.val := by
  have e := masked_apply (val_main_v0 (F := Ideal) x0) (val_main_call6_v0 (F := Ideal)) 1#32 3 (by omega) rfl
    pads_S49152x512_S49156x512_220_000 h_S_ slices_S49156x512_S49152x512_3_0 r f
  simp only [v0_apply] at e
  refine Eq.trans ?_ e
  show Scalar.select (val_main_call7_v1 (F := Ideal) (ix2 r f)) (val_main_v63 (F := Ideal) x0 (ix2 r f)) (val_main_call7_v2 (F := Ideal) (ix2 r f)) = _
  congr 1
  pointwise [val_main_call7_v2, val_main_call7_v0, val_main_cst_15]
  show constant (F := Ideal) S_ .f32 0x00000000#32 ix0 = 0
  pointwise

/-- The convolved channels. -/
theorem v71_apply (r : Fin 49152) (f : Fin 512) : val_main_v71 (F := Ideal) x0 x1 x2 (ix2 r f) = mixed x0 x1 x2 r f := by
  pointwise [val_main_v71, val_main_v70, val_main_v69, val_main_v68, val_main_v67, val_main_v66, val_main_v65, val_main_v54, val_main_v53,
    val_main_v52, val_main_v51, val_main_v50, val_main_v49, val_main_v48, val_main_v47, val_main_v46, val_main_v45, val_main_v44,
    val_main_v43, val_main_v32, val_main_v31, val_main_v30, val_main_v29, val_main_v28, val_main_v17, val_main_v16, val_main_v4,
    val_main_v3, val_main_v2, val_main_v1]
  simp only [v27_apply, v42_apply, v64_apply, v0_apply]
  rfl

/-! ### The forward direction -/

/-- The product with the gate's block-diagonal weights. -/
theorem v75_apply (h : Fin 8) (j : Fin 64) (r : Fin 49152) :
    val_main_v75 (F := Ideal) x0 x1 x2 x4 (ix3 h j r)
      = ∑ i : Fin 64, x4 (ix5 0 0 h i j) * mixed x0 x1 x2 r ⟨h.val * 64 + i.val, by omega⟩ := by
  pointwise [val_main_v75, val_main_v74, val_main_v73, val_main_v72]
  simp only [v71_apply]

/-- A gate. -/
theorem v88_apply (r : Fin 49152) (f : Fin 512) :
    val_main_v88 (F := Ideal) x0 x1 x2 x4 x5 (ix2 r f) = gateAt x0 x1 x2 x4 x5 0 r f := by
  pointwise [val_main_v88, val_main_v87, val_main_v86, val_main_v85, val_main_v84, val_main_v83, val_main_v82, val_main_v81, val_main_v80,
    val_main_v79, val_main_v78, val_main_v77, val_main_v76, val_main_cst_16, val_main_cst_17]
  simp only [v75_apply]
  rfl

/-- The logarithm of the decay. -/
theorem v113_apply (r : Fin 49152) (f : Fin 512) :
    val_main_v113 (F := Ideal) x0 x1 x2 x3 x4 x5 (ix2 r f) = logDecay (gateAt x0 x1 x2 x4 x5 0 r f) (x3 (ix3 0 0 f)) := by
  pointwise [val_main_v113, val_main_v112, val_main_v111, val_main_v110, val_main_v109, val_main_v108, val_main_v107, val_main_v106, val_main_v105,
    val_main_cst_20,
    val_main_call8_v11, val_main_call8_v10, val_main_call8_v9, val_main_call8_v8, val_main_call8_v7, val_main_call8_v6, val_main_call8_v5,
    val_main_call8_v4, val_main_call8_v3, val_main_call8_v2, val_main_call8_v1, val_main_call8_v0, val_main_call8_cst]
  rw [v88_apply, if_neg (fun h => h rfl)]
  rfl

/-- The decays, -/
theorem v119_eq : val_main_v119 (F := Ideal) x0 x1 x2 x3 x4 x5 = decays x0 x1 x2 x3 x4 x5 0 := by
  funext j
  obtain ⟨r, f, rfl⟩ := Cert.Rows.exists_ix2 (a := 49152) (b := 512) j
  pointwise [val_main_v119]
  rw [v113_apply]
  rfl

/-- and the scaled inputs. -/
theorem v121_eq : val_main_v121 (F := Ideal) x0 x1 x2 x3 x4 x5 x6 x7 = inputs x0 x1 x2 x3 x4 x5 x6 x7 0 := by
  funext j
  obtain ⟨r, f, rfl⟩ := Cert.Rows.exists_ix2 (a := 49152) (b := 512) j
  pointwise [val_main_v121, val_main_v120, val_main_v118, val_main_v117, val_main_v116, val_main_v115, val_main_v114, val_main_cst_21]
  rw [v113_apply, v71_apply, show val_main_v104 (F := Ideal) x0 x1 x2 x6 x7 = val_main_v88 (F := Ideal) x0 x1 x2 x6 x7 from rfl, v88_apply]
  rfl

/-! ### The backward direction -/

/-- The product with the gate's block-diagonal weights. -/
theorem v124_apply (h : Fin 8) (j : Fin 64) (r : Fin 49152) :
    val_main_v124 (F := Ideal) x0 x1 x2 x4 (ix3 h j r)
      = ∑ i : Fin 64, x4 (ix5 0 1 h i j) * mixed x0 x1 x2 r ⟨h.val * 64 + i.val, by omega⟩ := by
  pointwise [val_main_v124, val_main_v123, val_main_v122, val_main_v72]
  simp only [v71_apply]

/-- A gate. -/
theorem v137_apply (r : Fin 49152) (f : Fin 512) :
    val_main_v137 (F := Ideal) x0 x1 x2 x4 x5 (ix2 r f) = gateAt x0 x1 x2 x4 x5 1 r f := by
  pointwise [val_main_v137, val_main_v136, val_main_v135, val_main_v134, val_main_v133, val_main_v132, val_main_v131, val_main_v130, val_main_v129,
    val_main_v128, val_main_v127, val_main_v126, val_main_v125, val_main_cst_22, val_main_cst_23]
  simp only [v124_apply]
  rfl

/-- The logarithm of the decay. -/
theorem v162_apply (r : Fin 49152) (f : Fin 512) :
    val_main_v162 (F := Ideal) x0 x1 x2 x3 x4 x5 (ix2 r f) = logDecay (gateAt x0 x1 x2 x4 x5 1 r f) (x3 (ix3 0 1 f)) := by
  pointwise [val_main_v162, val_main_v161, val_main_v160, val_main_v159, val_main_v158, val_main_v157, val_main_v156, val_main_v155, val_main_v154,
    val_main_cst_26,
    val_main_call9_v11, val_main_call9_v10, val_main_call9_v9, val_main_call9_v8, val_main_call9_v7, val_main_call9_v6, val_main_call9_v5,
    val_main_call9_v4, val_main_call9_v3, val_main_call9_v2, val_main_call9_v1, val_main_call9_v0, val_main_call9_cst]
  rw [v137_apply, if_neg (fun h => h rfl)]
  rfl

/-- The decays, -/
theorem v168_eq : val_main_v168 (F := Ideal) x0 x1 x2 x3 x4 x5 = decays x0 x1 x2 x3 x4 x5 1 := by
  funext j
  obtain ⟨r, f, rfl⟩ := Cert.Rows.exists_ix2 (a := 49152) (b := 512) j
  pointwise [val_main_v168]
  rw [v162_apply]
  rfl

/-- and the scaled inputs. -/
theorem v170_eq : val_main_v170 (F := Ideal) x0 x1 x2 x3 x4 x5 x6 x7 = inputs x0 x1 x2 x3 x4 x5 x6 x7 1 := by
  funext j
  obtain ⟨r, f, rfl⟩ := Cert.Rows.exists_ix2 (a := 49152) (b := 512) j
  pointwise [val_main_v170, val_main_v169, val_main_v167, val_main_v166, val_main_v165, val_main_v164, val_main_v163, val_main_cst_27]
  rw [v162_apply, v71_apply, show val_main_v153 (F := Ideal) x0 x1 x2 x6 x7 = val_main_v137 (F := Ideal) x0 x1 x2 x6 x7 from rfl, v137_apply]
  rfl

end Cert.GatesRefIdeal.Row

namespace Cert.GatesIdeal.Block

open Cert.GatesIdeal Cert.GatesIdeal.Gen Cert.Rows Cert.Shift Cert.LruMath Cert.GatesMath
open Cert.GatesRefIdeal.Row (short gate decayOf inputOf)

variable (i : grid0.Coords) (X : Vec Ideal S512x512 .f32) (P Q : Vec Ideal S8x512 .f32) (w : Vec Ideal S1x4x512 .f32) (b : Vec Ideal S1x1x512 .f32)
  (l : Vec Ideal S1x2x512 .f32) (W : Vec Ideal S1x512x2048 .bf16) (B : Vec Ideal S1x1x2048 .f32)

/-! ### The kernel's gates, before anything is known of its buffers -/

/-- The product with the four gates' weights side by side, and the biases. -/
theorem pay29_apply (r : Fin 512) (f : Fin 2048) : k0_pay29 i X P Q w b l W B (ix2 r f)
    = ∑ k : Fin 512, k0_pay28 i X P Q w b l W B (ix2 r k) * W (ix3 0 k f) + B (ix3 0 0 f) := by
  unfold k0_pay29 k0_pay28
  pointwise [k0_pay8]

/-- The logarithm of the decay as the kernel spells it, at column `g` of that product. -/
theorem log_eq (z u : EReal) :
    Ideal.ofBits .f32 3238002688#32 * Ideal.logistic z
        * (if 0 - u ≠ 0 - u then 0 - u else max (0 - u) 0 + Ideal.log1p (Ideal.exp (0 - FloatOps.absf (F := Ideal) (φ := .f32) (0 - u))))
      = logDecay (Ideal.logistic z) u := by
  rw [if_neg (fun h => h rfl)]
  unfold logDecay softplus
  simp only [sub_eq_add_neg, zero_add]

/-- The forward decay, -/
theorem out8_apply (r f : Fin 512) : out0_8 i X P Q w b l W B (ix2 r f)
    = Ideal.exp (logDecay (Ideal.logistic (k0_pay29 i X P Q w b l W B (ix2 r ⟨f.val, by omega⟩))) (l (ix3 0 0 f))) := by
  unfold out0_8
  rw [View.canon_unit_zero hz2]
  unfold k0_pay30 k0_pay31 k0_pay32
  pointwise [k0_pay14, k0_pay13, k0_pay12, k0_pay11, k0_pay10]
  rw [log_eq]
  rfl

/-- the forward input, -/
theorem out9_apply (r f : Fin 512) : out0_9 i X P Q w b l W B (ix2 r f)
    = factor (logDecay (Ideal.logistic (k0_pay29 i X P Q w b l W B (ix2 r ⟨f.val, by omega⟩))) (l (ix3 0 0 f)))
      * Ideal.logistic (k0_pay29 i X P Q w b l W B (ix2 r ⟨512 + f.val, by omega⟩)) * k0_pay28 i X P Q w b l W B (ix2 r f) := by
  unfold out0_9
  rw [View.canon_unit_zero hz2]
  unfold k0_pay30 k0_pay31 k0_pay32
  pointwise [k0_pay15, k0_pay13, k0_pay12, k0_pay11, k0_pay10, k0_pay9]
  rw [log_eq, factor_eq (logDecay_nonpos (logistic_nonneg _) _)]
  rfl

/-- the backward decay, -/
theorem out10_apply (r f : Fin 512) : out0_10 i X P Q w b l W B (ix2 r f)
    = Ideal.exp (logDecay (Ideal.logistic (k0_pay29 i X P Q w b l W B (ix2 r ⟨1024 + f.val, by omega⟩))) (l (ix3 0 1 f))) := by
  unfold out0_10
  rw [View.canon_unit_zero hz2]
  unfold k0_pay33 k0_pay34 k0_pay35 k0_pay36 k0_pay37
  pointwise [k0_pay2, k0_pay1, k0_pay17, k0_pay18, k0_pay19, k0_pay20, k0_pay21, k0_pay22, k0_pay23]
  rw [log_eq]

/-- and the backward input. -/
theorem out11_apply (r f : Fin 512) : out0_11 i X P Q w b l W B (ix2 r f)
    = factor (logDecay (Ideal.logistic (k0_pay29 i X P Q w b l W B (ix2 r ⟨1024 + f.val, by omega⟩))) (l (ix3 0 1 f)))
      * Ideal.logistic (k0_pay29 i X P Q w b l W B (ix2 r ⟨1536 + f.val, by omega⟩)) * k0_pay28 i X P Q w b l W B (ix2 r f) := by
  unfold out0_11
  rw [View.canon_unit_zero hz2]
  unfold k0_pay33 k0_pay34 k0_pay35 k0_pay36 k0_pay37
  pointwise [k0_pay3, k0_pay1, k0_pay16, k0_pay17, k0_pay18, k0_pay19, k0_pay20, k0_pay21, k0_pay22, k0_pay23]
  rw [log_eq, factor_eq (logDecay_nonpos (logistic_nonneg _) _)]

/-! ### A block of tokens -/

/-- The convolved channels of the block's tokens, when its buffers hold a block of the column `x` and the eight rows before and after it. -/
theorem pay28_apply (t : Fin 96) (hi : (i 0).val = t.val) (r k : Fin 512) (x : Fin 49152 → EReal)
    (hX : ∀ y, X (ix2 y k) = x (row t y)) (hP : ∀ q : Fin 8, P (ix2 q k) = tok x ((64 * t.val - 1) * 8 + q.val))
    (hQ : ∀ q : Fin 8, Q (ix2 q k) = tok x (min (64 * (t.val + 1)) 6143 * 8 + q.val)) :
    k0_pay28 i X P Q w b l W B (ix2 r k) = short x (fun j => w (ix3 0 j k)) (b (ix3 0 0 k)) (row t r) := by
  unfold k0_pay28 k0_pay27 k0_pay26 k0_pay25 k0_pay24
  rw [View.ld_unit_zero (S := S512x512) hz2, View.ld_unit_zero (S := S8x512) hz2, View.ld_unit_zero (S := S8x512) hz2,
    View.ld_unit_zero (S := S1x1x512) hz3]
  pointwise [k0_pay7, k0_pay6, k0_pay5, k0_pay4]
  rw [hi, first_word t, last_word t, above_two x (fun y => X (ix2 y k)) (fun q => P (ix2 q k)) t hX hP r,
    above_one x (fun y => X (ix2 y k)) (fun q => P (ix2 q k)) t hX hP r,
    below_one x (fun y => X (ix2 y k)) (fun q => Q (ix2 q k)) t hX hQ r, hX]
  rfl

/-- A gate of the block: a column of the product, when the column holds one gate's block-diagonal weights. -/
theorem gate_eq (r f : Fin 512) (g : Fin 2048) (v : Fin 512 → EReal) (u : Fin 8 → Fin 64 → Fin 64 → EReal) (c : EReal)
    (hv : ∀ k, k0_pay28 i X P Q w b l W B (ix2 r k) = v k)
    (hW : ∀ k : Fin 512, W (ix3 0 k g) = u ⟨k.val / 64, by omega⟩ ⟨k.val % 64, by omega⟩ ⟨f.val % 64, by omega⟩
      * (if k.val / 64 = f.val / 64 then 1 else 0)) (hB : B (ix3 0 0 g) = c) :
    Ideal.logistic (k0_pay29 i X P Q w b l W B (ix2 r g)) = gate v u c f := by
  rw [pay29_apply, hB]
  simp only [hv, hW]
  rw [heads_sum v (fun h i => u h i ⟨f.val % 64, by omega⟩) ⟨f.val / 64, by omega⟩]
  rfl

end Cert.GatesIdeal.Block

end
-- ==== Proof.GatesArray.lean ====
module

public import proofs.«01_k».proof.Proof.GatesRow
public import proofs.«01_k».proof.Defs

/-! The RG-LRU's short convolution and gates: the weights side by side, the kernel's four whole result arrays, and the equation with the
reference. -/

@[expose] public section

set_option maxRecDepth 16384

noncomputable section

open Idealize.ShloMosaic Idealize.ShloMosaic.TcCoe Idealize.SL.Sem
open Idealize.ShloMosaic.Pipeline (Dat)

namespace Cert.GatesIdeal.Block

open Cert.GatesIdeal Cert.GatesIdeal.Gen Cert.Rows Cert.LruMath Cert.GatesMath Idealize.ShloMosaic.WordCmp
open Cert.GatesRefIdeal.Row (short gate decayOf inputOf column mixed gateAt decays inputs)

/-! ### The gates' weights side by side -/

/-- The heads' weights of one gate laid out along the diagonal of one matrix, for both layers. -/
def heads (y : FVec Ideal S2x1x8x64x64 .f32) : FVec Ideal S2x512x512 .f32 :=
  shapeCast S2x512x512 (mulf
    (broadcastInDim S2x8x64x8x64 ![0, 1, 2, 3, 4] bcast_S2x8x64x1x64_S2x8x64x8x64_0_1_2_3_4
      (broadcastInDim S2x8x64x1x64 ![0, 1, 2, 4] bcast_S2x8x64x64_S2x8x64x1x64_0_1_2_4 (shapeCast S2x8x64x64 y shapeCasts_S2x1x8x64x64_S2x8x64x64)))
    (broadcastInDim S2x8x64x8x64 ![0, 1, 2, 3, 4] bcast_S1x8x1x8x1_S2x8x64x8x64_0_1_2_3_4
      (broadcastInDim S1x8x1x8x1 ![1, 3] bcast_S8x8_S1x8x1x8x1_1_3
        (uitofp (F := Ideal) .f32 (cmpi .eq (addi (iotaInDim S8x8 32 0) (broadcastInDim S8x8 ![] bcast_S_S8x8 (constantI S_ 32 0#32))) (iotaInDim S8x8 32 1))))))
    shapeCasts_S2x8x64x8x64_S2x512x512

/-- The mask of the diagonal. -/
theorem diag (a b : ℕ) (ha : a < 8) (hb : b < 8) :
    FloatOps.uitofp (F := Ideal) .f32 (IntOp.cmpi .eq (IntOp.addi (BitVec.ofNat 32 a) 0#32) (BitVec.ofNat 32 b)) = if a = b then 1 else 0 := by
  rw [show IntOp.addi (BitVec.ofNat 32 a) 0#32 = BitVec.ofNat 32 a from BitVec.add_zero _, cmpi_eq_eq_toNat, BitVec.toNat_ofNat, BitVec.toNat_ofNat,
    Nat.mod_eq_of_lt (by omega), Nat.mod_eq_of_lt (by omega)]
  show (((BitVec.ofBool (decide (a = b))).toNat : ℝ) : EReal) = _
  by_cases h : a = b
  · simp [h]
  · simp [h]

theorem heads_apply (y : FVec Ideal S2x1x8x64x64 .f32) (k f : Fin 512) : heads y (ix3 0 k f)
    = y (ix5 0 0 ⟨k.val / 64, by omega⟩ ⟨k.val % 64, by omega⟩ ⟨f.val % 64, by omega⟩) * (if k.val / 64 = f.val / 64 then 1 else 0) := by
  pointwise [heads]
  rw [diag _ _ (by omega) (by omega)]

/-- Each gate's weights: the first and the second gate of the forward direction, then of the backward direction. -/
def parts (a b : FVec Ideal S2x2x8x64x64 .f32) : Fin 4 → FVec Ideal S2x1x8x64x64 .f32 :=
  ![extractStridedSlice S2x1x8x64x64 ![0, 0, 0, 0, 0] a slices_S2x2x8x64x64_S2x1x8x64x64_0_0_0_0_0,
    extractStridedSlice S2x1x8x64x64 ![0, 0, 0, 0, 0] b slices_S2x2x8x64x64_S2x1x8x64x64_0_0_0_0_0,
    extractStridedSlice S2x1x8x64x64 ![0, 1, 0, 0, 0] a slices_S2x2x8x64x64_S2x1x8x64x64_0_1_0_0_0,
    extractStridedSlice S2x1x8x64x64 ![0, 1, 0, 0, 0] b slices_S2x2x8x64x64_S2x1x8x64x64_0_1_0_0_0]

/-- Each gate's biases, in the same order. -/
def biases (a b : FVec Ideal S2x2x512 .f32) : Fin 4 → FVec Ideal S2x512 .f32 :=
  ![shapeCast S2x512 (extractStridedSlice S2x1x512 ![0, 0, 0] a slices_S2x2x512_S2x1x512_0_0_0) shapeCasts_S2x1x512_S2x512,
    shapeCast S2x512 (extractStridedSlice S2x1x512 ![0, 0, 0] b slices_S2x2x512_S2x1x512_0_0_0) shapeCasts_S2x1x512_S2x512,
    shapeCast S2x512 (extractStridedSlice S2x1x512 ![0, 1, 0] a slices_S2x2x512_S2x1x512_0_1_0) shapeCasts_S2x1x512_S2x512,
    shapeCast S2x512 (extractStridedSlice S2x1x512 ![0, 1, 0] b slices_S2x2x512_S2x1x512_0_1_0) shapeCasts_S2x1x512_S2x512]

/-- The four matrices side by side. -/
def allW (a b : FVec Ideal S2x2x8x64x64 .f32) : FVec Ideal S2x512x2048 .f32 :=
  concatenate S2x512x2048 2
    [⟨S2x512x512, heads (parts a b 0)⟩, ⟨S2x512x512, heads (parts a b 1)⟩, ⟨S2x512x512, heads (parts a b 2)⟩, ⟨S2x512x512, heads (parts a b 3)⟩]
    concatenates_S2x512x512_S2x512x512_S2x512x512_S2x512x512_S2x512x2048_d2

/-- The four biases side by side. -/
def allB (a b : FVec Ideal S2x2x512 .f32) : FVec Ideal S2x2048 .f32 :=
  concatenate S2x2048 1
    [⟨S2x512, biases a b 0⟩, ⟨S2x512, biases a b 1⟩, ⟨S2x512, biases a b 2⟩, ⟨S2x512, biases a b 3⟩]
    concatenates_S2x512_S2x512_S2x512_S2x512_S2x2048_d1

/-- Columns `1024 d + 512 s` and on hold gate `s` of direction `d`: its weights, -/
theorem allW_apply (a b : FVec Ideal S2x2x8x64x64 .f32) (s d : Fin 2) (k f : Fin 512) (q : Fin 2048) (hq : q.val = d.val * 1024 + s.val * 512 + f.val) :
    allW a b (ix3 0 k q) = (![a, b] s) (ix5 0 d ⟨k.val / 64, by omega⟩ ⟨k.val % 64, by omega⟩ ⟨f.val % 64, by omega⟩)
      * (if k.val / 64 = f.val / 64 then 1 else 0) := by
  have hp : d.val * 2 + s.val < 4 := by omega
  refine (concatenate_apply_piece (t := S2x512x2048) (2 : Fin 3)
    [⟨S2x512x512, heads (parts a b 0)⟩, ⟨S2x512x512, heads (parts a b 1)⟩, ⟨S2x512x512, heads (parts a b 2)⟩, ⟨S2x512x512, heads (parts a b 3)⟩] _ (ix3 0 k q) (d.val * 2 + s.val) hp S2x512x512 (heads (parts a b ⟨d.val * 2 + s.val, hp⟩))
    (by fin_cases s <;> fin_cases d <;> rfl) rfl ((d.val * 2 + s.val) * 512) (by fin_cases s <;> fin_cases d <;> rfl) (ix3 0 k f : S2x512x512.Idx)
    (fun x hx => ?_) ?_).trans ((heads_apply _ k f).trans ?_)
  · fin_cases x
    · rfl
    · rfl
    · exact absurd rfl hx
  · show (d.val * 2 + s.val) * 512 + f.val = q.val; omega
  · congr 1
    fin_cases s <;> fin_cases d
    all_goals
      dsimp only [parts, Matrix.cons_val]
      pointwise

/-- and its biases. -/
theorem allB_apply (a b : FVec Ideal S2x2x512 .f32) (s d : Fin 2) (f : Fin 512) (q : Fin 2048) (hq : q.val = d.val * 1024 + s.val * 512 + f.val) :
    allB a b (ix2 0 q) = (![a, b] s) (ix3 0 d f) := by
  have hp : d.val * 2 + s.val < 4 := by omega
  refine (concatenate_apply_piece (t := S2x2048) (1 : Fin 2)
    [⟨S2x512, biases a b 0⟩, ⟨S2x512, biases a b 1⟩, ⟨S2x512, biases a b 2⟩, ⟨S2x512, biases a b 3⟩] _ (ix2 0 q) (d.val * 2 + s.val) hp S2x512 (biases a b ⟨d.val * 2 + s.val, hp⟩)
    (by fin_cases s <;> fin_cases d <;> rfl) rfl ((d.val * 2 + s.val) * 512) (by fin_cases s <;> fin_cases d <;> rfl) (ix2 0 f : S2x512.Idx)
    (fun x hx => ?_) ?_).trans ?_
  · fin_cases x
    · rfl
    · exact absurd rfl hx
  · show (d.val * 2 + s.val) * 512 + f.val = q.val; omega
  · fin_cases s <;> fin_cases d
    all_goals
      dsimp only [biases, Matrix.cons_val]
      pointwise

variable (m : (ℓ : Loc nD τ sig) → Buf (Elt Ideal) ℓ) (c : Dev nD)

/-! ### The arrays the region finds -/

theorem V_v66 : V m c main_v66
    = broadcastInDim S2x1x512 ![0, 2] bcast_S2x512_S2x1x512_0_2 (m ((c : Thread nD τ).loc main_arg2)) := by
  show StableHlo.after hostOps0 (fun b => m (c, b)) main_v66 = _
  after_results

theorem V_v67 : V m c main_v67
    = (truncf (F := Ideal) .bf16 (allW (m ((c : Thread nD τ).loc main_arg4)) (m ((c : Thread nD τ).loc main_arg6))) bitsLt_bf16_f32 :
        FVec Ideal S2x512x2048 .bf16) := by
  show StableHlo.after hostOps0 (fun b => m (c, b)) main_v67 = _
  after_results
  dsimp only [Matrix.cons_val]
  after_results_loop
  rfl

theorem V_v68 : V m c main_v68
    = broadcastInDim S2x1x2048 ![0, 2] bcast_S2x2048_S2x1x2048_0_2
        (allB (m ((c : Thread nD τ).loc main_arg5)) (m ((c : Thread nD τ).loc main_arg7))) := by
  show StableHlo.after hostOps0 (fun b => m (c, b)) main_v68 = _
  after_results
  dsimp only [Matrix.cons_val]
  after_results_loop
  rfl

/-! ### The index maps, decided over the grid, and where each block lies in its array -/

/-- Which block of its array each window takes at each point: the block of tokens of the fourth 512 columns, the eight rows before it and the
    eight rows after it (the array's first and last where there are none), the first layer's weights, and the block of each result. -/
theorem idx : ∀ t : Fin cfg0.N, win0_0.index t = ![t.val, 3] ∧ win0_1.index t = ![64 * t.val - 1, 3]
    ∧ win0_2.index t = ![min (64 * (t.val + 1)) 6143, 3] ∧ win0_3.index t = ![0, 0, 0]
    ∧ win0_4.index t = ![0, 0, 0] ∧ win0_5.index t = ![0, 0, 0] ∧ win0_6.index t = ![0, 0, 0] ∧ win0_7.index t = ![0, 0, 0]
    ∧ win0_8.index t = ![t.val, 0] ∧ win0_9.index t = ![t.val, 0] ∧ win0_10.index t = ![t.val, 0] ∧ win0_11.index t = ![t.val, 0] :=
  (by decide +kernel : ∀ t : Fin grid0.N, _)

/-- The points of the grid are the blocks in order. -/
theorem coord : ∀ t : Fin cfg0.N, (grid0.coords t 0).val = t.val := (by decide +kernel : ∀ t : Fin grid0.N, _)

theorem emb0 (t : Fin cfg0.N) (r k : Fin 512) :
    ((cfg0.win 0).blk t).view.emb (ix2 r k) = (ix2 (row t r) ⟨1536 + k.val, by omega⟩ : S49152x2560.Idx) := by blk_ext [(idx t).1]

theorem emb3 (t : Fin cfg0.N) (j : Fin 4) (k : Fin 512) :
    ((cfg0.win 3).blk t).view.emb (ix3 0 j k) = (ix3 0 j k : S2x4x512.Idx) := by blk_ext [(idx t).2.2.2.1]

theorem emb4 (t : Fin cfg0.N) (k : Fin 512) :
    ((cfg0.win 4).blk t).view.emb (ix3 0 0 k) = (ix3 0 0 k : S2x1x512.Idx) := by blk_ext [(idx t).2.2.2.2.1]

theorem emb5 (t : Fin cfg0.N) (d : Fin 2) (k : Fin 512) :
    ((cfg0.win 5).blk t).view.emb (ix3 0 d k) = (ix3 0 d k : S2x2x512.Idx) := by blk_ext [(idx t).2.2.2.2.2.1]

theorem emb6 (t : Fin cfg0.N) (k : Fin 512) (q : Fin 2048) :
    ((cfg0.win 6).blk t).view.emb (ix3 0 k q) = (ix3 0 k q : S2x512x2048.Idx) := by blk_ext [(idx t).2.2.2.2.2.2.1]

theorem emb7 (t : Fin cfg0.N) (q : Fin 2048) :
    ((cfg0.win 7).blk t).view.emb (ix3 0 0 q) = (ix3 0 0 q : S2x1x2048.Idx) := by blk_ext [(idx t).2.2.2.2.2.2.2.1]

theorem emb8 (t : Fin cfg0.N) (r k : Fin 512) :
    ((cfg0.win 8).blk t).view.emb (ix2 r k) = (ix2 (row t r) k : S49152x512.Idx) := by blk_ext [(idx t).2.2.2.2.2.2.2.2.1]

theorem emb9 (t : Fin cfg0.N) (r k : Fin 512) :
    ((cfg0.win 9).blk t).view.emb (ix2 r k) = (ix2 (row t r) k : S49152x512.Idx) := by blk_ext [(idx t).2.2.2.2.2.2.2.2.2.1]

theorem emb10 (t : Fin cfg0.N) (r k : Fin 512) :
    ((cfg0.win 10).blk t).view.emb (ix2 r k) = (ix2 (row t r) k : S49152x512.Idx) := by blk_ext [(idx t).2.2.2.2.2.2.2.2.2.2.1]

theorem emb11 (t : Fin cfg0.N) (r k : Fin 512) :
    ((cfg0.win 11).blk t).view.emb (ix2 r k) = (ix2 (row t r) k : S49152x512.Idx) := by blk_ext [(idx t).2.2.2.2.2.2.2.2.2.2.2]

theorem emb1_val (t : Fin cfg0.N) (y : ((cfg0.win 1).xblock (grid0.coords t)).Idx) (a : Fin 2) :
    (((cfg0.win 1).blk t).view.emb y a : Nat) = win0_1.index t a * S8x512.size a + (y a : Nat) := by
  show ((win0_1.rect t).emb y a : Nat) = _
  rw [win0_1.rect_emb_val]

theorem emb2_val (t : Fin cfg0.N) (y : ((cfg0.win 2).xblock (grid0.coords t)).Idx) (a : Fin 2) :
    (((cfg0.win 2).blk t).view.emb y a : Nat) = win0_2.index t a * S8x512.size a + (y a : Nat) := by
  show ((win0_2.rect t).emb y a : Nat) = _
  rw [win0_2.rect_emb_val]

/-! ### The blocks, read off the arguments -/

/-- Channel `k` of the projection on device `c`. -/
abbrev col (k : Fin 512) : Fin 49152 → EReal := column (m ((c : Thread nD τ).loc main_arg0)) k

theorem x0_apply (t : Fin cfg0.N) (r k : Fin 512) : iblk m c 0 t (ix2 r k) = col m c k (row t r) := by
  show V m c main_arg0 (((cfg0.win 0).blk t).view.emb (ix2 r k)) = _
  rw [emb0, V_main_arg0]

theorem x1_apply (t : Fin cfg0.N) (q : Fin 8) (k : Fin 512) :
    iblk m c 1 t (ix2 q k) = tok (col m c k) ((64 * t.val - 1) * 8 + q.val) := by
  have ht : t.val < 96 := t.isLt
  show V m c main_arg0 (((cfg0.win 1).blk t).view.emb (ix2 q k)) = _
  rw [V_main_arg0]
  refine congrArg _ (funext fun a => Fin.ext ((emb1_val t _ a).trans ?_))
  fin_cases a
  · show win0_1.index t 0 * 8 + q.val = ((64 * t.val - 1) * 8 + q.val) % 49152; rw [(idx t).2.1]
    show (64 * t.val - 1) * 8 + q.val = _; omega
  · show win0_1.index t 1 * 512 + k.val = 1536 + k.val; rw [(idx t).2.1]; rfl

theorem x2_apply (t : Fin cfg0.N) (q : Fin 8) (k : Fin 512) :
    iblk m c 2 t (ix2 q k) = tok (col m c k) (min (64 * (t.val + 1)) 6143 * 8 + q.val) := by
  have ht : t.val < 96 := t.isLt
  show V m c main_arg0 (((cfg0.win 2).blk t).view.emb (ix2 q k)) = _
  rw [V_main_arg0]
  refine congrArg _ (funext fun a => Fin.ext ((emb2_val t _ a).trans ?_))
  fin_cases a
  · show win0_2.index t 0 * 8 + q.val = (min (64 * (t.val + 1)) 6143 * 8 + q.val) % 49152; rw [(idx t).2.2.1]
    show min (64 * (t.val + 1)) 6143 * 8 + q.val = _; omega
  · show win0_2.index t 1 * 512 + k.val = 1536 + k.val; rw [(idx t).2.2.1]; rfl

theorem iblk3_apply (t : Fin cfg0.N) (j : Fin 4) (k : Fin 512) :
    iblk m c 3 t (ix3 0 j k) = m ((c : Thread nD τ).loc main_arg1) (ix3 0 j k) := by
  show V m c main_arg1 (((cfg0.win 3).blk t).view.emb (ix3 0 j k)) = _
  rw [emb3, V_main_arg1]

theorem iblk4_apply (t : Fin cfg0.N) (k : Fin 512) :
    iblk m c 4 t (ix3 0 0 k) = m ((c : Thread nD τ).loc main_arg2) (ix2 0 k) := by
  show V m c main_v66 (((cfg0.win 4).blk t).view.emb (ix3 0 0 k)) = _
  rw [emb4, V_v66]
  pointwise

theorem iblk5_apply (t : Fin cfg0.N) (d : Fin 2) (k : Fin 512) :
    iblk m c 5 t (ix3 0 d k) = m ((c : Thread nD τ).loc main_arg3) (ix3 0 d k) := by
  show V m c main_arg3 (((cfg0.win 5).blk t).view.emb (ix3 0 d k)) = _
  rw [emb5, V_main_arg3]

theorem iblk6_apply (t : Fin cfg0.N) (k : Fin 512) (q : Fin 2048) :
    iblk m c 6 t (ix3 0 k q) = allW (m ((c : Thread nD τ).loc main_arg4)) (m ((c : Thread nD τ).loc main_arg6)) (ix3 0 k q) := by
  show V m c main_v67 (((cfg0.win 6).blk t).view.emb (ix3 0 k q)) = _
  rw [emb6, V_v67]
  rfl

theorem iblk7_apply (t : Fin cfg0.N) (q : Fin 2048) :
    iblk m c 7 t (ix3 0 0 q) = allB (m ((c : Thread nD τ).loc main_arg5)) (m ((c : Thread nD τ).loc main_arg7)) (ix2 0 q) := by
  show V m c main_v68 (((cfg0.win 7).blk t).view.emb (ix3 0 0 q)) = _
  rw [emb7, V_v68]
  generalize allB _ _ = G
  pointwise

/-! ### The result arrays -/

/-- The convolved channels of a block's tokens. -/
theorem mixed_eq (t : Fin cfg0.N) (r k : Fin 512) :
    k0_pay28 (grid0.coords t) (iblk m c 0 t) (iblk m c 1 t) (iblk m c 2 t) (iblk m c 3 t) (iblk m c 4 t) (iblk m c 5 t) (iblk m c 6 t) (iblk m c 7 t)
        (ix2 r k)
      = mixed (m ((c : Thread nD τ).loc main_arg0)) (m ((c : Thread nD τ).loc main_arg1)) (m ((c : Thread nD τ).loc main_arg2)) (row t r) k := by
  refine (pay28_apply (grid0.coords t) _ _ _ _ _ _ _ _ t (coord t) r k (col m c k) (fun y => x0_apply m c t y k) (fun q => x1_apply m c t q k)
    (fun q => x2_apply m c t q k)).trans ?_
  simp only [iblk3_apply, iblk4_apply]
  rfl

/-- Gate `s` of direction `d` of a block's tokens. -/
theorem gate_apply (t : Fin cfg0.N) (r f : Fin 512) (s d : Fin 2) (q : Fin 2048) (hq : q.val = d.val * 1024 + s.val * 512 + f.val) :
    Ideal.logistic (k0_pay29 (grid0.coords t) (iblk m c 0 t) (iblk m c 1 t) (iblk m c 2 t) (iblk m c 3 t) (iblk m c 4 t) (iblk m c 5 t)
        (iblk m c 6 t) (iblk m c 7 t) (ix2 r q))
      = gateAt (m ((c : Thread nD τ).loc main_arg0)) (m ((c : Thread nD τ).loc main_arg1)) (m ((c : Thread nD τ).loc main_arg2))
          (![m ((c : Thread nD τ).loc main_arg4), m ((c : Thread nD τ).loc main_arg6)] s)
          (![m ((c : Thread nD τ).loc main_arg5), m ((c : Thread nD τ).loc main_arg7)] s) d (row t r) f :=
  gate_eq (grid0.coords t) _ _ _ _ _ _ _ _ r f q _ _ _ (fun k => mixed_eq m c t r k)
    (fun k => (iblk6_apply m c t k q).trans (allW_apply _ _ s d k f q hq)) ((iblk7_apply m c t q).trans (allB_apply _ _ s d f q hq))

/-- The decays of direction `d` of the arguments on device `c`, -/
abbrev goalA (d : Fin 2) : FVec Ideal S49152x512 .f32 :=
  decays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) d

/-- and the scaled inputs. -/
abbrev goalB (d : Fin 2) : FVec Ideal S49152x512 .f32 :=
  inputs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) d

/-- What point `t` writes back is its block of that array: the forward decays, -/
theorem flushed8_eq (t : Fin cfg0.N) :
    (dats m 0 c).flushed 8 t = ((cfg0.win 8).blk t).view.read (Elt Ideal) (goalA m c 0) := by
  rw [Value.flushed8]
  funext y
  obtain ⟨r, f, rfl⟩ := exists_ix2 (a := 512) (b := 512) y
  refine (out8_apply (grid0.coords t) _ _ _ _ _ _ _ _ r f).trans ?_
  show _ = goalA m c 0 (((cfg0.win 8).blk t).view.emb (ix2 r f))
  rw [emb8, gate_apply m c t r f 0 0 _ (by show _ = 0 * 1024 + 0 * 512 + f.val; simp), iblk5_apply]
  rfl

/-- the forward inputs, -/
theorem flushed9_eq (t : Fin cfg0.N) :
    (dats m 0 c).flushed 9 t = ((cfg0.win 9).blk t).view.read (Elt Ideal) (goalB m c 0) := by
  rw [Value.flushed9]
  funext y
  obtain ⟨r, f, rfl⟩ := exists_ix2 (a := 512) (b := 512) y
  refine (out9_apply (grid0.coords t) _ _ _ _ _ _ _ _ r f).trans ?_
  show _ = goalB m c 0 (((cfg0.win 9).blk t).view.emb (ix2 r f))
  rw [emb9, gate_apply m c t r f 0 0 _ (by show _ = 0 * 1024 + 0 * 512 + f.val; simp),
    gate_apply m c t r f 1 0 _ (by show _ = 0 * 1024 + 1 * 512 + f.val; simp), mixed_eq, iblk5_apply]
  rfl

/-- the backward decays, -/
theorem flushed10_eq (t : Fin cfg0.N) :
    (dats m 0 c).flushed 10 t = ((cfg0.win 10).blk t).view.read (Elt Ideal) (goalA m c 1) := by
  rw [Value.flushed10]
  funext y
  obtain ⟨r, f, rfl⟩ := exists_ix2 (a := 512) (b := 512) y
  refine (out10_apply (grid0.coords t) _ _ _ _ _ _ _ _ r f).trans ?_
  show _ = goalA m c 1 (((cfg0.win 10).blk t).view.emb (ix2 r f))
  rw [emb10, gate_apply m c t r f 0 1 _ (by show _ = 1 * 1024 + 0 * 512 + f.val; simp), iblk5_apply]
  rfl

/-- and the backward inputs. -/
theorem flushed11_eq (t : Fin cfg0.N) :
    (dats m 0 c).flushed 11 t = ((cfg0.win 11).blk t).view.read (Elt Ideal) (goalB m c 1) := by
  rw [Value.flushed11]
  funext y
  obtain ⟨r, f, rfl⟩ := exists_ix2 (a := 512) (b := 512) y
  refine (out11_apply (grid0.coords t) _ _ _ _ _ _ _ _ r f).trans ?_
  show _ = goalB m c 1 (((cfg0.win 11).blk t).view.emb (ix2 r f))
  rw [emb11, gate_apply m c t r f 0 1 _ (by show _ = 1 * 1024 + 0 * 512 + f.val; simp),
    gate_apply m c t r f 1 1 _ (by show _ = 1 * 1024 + 1 * 512 + f.val; simp), mixed_eq, iblk5_apply]
  rfl

/-- The blocks cover each array. -/
theorem covers : (cfg0.win 8).Covers ∧ (cfg0.win 9).Covers ∧ (cfg0.win 10).Covers ∧ (cfg0.win 11).Covers :=
  ⟨by decide +kernel, by decide +kernel, by decide +kernel, by decide +kernel⟩

/-- After the run each result array is that array. -/
theorem final8 : (dats m 0 c).arrAt 8 cfg0.N = goalA m c 0 :=
  (dats m 0 c).arrAt_eq_of_cover 8 (goalA m c 0) (fun t _ => flushed8_eq m c t)
    (covers.1.cover _ (Memref.isWhole_whole _))

theorem final9 : (dats m 0 c).arrAt 9 cfg0.N = goalB m c 0 :=
  (dats m 0 c).arrAt_eq_of_cover 9 (goalB m c 0) (fun t _ => flushed9_eq m c t)
    (covers.2.1.cover _ (Memref.isWhole_whole _))

theorem final10 : (dats m 0 c).arrAt 10 cfg0.N = goalA m c 1 :=
  (dats m 0 c).arrAt_eq_of_cover 10 (goalA m c 1) (fun t _ => flushed10_eq m c t)
    (covers.2.2.1.cover _ (Memref.isWhole_whole _))

theorem final11 : (dats m 0 c).arrAt 11 cfg0.N = goalB m c 1 :=
  (dats m 0 c).arrAt_eq_of_cover 11 (goalB m c 1) (fun t _ => flushed11_eq m c t)
    (covers.2.2.2.cover _ (Memref.isWhole_whole _))

/-- Equal arguments give equal decays -/
theorem decays_congr {x0 y0 : FVec Ideal S49152x2560 .f32} {x1 y1 : FVec Ideal S2x4x512 .f32} {x2 y2 : FVec Ideal S2x512 .f32}
    {x3 y3 : FVec Ideal S2x2x512 .f32} {x4 y4 : FVec Ideal S2x2x8x64x64 .f32} {x5 y5 : FVec Ideal S2x2x512 .f32} {P : Prop} (d : Fin 2)
    (h : x0 = y0 ∧ x1 = y1 ∧ x2 = y2 ∧ x3 = y3 ∧ x4 = y4 ∧ x5 = y5 ∧ P) :
    decays x0 x1 x2 x3 x4 x5 d = decays y0 y1 y2 y3 y4 y5 d := by
  rw [h.1, h.2.1, h.2.2.1, h.2.2.2.1, h.2.2.2.2.1, h.2.2.2.2.2.1]

/-- and equal inputs. -/
theorem inputs_congr {x0 y0 : FVec Ideal S49152x2560 .f32} {x1 y1 : FVec Ideal S2x4x512 .f32} {x2 y2 : FVec Ideal S2x512 .f32}
    {x3 y3 : FVec Ideal S2x2x512 .f32} {x4 y4 x6 y6 : FVec Ideal S2x2x8x64x64 .f32} {x5 y5 x7 y7 : FVec Ideal S2x2x512 .f32} (d : Fin 2)
    (h : x0 = y0 ∧ x1 = y1 ∧ x2 = y2 ∧ x3 = y3 ∧ x4 = y4 ∧ x5 = y5 ∧ x6 = y6 ∧ x7 = y7) :
    inputs x0 x1 x2 x3 x4 x5 x6 x7 d = inputs y0 y1 y2 y3 y4 y5 y6 y7 d := by
  rw [h.1, h.2.1, h.2.2.1, h.2.2.2.1, h.2.2.2.2.1, h.2.2.2.2.2.1, h.2.2.2.2.2.2.1, h.2.2.2.2.2.2.2]

end Cert.GatesIdeal.Block

namespace Cert.GatesProof

open Cert.GatesIdeal.Block

/-- At the extended reals the kernel leaves in each of its four results what the reference computes, for all arguments. -/
theorem algebraic : Cert.algebraic_GatesIdeal_GatesRefIdeal := fun m g m' g' _ hag =>
  ⟨fun c => goalA m c 0, fun c => goalB m c 0, fun c => goalA m c 1, fun c => goalB m c 1,
    (θ_run _ _ _).mono (fun _ h c => ⟨(h c).1.trans (final8 m c), (h c).2.1.trans (final9 m c), (h c).2.2.1.trans (final10 m c),
      (h c).2.2.2.1.trans (final11 m c), (h c).2.2.2.2⟩) (Cert.GatesIdeal.Value.run_blocks m g),
    (θ_run _ _ _).mono (fun _ h c => ⟨
      (h c).1.trans (by rw [Cert.GatesRefIdeal.Read.val_main_v119_eq, Cert.GatesRefIdeal.Row.v119_eq]; exact decays_congr _ (hag c)),
      (h c).2.1.trans (by rw [Cert.GatesRefIdeal.Read.val_main_v121_eq, Cert.GatesRefIdeal.Row.v121_eq]; exact inputs_congr _ (hag c)),
      (h c).2.2.1.trans (by rw [Cert.GatesRefIdeal.Read.val_main_v168_eq, Cert.GatesRefIdeal.Row.v168_eq]; exact decays_congr _ (hag c)),
      (h c).2.2.2.1.trans (by rw [Cert.GatesRefIdeal.Read.val_main_v170_eq, Cert.GatesRefIdeal.Row.v170_eq]; exact inputs_congr _ (hag c)),
      (h c).2.2.2.2⟩)
      (Cert.GatesRefIdeal.Value.run m' g')⟩

/-- The reference runs to its end from any memory, leaves its arguments and every counter as they were. -/
theorem frame_ref : Cert.quiescent_GatesRefIdeal := fun m ρ _ =>
  (θ_run _ _ _).mono (fun r h => ⟨fun c => (h c).2.2.2.2, sem_eq_zero_of_no_sems (by decide) r.2⟩)
    (Cert.GatesRefIdeal.Value.run (F := Ideal) m ρ)

end Cert.GatesProof

end
-- ==== Proof.lean ====
module

public import proofs.«01_k».proof.Defs
public import proofs.«01_k».proof.Proof.Gen.Lru
public import proofs.«01_k».proof.Proof.Gen.Lru.Skeleton
public import proofs.«01_k».proof.Proof.Gen.Lru.Loops
public import proofs.«01_k».proof.Proof.Gen.Lru.Launch
public import proofs.«01_k».proof.Proof.Gen.Lru.Points
public import proofs.«01_k».proof.Proof.Gen.Lru.Frame
public import proofs.«01_k».proof.Proof.Gen.LruIdeal
public import proofs.«01_k».proof.Proof.Gen.LruIdeal.Skeleton
public import proofs.«01_k».proof.Proof.Gen.LruIdeal.Loops
public import proofs.«01_k».proof.Proof.Gen.LruIdeal.Launch
public import proofs.«01_k».proof.Proof.Gen.LruIdeal.Points
public import proofs.«01_k».proof.Proof.Gen.LruIdeal.Frame
public import proofs.«01_k».proof.Proof.Gen.LruRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.LruRefIdeal.Run
public import proofs.«01_k».proof.Proof.Gen.LruRefIdeal.Step
public import proofs.«01_k».proof.Proof.Gen.ProjEven
public import proofs.«01_k».proof.Proof.Gen.ProjEven.Skeleton
public import proofs.«01_k».proof.Proof.Gen.ProjEven.Launch
public import proofs.«01_k».proof.Proof.Gen.ProjEven.Points
public import proofs.«01_k».proof.Proof.Gen.ProjEven.Frame
public import proofs.«01_k».proof.Proof.Gen.ProjEvenIdeal
public import proofs.«01_k».proof.Proof.Gen.ProjEvenIdeal.Skeleton
public import proofs.«01_k».proof.Proof.Gen.ProjEvenIdeal.Launch
public import proofs.«01_k».proof.Proof.Gen.ProjEvenIdeal.Points
public import proofs.«01_k».proof.Proof.Gen.ProjEvenIdeal.Frame
public import proofs.«01_k».proof.Proof.Gen.ProjEvenIdeal.Value
public import proofs.«01_k».proof.Proof.Gen.ProjEvenRefIdeal
public import proofs.«01_k».proof.Proof.Gen.ProjEvenRefIdeal.Run
public import proofs.«01_k».proof.Proof.Gen.ProjEvenRefIdeal.Read
public import proofs.«01_k».proof.Proof.Gen.ProjOdd
public import proofs.«01_k».proof.Proof.Gen.ProjOdd.Skeleton
public import proofs.«01_k».proof.Proof.Gen.ProjOdd.Launch
public import proofs.«01_k».proof.Proof.Gen.ProjOdd.Points
public import proofs.«01_k».proof.Proof.Gen.ProjOdd.Frame
public import proofs.«01_k».proof.Proof.Gen.ProjOddIdeal
public import proofs.«01_k».proof.Proof.Gen.ProjOddIdeal.Skeleton
public import proofs.«01_k».proof.Proof.Gen.ProjOddIdeal.Launch
public import proofs.«01_k».proof.Proof.Gen.ProjOddIdeal.Points
public import proofs.«01_k».proof.Proof.Gen.ProjOddIdeal.Frame
public import proofs.«01_k».proof.Proof.Gen.ProjOddIdeal.Value
public import proofs.«01_k».proof.Proof.Gen.ProjOddRefIdeal
public import proofs.«01_k».proof.Proof.Gen.ProjOddRefIdeal.Run
public import proofs.«01_k».proof.Proof.Gen.ProjOddRefIdeal.Read
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.OutEvenIdeal.Value
public import proofs.«01_k».proof.Proof.Gen.OutEvenRefIdeal
public import proofs.«01_k».proof.Proof.Gen.OutEvenRefIdeal.Run
public import proofs.«01_k».proof.Proof.Gen.OutEvenRefIdeal.Read
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.OutOddIdeal.Value
public import proofs.«01_k».proof.Proof.Gen.OutOddRefIdeal
public import proofs.«01_k».proof.Proof.Gen.OutOddRefIdeal.Run
public import proofs.«01_k».proof.Proof.Gen.OutOddRefIdeal.Read
public import proofs.«01_k».proof.Proof.Gen.SFive
public import proofs.«01_k».proof.Proof.Gen.SFive.Skeleton
public import proofs.«01_k».proof.Proof.Gen.SFive.Launch
public import proofs.«01_k».proof.Proof.Gen.SFive.Points
public import proofs.«01_k».proof.Proof.Gen.SFive.Frame
public import proofs.«01_k».proof.Proof.Gen.SFiveIdeal
public import proofs.«01_k».proof.Proof.Gen.SFiveIdeal.Skeleton
public import proofs.«01_k».proof.Proof.Gen.SFiveIdeal.Launch
public import proofs.«01_k».proof.Proof.Gen.SFiveIdeal.Points
public import proofs.«01_k».proof.Proof.Gen.SFiveIdeal.Frame
public import proofs.«01_k».proof.Proof.Gen.SFiveIdeal.Value
public import proofs.«01_k».proof.Proof.Gen.SFiveRefIdeal
public import proofs.«01_k».proof.Proof.Gen.SFiveRefIdeal.Run
public import proofs.«01_k».proof.Proof.Gen.SFiveRefIdeal.Read
public import proofs.«01_k».proof.Proof.Gen.Norm
public import proofs.«01_k».proof.Proof.Gen.HyConv
public import proofs.«01_k».proof.Proof.Gen.Gates
public import proofs.«01_k».proof.Proof.Gen.Norm.Skeleton
public import proofs.«01_k».proof.Proof.Gen.HyConv.Skeleton
public import proofs.«01_k».proof.Proof.Gen.Gates.Skeleton
public import proofs.«01_k».proof.Proof.Gen.Norm.Launch
public import proofs.«01_k».proof.Proof.Gen.HyConv.Launch
public import proofs.«01_k».proof.Proof.Gen.Gates.Launch
public import proofs.«01_k».proof.Proof.Gen.Norm.Points
public import proofs.«01_k».proof.Proof.Gen.HyConv.Points
public import proofs.«01_k».proof.Proof.Gen.Gates.Points
public import proofs.«01_k».proof.Proof.Gen.Norm.Frame
public import proofs.«01_k».proof.Proof.Gen.HyConv.Frame
public import proofs.«01_k».proof.Proof.Gen.Gates.Frame
public import proofs.«01_k».proof.Proof.Gen.NormIdeal
public import proofs.«01_k».proof.Proof.Gen.HyConvIdeal
public import proofs.«01_k».proof.Proof.Gen.GatesIdeal
public import proofs.«01_k».proof.Proof.Gen.NormIdeal.Skeleton
public import proofs.«01_k».proof.Proof.Gen.HyConvIdeal.Skeleton
public import proofs.«01_k».proof.Proof.Gen.GatesIdeal.Skeleton
public import proofs.«01_k».proof.Proof.Gen.NormIdeal.Launch
public import proofs.«01_k».proof.Proof.Gen.HyConvIdeal.Launch
public import proofs.«01_k».proof.Proof.Gen.GatesIdeal.Launch
public import proofs.«01_k».proof.Proof.Gen.NormIdeal.Points
public import proofs.«01_k».proof.Proof.Gen.HyConvIdeal.Points
public import proofs.«01_k».proof.Proof.Gen.GatesIdeal.Points
public import proofs.«01_k».proof.Proof.Gen.NormIdeal.Frame
public import proofs.«01_k».proof.Proof.Gen.HyConvIdeal.Frame
public import proofs.«01_k».proof.Proof.Gen.HyConvIdeal.Value
public import proofs.«01_k».proof.Proof.Gen.GatesIdeal.Frame
public import proofs.«01_k».proof.Proof.Gen.GatesIdeal.Value
public import proofs.«01_k».proof.Proof.Gen.NormRefIdeal
public import proofs.«01_k».proof.Proof.Gen.HyConvRefIdeal
public import proofs.«01_k».proof.Proof.Gen.GatesRefIdeal
public import proofs.«01_k».proof.Proof.Gen.NormRefIdeal.Run
public import proofs.«01_k».proof.Proof.Gen.HyConvRefIdeal.Run
public import proofs.«01_k».proof.Proof.Gen.GatesRefIdeal.Run
public import proofs.«01_k».proof.Proof.Gen.NormRefIdeal.Read
public import proofs.«01_k».proof.Proof.Gen.HyConvRefIdeal.Read
public import proofs.«01_k».proof.Proof.Gen.GatesRefIdeal.Read
public import proofs.«01_k».proof.Proof.Gen.Pre_decays
public import proofs.«01_k».proof.Proof.FfnArray
public import proofs.«01_k».proof.Proof.LruArray
public import proofs.«01_k».proof.Proof.LruWords
public import proofs.«01_k».proof.Proof.ProjEvenArray
public import proofs.«01_k».proof.Proof.ProjOddArray
public import proofs.«01_k».proof.Proof.OutEvenArray
public import proofs.«01_k».proof.Proof.OutOddArray
public import proofs.«01_k».proof.Proof.SFiveArray
public import proofs.«01_k».proof.Proof.NormArray
public import proofs.«01_k».proof.Proof.HyConvArray
public import proofs.«01_k».proof.Proof.GatesArray
public import Idealize.ShloMosaic.Adequacy
public import Idealize.ShloMosaic.Init

@[expose] public section

noncomputable section

namespace Cert.Proof

open Idealize.ShloMosaic Idealize.SL.Sem Cert.Lru

/-- Every claim of every program. -/
theorem claim : Cert.Claim := ⟨Cert.Lru.Gen.facts, Cert.LruIdeal.Gen.facts, Cert.LruRefIdeal.Gen.facts, Cert.Ffn.Gen.facts, Cert.FfnIdeal.Gen.facts, Cert.FfnRefIdeal.Gen.facts, Cert.ProjEven.Gen.facts, Cert.ProjEvenIdeal.Gen.facts, Cert.ProjEvenRefIdeal.Gen.facts, Cert.ProjOdd.Gen.facts, Cert.ProjOddIdeal.Gen.facts, Cert.ProjOddRefIdeal.Gen.facts, Cert.OutEven.Gen.facts, Cert.OutEvenIdeal.Gen.facts, Cert.OutEvenRefIdeal.Gen.facts, Cert.OutOdd.Gen.facts, Cert.OutOddIdeal.Gen.facts, Cert.OutOddRefIdeal.Gen.facts, Cert.SFive.Gen.facts, Cert.SFiveIdeal.Gen.facts, Cert.SFiveRefIdeal.Gen.facts, Cert.Norm.Gen.facts, Cert.NormIdeal.Gen.facts, Cert.NormRefIdeal.Gen.facts, Cert.HyConv.Gen.facts, Cert.HyConvIdeal.Gen.facts, Cert.HyConvRefIdeal.Gen.facts, Cert.Gates.Gen.facts, Cert.GatesIdeal.Gen.facts, Cert.GatesRefIdeal.Gen.facts, Cert.Pre_decays.Gen.facts,
  Cert.LruProof.frame_words, fun m ρ _ => Cert.LruIdeal.Scan.frame_all m ρ, fun m ρ _ => Cert.LruIdeal.Scan.frame_all m ρ,
  fun m ρ _ => Cert.LruProof.ref_frame m ρ, fun m ρ _ => Cert.LruProof.ref_frame m ρ,
  fun m ρ _ => Cert.Ffn.Gen.frame m ρ, fun m ρ _ => Cert.FfnIdeal.Gen.frame m ρ, Cert.FfnProof.frame_ref,
  fun m ρ _ => Cert.ProjEven.Gen.frame m ρ, fun m ρ _ => Cert.ProjEvenIdeal.Gen.frame m ρ, Cert.ProjEvenProof.frame_ref,
  fun m ρ _ => Cert.ProjOdd.Gen.frame m ρ, fun m ρ _ => Cert.ProjOddIdeal.Gen.frame m ρ, Cert.ProjOddProof.frame_ref,
  fun m ρ _ => Cert.OutEven.Gen.frame m ρ, fun m ρ _ => Cert.OutEvenIdeal.Gen.frame m ρ, Cert.OutEvenProof.frame_ref,
  fun m ρ _ => Cert.OutOdd.Gen.frame m ρ, fun m ρ _ => Cert.OutOddIdeal.Gen.frame m ρ, Cert.OutOddProof.frame_ref,
  fun m ρ _ => Cert.SFive.Gen.frame m ρ, fun m ρ _ => Cert.SFiveIdeal.Gen.frame m ρ, Cert.SFiveProof.frame_ref,
  fun m ρ _ => Cert.Norm.Gen.frame m ρ, fun m ρ _ => Cert.NormIdeal.Gen.frame m ρ, Cert.NormProof.frame_ref,
  fun m ρ _ => Cert.HyConv.Gen.frame m ρ, fun m ρ _ => Cert.HyConvIdeal.Gen.frame m ρ, Cert.HyConvProof.frame_ref,
  fun m ρ _ => Cert.Gates.Gen.frame m ρ, fun m ρ _ => Cert.GatesIdeal.Gen.frame m ρ, Cert.GatesProof.frame_ref,
  trivial, Cert.LruProof.algebraic,
  trivial, Cert.FfnProof.algebraic,
  trivial, Cert.ProjEvenProof.algebraic,
  trivial, Cert.ProjOddProof.algebraic,
  trivial, Cert.OutEvenProof.algebraic,
  trivial, Cert.OutOddProof.algebraic,
  trivial, Cert.SFiveProof.algebraic,
  trivial, Cert.NormProof.algebraic,
  trivial, Cert.HyConvProof.algebraic,
  trivial, Cert.GatesProof.algebraic⟩

end Cert.Proof

end
